-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "scale_log2e" .f32 0x3E38AA3B#32 (((1 / 8) * (Real.log 2)⁻¹ : ℝ) : EReal)

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![16, 128, 512]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 512]⟩ ⟨2, ![512, 4096]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![512, 512]⟩ ⟨2, ![4096, 512]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = Layout.block ⟨3, ![2, 128, 512]⟩ ⟨3, ![16, 128, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v30) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x128x512 : Shape := ⟨3, ![2, 128, 512]⟩
abbrev S512x512 : Shape := ⟨2, ![512, 512]⟩
abbrev S16x128x64x64 : Shape := ⟨4, ![16, 128, 64, 64]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S16x128x64x64 : S_.BroadcastsInDim S16x128x64x64 (![] : Fin 0 → Fin S16x128x64x64.rank)
  reducesTo_S16x128x64x64_S_d0_1_2_3 : S16x128x64x64.ReducesTo [0, 1, 2, 3] S_

variable [Facts]

def fn {F : FTy → Type} [FloatOps F] (main_arg0 : FVec F S2x128x512 .f32) (main_arg1 : FVec F S512x512 .f32) (main_arg2 : FVec F S16x128x64x64 .f32) (main_arg3 : FVec F S16x128x64x64 .f32) (main_arg4 : FVec F S512x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S16x128x64x64 .f32 := Host.absf main_arg2
  let main_cst_2 : FVec F S_ .f32 := constant S_ .f32 0x7F800000#32
  let main_v10 : FVec F S16x128x64x64 .f32 := broadcastInDim S16x128x64x64 ![] bcast_S_S16x128x64x64 main_cst_2
  let main_v11 : IVec S16x128x64x64 1 := cmpf .olt main_v9 main_v10
  let main_c_3 : IVec S_ 1 := constantI S_ 1 1#1
  let main_v12 : IVec S_ 1 := (fun x v => Host.reduce IntOp.andi x v reducesTo_S16x128x64x64_S_d0_1_2_3 h_S_) main_v11 main_c_3
  let main_v13 : IVec S_ 1 := andi main_v8 main_v12
  main_v13
-- ==== Pre_finite_scores_ReferenceIdeal.lean ====
abbrev S16x128x512 : Shape := ⟨3, ![16, 128, 512]⟩
abbrev S512x4096 : Shape := ⟨2, ![512, 4096]⟩
abbrev S16x128x64x64 : Shape := ⟨4, ![16, 128, 64, 64]⟩
abbrev S4096x512 : Shape := ⟨2, ![4096, 512]⟩
abbrev S_ : Shape := ⟨0, ![]⟩

class Facts : Prop where
  bcast_S_S16x128x512 : S_.BroadcastsInDim S16x128x512 (![] : Fin 0 → Fin S16x128x512.rank)
  reducesTo_S16x128x512_S_d0_1_2 : S16x128x512.ReducesTo [0, 1, 2] S_
  h_S_ : 0 < S_.numel
  bcast_S_S512x4096 : S_.BroadcastsInDim S512x4096 (![] : Fin 0 → Fin S512x4096.rank)
  reducesTo_S512x4096_S_d0_1 : S512x4096.ReducesTo [0, 1] S_
  bcast_S_S16x128x64x64 : S_.BroadcastsInDim S16x128x64x64 (![] : Fin 0 → Fin S16x128x64x64.rank)
  reducesTo_S16x128x64x64_S_d0_1_2_3 : S16x128x64x64.ReducesTo [0, 1, 2, 3] S_

variable [Facts]

def fn {F : FTy → Type} [FloatOps F] (main_arg0 : FVec F S16x128x512 .f32) (main_arg1 : FVec F S512x4096 .f32) (main_arg2 : FVec F S16x128x64x64 .f32) (main_arg3 : FVec F S16x128x64x64 .f32) (main_arg4 : FVec F S4096x512 .f32) : IVec S_ 1 :=
  let main_v0 : FVec F S16x128x512 .f32 := Host.absf main_arg0
  let main_cst : FVec F S_ .f32 := constant S_ .f32 0x7F800000#32
  let main_v1 : FVec F S16x128x512 .f32 := broadcastInDim S16x128x512 ![] bcast_S_S16x128x512 main_cst
  let main_v2 : IVec S16x128x512 1 := cmpf .olt main_v0 main_v1
  let main_c : IVec S_ 1 := constantI S_ 1 1#1
  let main_v3 : IVec S_ 1 := (fun x v => Host.reduce IntOp.andi x v reducesTo_S16x128x512_S_d0_1_2 h_S_) main_v2 main_c
  let main_v4 : FVec F S512x4096 .f32 := Host.absf main_arg1
  let main_cst_0 : FVec F S_ .f32 := constant S_ .f32 0x7F800000#32
  let main_v5 : FVec F S512x4096 .f32 := broadcastInDim S512x4096 ![] bcast_S_S512x4096 main_cst_0
  let main_v6 : IVec S512x4096 1 := cmpf .olt main_v4 main_v5
  let main_c_1 : IVec S_ 1 := constantI S_ 1 1#1
  let main_v7 : IVec S_ 1 := (fun x v => Host.reduce IntOp.andi x v reducesTo_S512x4096_S_d0_1 h_S_) main_v6 main_c_1
  let main_v8 : IVec S_ 1 := andi main_v3 main_v7
  let main_v9 : FVec F S16x128x64x64 .f32 := Host.absf main_arg2
  let main_cst_2 : FVec F S_ .f32 := constant S_ .f32 0x7F800000#32
  let main_v10 : FVec F S16x128x64x64 .f32 := broadcastInDim S16x128x64x64 ![] bcast_S_S16x128x64x64 main_cst_2
  let main_v11 : IVec S16x128x64x64 1 := cmpf .olt main_v9 main_v10
  let main_c_3 : IVec S_ 1 := constantI S_ 1 1#1
  let main_v12 : IVec S_ 1 := (fun x v => Host.reduce IntOp.andi x v reducesTo_S16x128x64x64_S_d0_1_2_3 h_S_) main_v11 main_c_3
  let main_v13 : IVec S_ 1 := andi main_v8 main_v12
  main_v13
-- ==== Kernel.lean ====
abbrev S2x128x512 : Shape := ⟨3, ![2, 128, 512]⟩
abbrev S512x512 : Shape := ⟨2, ![512, 512]⟩
abbrev S16x128x64x64 : Shape := ⟨4, ![16, 128, 64, 64]⟩
abbrev S_ : Shape := ⟨0, ![]⟩
abbrev S16x128x8x64 : Shape := ⟨4, ![16, 128, 8, 64]⟩
abbrev S16x128x512 : Shape := ⟨3, ![16, 128, 512]⟩
abbrev S2 : Shape := ⟨1, ![2]⟩
abbrev S8x1x128x512 : Shape := ⟨4, ![8, 1, 128, 512]⟩
abbrev S1x128x512 : Shape := ⟨3, ![1, 128, 512]⟩
abbrev S8 : Shape := ⟨1, ![8]⟩
abbrev S256x512 : Shape := ⟨2, ![256, 512]⟩
abbrev S1 : Shape := ⟨1, ![1]⟩
abbrev S1x1x128x512 : Shape := ⟨4, ![1, 1, 128, 512]⟩
abbrev S128x512 : Shape := ⟨2, ![128, 512]⟩
abbrev S128x64 : Shape := ⟨2, ![128, 64]⟩
abbrev S1x128x64 : Shape := ⟨3, ![1, 128, 64]⟩
abbrev S128x128 : Shape := ⟨2, ![128, 128]⟩
abbrev S128 : Shape := ⟨1, ![128]⟩
abbrev S128x1 : Shape := ⟨2, ![128, 1]⟩

abbrev nBuf : Space → Nat
  | .hbm => 36
  | .vmem => 15
  | .smem => 0
  | _ => 0

abbrev bufTy : (tb : Table) → Fin (tcTables nBuf tb) → BufTy
  | .hbm, ⟨0, _⟩ => ⟨S2x128x512, .f32⟩
  | .hbm, ⟨1, _⟩ => ⟨S512x512, .f32⟩
  | .hbm, ⟨2, _⟩ => ⟨S16x128x64x64, .f32⟩
  | .hbm, ⟨3, _⟩ => ⟨S16x128x64x64, .f32⟩
  | .hbm, ⟨4, _⟩ => ⟨S512x512, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S16x128x8x64, .f32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S16x128x8x64, .f32⟩
  | .hbm, ⟨33, _⟩ => ⟨S16x128x512, .f32⟩
  | .hbm, ⟨34, _⟩ => ⟨S16x128x512, .f32⟩
  | .hbm, ⟨35, _⟩ => ⟨S2x128x512, .f32⟩
  | .local _ .vmem, ⟨0, _⟩ => ⟨S2x128x512, .f32⟩
  | .local _ .vmem, ⟨1, _⟩ => ⟨S512x512, .f32⟩
  | .local _ .vmem, ⟨2, _⟩ => ⟨S512x512, .f32⟩
  | .local _ .vmem, ⟨3, _⟩ => ⟨S2x128x512, .f32⟩
  | .local _ .vmem, ⟨4, _⟩ => ⟨S16x128x512, .f32⟩
  | .local _ .vmem, ⟨5, _⟩ => ⟨S16x128x512, .f32⟩
  | .local _ .vmem, ⟨6, _⟩ => ⟨S8x1x128x512, .bf16⟩
  | .local _ .vmem, ⟨7, _⟩ => ⟨S8x1x128x512, .bf16⟩
  | .local _ .vmem, ⟨8, _⟩ => ⟨S8x1x128x512, .bf16⟩
  | .local _ .vmem, ⟨9, _⟩ => ⟨S8x1x128x512, .bf16⟩
  | .local _ .vmem, ⟨10, _⟩ => ⟨S8x1x128x512, .bf16⟩
  | .local _ .vmem, ⟨11, _⟩ => ⟨S8x1x128x512, .bf16⟩
  | .local _ .vmem, ⟨12, _⟩ => ⟨S1x128x512, .bf16⟩
  | .local _ .vmem, ⟨13, _⟩ => ⟨S1x128x512, .bf16⟩
  | .local _ .vmem, ⟨14, _⟩ => ⟨S256x512, .f32⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 2 → Bool
  | ⟨0, _⟩ => false
  | ⟨1, _⟩ => true
  | _ => false

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  (ofTc nBuf bufTy 2 72 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_c_7 : Ref sig .tc := ⟨.hbm, 22, rfl⟩
abbrev main_v10 : Ref sig .tc := ⟨.hbm, 23, rfl⟩
abbrev main_c_8 : Ref sig .tc := ⟨.hbm, 24, rfl⟩
abbrev main_v11 : Ref sig .tc := ⟨.hbm, 25, rfl⟩
abbrev main_c_9 : Ref sig .tc := ⟨.hbm, 26, rfl⟩
abbrev main_v12 : Ref sig .tc := ⟨.hbm, 27, rfl⟩
abbrev main_v13 : Ref sig .tc := ⟨.hbm, 28, rfl⟩
abbrev main_c_10 : Ref sig .tc := ⟨.hbm, 29, rfl⟩
abbrev main_c_11 : Ref sig .tc := ⟨.hbm, 30, rfl⟩
abbrev main_c_12 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_scratch21 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_7 : BitVec 32 := 1#32
  let v13 : BitVec 32 := Scalar.muli v7 c1_i32_7
  let v14 : BitVec 32 := Scalar.addi c0_i32_8 v13
  v14.toNat
def k0_dev2 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_10 : BitVec 32 := 1#32
  let v15 : BitVec 32 := Scalar.muli v4 c1_i32_10
  let v16 : BitVec 32 := Scalar.addi c0_i32_11 v15
  v16.toNat
@[reducible] def k0_t1_loop : Scf.Loop 32 :=
  let c0_i32_35 : BitVec 32 := 0#32
  let c8_i32_36 : BitVec 32 := 8#32
  let v41 : BitVec 32 := Scalar.addi c0_i32_35 c8_i32_36
  let c1_i32_37 : BitVec 32 := 1#32
  ⟨c0_i32_35, v41, c1_i32_37⟩
def k0_cond1 (k0_t1 : Fin k0_t1_loop.trips) : BitVec 1 :=
  let c0_i32_35 : BitVec 32 := 0#32
  let c1_i32_37 : BitVec 32 := 1#32
  let arg28 : BitVec 32 := Scf.iv c0_i32_35 c1_i32_37 k0_t1
  let c0_i32_380 : BitVec 32 := 0#32
  let v232 : BitVec 1 := Scalar.cmpi .sgt arg28 c0_i32_380
  let v233 : BitVec 32 := Scalar.extui v232
  let c0_i32_381 : BitVec 32 := 0#32
  let v234 : BitVec 1 := Scalar.cmpi .ne v233 c0_i32_381
  v234

def k0_off1 (k0_t1 : Fin k0_t1_loop.trips) : Fin 1 → Nat :=
  let c0_i32_35 : BitVec 32 := 0#32
  let c1_i32_37 : BitVec 32 := 1#32
  let arg28 : BitVec 32 := Scf.iv c0_i32_35 c1_i32_37 k0_t1
  ![arg28.toNat]
def k0_off2 (k0_t1 : Fin k0_t1_loop.trips) : Fin 4 → Nat :=
  let c0_i32_35 : BitVec 32 := 0#32
  let c1_i32_37 : BitVec 32 := 1#32
  let arg28 : BitVec 32 := Scf.iv c0_i32_35 c1_i32_37 k0_t1
  let c0_i32_572 : BitVec 32 := 0#32
  let c0_i32_573 : BitVec 32 := 0#32
  let c0_i32_574 : BitVec 32 := 0#32
  ![arg28.toNat, 0, 0, 0]
def k0_cond2 (k0_t1 : Fin k0_t1_loop.trips) : BitVec 1 :=
  let c0_i32_35 : BitVec 32 := 0#32
  let c1_i32_37 : BitVec 32 := 1#32
  let arg28 : BitVec 32 := Scf.iv c0_i32_35 c1_i32_37 k0_t1
  let c7_i32_382 : BitVec 32 := 7#32
  let v235 : BitVec 1 := Scalar.cmpi .slt arg28 c7_i32_382
  let v236 : BitVec 32 := Scalar.extui v235
  let c0_i32_383 : BitVec 32 := 0#32
  let v237 : BitVec 1 := Scalar.cmpi .ne v236 c0_i32_383
  v237

def k0_off3 (k0_t1 : Fin k0_t1_loop.trips) : Fin 1 → Nat :=
  let c0_i32_35 : BitVec 32 := 0#32
  let c1_i32_37 : BitVec 32 := 1#32
  let arg28 : BitVec 32 := Scf.iv c0_i32_35 c1_i32_37 k0_t1
  ![arg28.toNat]
def k0_off4 (k0_t1 : Fin k0_t1_loop.trips) : Fin 1 → Nat :=
  let c0_i32_35 : BitVec 32 := 0#32
  let c1_i32_37 : BitVec 32 := 1#32
  let arg28 : BitVec 32 := Scf.iv c0_i32_35 c1_i32_37 k0_t1
  let c1_i32_571 : BitVec 32 := 1#32
  let v587 : BitVec 32 := Scalar.addi arg28 c1_i32_571
  ![v587.toNat]
def k0_off5 (k0_t1 : Fin k0_t1_loop.trips) : Fin 4 → Nat :=
  let c0_i32_35 : BitVec 32 := 0#32
  let c1_i32_37 : BitVec 32 := 1#32
  let arg28 : BitVec 32 := Scf.iv c0_i32_35 c1_i32_37 k0_t1
  let c1_i32_570 : BitVec 32 := 1#32
  let v586 : BitVec 32 := Scalar.addi arg28 c1_i32_570
  let c0_i32_574 : BitVec 32 := 0#32
  let c0_i32_575 : BitVec 32 := 0#32
  let c0_i32_576 : BitVec 32 := 0#32
  ![v586.toNat, 0, 0, 0]
def k0_off6 (k0_t1 : Fin k0_t1_loop.trips) : Fin 4 → Nat :=
  let c0_i32_35 : BitVec 32 := 0#32
  let c1_i32_37 : BitVec 32 := 1#32
  let arg28 : BitVec 32 := Scf.iv c0_i32_35 c1_i32_37 k0_t1
  let c0_i32_577 : BitVec 32 := 0#32
  let c0_i32_578 : BitVec 32 := 0#32
  let c0_i32_579 : BitVec 32 := 0#32
  ![arg28.toNat, 0, 0, 0]
def k0_dev3 (d0 : Dev nD) : Nat :=
  let c0_i32_573 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_572 : BitVec 32 := 1#32
  let v588 : BitVec 32 := Scalar.muli v4 c1_i32_572
  let v589 : BitVec 32 := Scalar.addi c0_i32_573 v588
  v589.toNat
def k0_dev4 (d0 : Dev nD) : Nat :=
  let c0_i32_583 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_582 : BitVec 32 := 1#32
  let v600 : BitVec 32 := Scalar.muli v7 c1_i32_582
  let v601 : BitVec 32 := Scalar.addi c0_i32_583 v600
  v601.toNat
def k0_off7 (k0_t1 : Fin k0_t1_loop.trips) : Fin 4 → Nat :=
  let c0_i32_35 : BitVec 32 := 0#32
  let c1_i32_37 : BitVec 32 := 1#32
  let arg28 : BitVec 32 := Scf.iv c0_i32_35 c1_i32_37 k0_t1
  let v243 : Index := Scalar.indexCast arg28
  let c0_387 : Index := 0#32
  let c0_388 : Index := 0#32
  let c0_389 : Index := 0#32
  ![v243.toNat, 0, 0, 0]
def k0_off8 (d0 : Dev nD) (k0_t1 : Fin k0_t1_loop.trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_35 : BitVec 32 := 0#32
  let c1_i32_37 : BitVec 32 := 1#32
  let arg28 : BitVec 32 := Scf.iv c0_i32_35 c1_i32_37 k0_t1
  let v238 : BitVec 32 := Scalar.subi v2 arg28
  let c8_i32_384 : BitVec 32 := 8#32
  let v239 : BitVec 32 := Scalar.addi v238 c8_i32_384
  let c8_i32_385 : BitVec 32 := 8#32
  let v240 : BitVec 32 := Scalar.remsi v239 c8_i32_385
  let c2_i32_390 : BitVec 32 := 2#32
  let v246 : BitVec 32 := Scalar.muli v240 c2_i32_390
  let v255 : Index := Scalar.indexCast v246
  let c0_395 : Index := 0#32
  let c0_396 : Index := 0#32
  ![v255.toNat, 0, 0]
def k0_off9 (d0 : Dev nD) (k0_t1 : Fin k0_t1_loop.trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_35 : BitVec 32 := 0#32
  let c1_i32_37 : BitVec 32 := 1#32
  let arg28 : BitVec 32 := Scf.iv c0_i32_35 c1_i32_37 k0_t1
  let v238 : BitVec 32 := Scalar.subi v2 arg28
  let c8_i32_384 : BitVec 32 := 8#32
  let v239 : BitVec 32 := Scalar.addi v238 c8_i32_384
  let c8_i32_385 : BitVec 32 := 8#32
  let v240 : BitVec 32 := Scalar.remsi v239 c8_i32_385
  let c2_i32_390 : BitVec 32 := 2#32
  let v246 : BitVec 32 := Scalar.muli v240 c2_i32_390
  let v272 : Index := Scalar.indexCast v246
  let c0_404 : Index := 0#32
  let c64 : Index := 64#32
  ![v272.toNat, 0, 64]
def k0_off10 (d0 : Dev nD) (k0_t1 : Fin k0_t1_loop.trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_35 : BitVec 32 := 0#32
  let c1_i32_37 : BitVec 32 := 1#32
  let arg28 : BitVec 32 := Scf.iv c0_i32_35 c1_i32_37 k0_t1
  let v238 : BitVec 32 := Scalar.subi v2 arg28
  let c8_i32_384 : BitVec 32 := 8#32
  let v239 : BitVec 32 := Scalar.addi v238 c8_i32_384
  let c8_i32_385 : BitVec 32 := 8#32
  let v240 : BitVec 32 := Scalar.remsi v239 c8_i32_385
  let c2_i32_390 : BitVec 32 := 2#32
  let v246 : BitVec 32 := Scalar.muli v240 c2_i32_390
  let v289 : Index := Scalar.indexCast v246
  let c0_412 : Index := 0#32
  let c128 : Index := 128#32
  ![v289.toNat, 0, 128]
def k0_off11 (d0 : Dev nD) (k0_t1 : Fin k0_t1_loop.trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_35 : BitVec 32 := 0#32
  let c1_i32_37 : BitVec 32 := 1#32
  let arg28 : BitVec 32 := Scf.iv c0_i32_35 c1_i32_37 k0_t1
  let v238 : BitVec 32 := Scalar.subi v2 arg28
  let c8_i32_384 : BitVec 32 := 8#32
  let v239 : BitVec 32 := Scalar.addi v238 c8_i32_384
  let c8_i32_385 : BitVec 32 := 8#32
  let v240 : BitVec 32 := Scalar.remsi v239 c8_i32_385
  let c2_i32_390 : BitVec 32 := 2#32
  let v246 : BitVec 32 := Scalar.muli v240 c2_i32_390
  let v306 : Index := Scalar.indexCast v246
  let c0_420 : Index := 0#32
  let c192 : Index := 192#32
  ![v306.toNat, 0, 192]
def k0_off12 (d0 : Dev nD) (k0_t1 : Fin k0_t1_loop.trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_35 : BitVec 32 := 0#32
  let c1_i32_37 : BitVec 32 := 1#32
  let arg28 : BitVec 32 := Scf.iv c0_i32_35 c1_i32_37 k0_t1
  let v238 : BitVec 32 := Scalar.subi v2 arg28
  let c8_i32_384 : BitVec 32 := 8#32
  let v239 : BitVec 32 := Scalar.addi v238 c8_i32_384
  let c8_i32_385 : BitVec 32 := 8#32
  let v240 : BitVec 32 := Scalar.remsi v239 c8_i32_385
  let c2_i32_390 : BitVec 32 := 2#32
  let v246 : BitVec 32 := Scalar.muli v240 c2_i32_390
  let v323 : Index := Scalar.indexCast v246
  let c0_428 : Index := 0#32
  let c256 : Index := 256#32
  ![v323.toNat, 0, 256]
def k0_off13 (d0 : Dev nD) (k0_t1 : Fin k0_t1_loop.trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_35 : BitVec 32 := 0#32
  let c1_i32_37 : BitVec 32 := 1#32
  let arg28 : BitVec 32 := Scf.iv c0_i32_35 c1_i32_37 k0_t1
  let v238 : BitVec 32 := Scalar.subi v2 arg28
  let c8_i32_384 : BitVec 32 := 8#32
  let v239 : BitVec 32 := Scalar.addi v238 c8_i32_384
  let c8_i32_385 : BitVec 32 := 8#32
  let v240 : BitVec 32 := Scalar.remsi v239 c8_i32_385
  let c2_i32_390 : BitVec 32 := 2#32
  let v246 : BitVec 32 := Scalar.muli v240 c2_i32_390
  let v340 : Index := Scalar.indexCast v246
  let c0_436 : Index := 0#32
  let c320 : Index := 320#32
  ![v340.toNat, 0, 320]
def k0_off14 (d0 : Dev nD) (k0_t1 : Fin k0_t1_loop.trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_35 : BitVec 32 := 0#32
  let c1_i32_37 : BitVec 32 := 1#32
  let arg28 : BitVec 32 := Scf.iv c0_i32_35 c1_i32_37 k0_t1
  let v238 : BitVec 32 := Scalar.subi v2 arg28
  let c8_i32_384 : BitVec 32 := 8#32
  let v239 : BitVec 32 := Scalar.addi v238 c8_i32_384
  let c8_i32_385 : BitVec 32 := 8#32
  let v240 : BitVec 32 := Scalar.remsi v239 c8_i32_385
  let c2_i32_390 : BitVec 32 := 2#32
  let v246 : BitVec 32 := Scalar.muli v240 c2_i32_390
  let v357 : Index := Scalar.indexCast v246
  let c0_444 : Index := 0#32
  let c384 : Index := 384#32
  ![v357.toNat, 0, 384]
def k0_off15 (d0 : Dev nD) (k0_t1 : Fin k0_t1_loop.trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_35 : BitVec 32 := 0#32
  let c1_i32_37 : BitVec 32 := 1#32
  let arg28 : BitVec 32 := Scf.iv c0_i32_35 c1_i32_37 k0_t1
  let v238 : BitVec 32 := Scalar.subi v2 arg28
  let c8_i32_384 : BitVec 32 := 8#32
  let v239 : BitVec 32 := Scalar.addi v238 c8_i32_384
  let c8_i32_385 : BitVec 32 := 8#32
  let v240 : BitVec 32 := Scalar.remsi v239 c8_i32_385
  let c2_i32_390 : BitVec 32 := 2#32
  let v246 : BitVec 32 := Scalar.muli v240 c2_i32_390
  let v374 : Index := Scalar.indexCast v246
  let c0_452 : Index := 0#32
  let c448 : Index := 448#32
  ![v374.toNat, 0, 448]
def k0_off16 (d0 : Dev nD) (k0_t1 : Fin k0_t1_loop.trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_35 : BitVec 32 := 0#32
  let c1_i32_37 : BitVec 32 := 1#32
  let arg28 : BitVec 32 := Scf.iv c0_i32_35 c1_i32_37 k0_t1
  let v241 : BitVec 32 := Scalar.addi v2 arg28
  let c8_i32_386 : BitVec 32 := 8#32
  let v242 : BitVec 32 := Scalar.remsi v241 c8_i32_386
  let c2_i32_463 : BitVec 32 := 2#32
  let v393 : BitVec 32 := Scalar.muli v242 c2_i32_463
  let c1_i32_464 : BitVec 32 := 1#32
  let v394 : BitVec 32 := Scalar.addi v393 c1_i32_464
  let v403 : Index := Scalar.indexCast v394
  let c0_469 : Index := 0#32
  let c0_470 : Index := 0#32
  ![v403.toNat, 0, 0]
def k0_off17 (d0 : Dev nD) (k0_t1 : Fin k0_t1_loop.trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_35 : BitVec 32 := 0#32
  let c1_i32_37 : BitVec 32 := 1#32
  let arg28 : BitVec 32 := Scf.iv c0_i32_35 c1_i32_37 k0_t1
  let v241 : BitVec 32 := Scalar.addi v2 arg28
  let c8_i32_386 : BitVec 32 := 8#32
  let v242 : BitVec 32 := Scalar.remsi v241 c8_i32_386
  let c2_i32_463 : BitVec 32 := 2#32
  let v393 : BitVec 32 := Scalar.muli v242 c2_i32_463
  let c1_i32_464 : BitVec 32 := 1#32
  let v394 : BitVec 32 := Scalar.addi v393 c1_i32_464
  let v420 : Index := Scalar.indexCast v394
  let c0_478 : Index := 0#32
  let c64_479 : Index := 64#32
  ![v420.toNat, 0, 64]
def k0_off18 (d0 : Dev nD) (k0_t1 : Fin k0_t1_loop.trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_35 : BitVec 32 := 0#32
  let c1_i32_37 : BitVec 32 := 1#32
  let arg28 : BitVec 32 := Scf.iv c0_i32_35 c1_i32_37 k0_t1
  let v241 : BitVec 32 := Scalar.addi v2 arg28
  let c8_i32_386 : BitVec 32 := 8#32
  let v242 : BitVec 32 := Scalar.remsi v241 c8_i32_386
  let c2_i32_463 : BitVec 32 := 2#32
  let v393 : BitVec 32 := Scalar.muli v242 c2_i32_463
  let c1_i32_464 : BitVec 32 := 1#32
  let v394 : BitVec 32 := Scalar.addi v393 c1_i32_464
  let v437 : Index := Scalar.indexCast v394
  let c0_487 : Index := 0#32
  let c128_488 : Index := 128#32
  ![v437.toNat, 0, 128]
def k0_off19 (d0 : Dev nD) (k0_t1 : Fin k0_t1_loop.trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_35 : BitVec 32 := 0#32
  let c1_i32_37 : BitVec 32 := 1#32
  let arg28 : BitVec 32 := Scf.iv c0_i32_35 c1_i32_37 k0_t1
  let v241 : BitVec 32 := Scalar.addi v2 arg28
  let c8_i32_386 : BitVec 32 := 8#32
  let v242 : BitVec 32 := Scalar.remsi v241 c8_i32_386
  let c2_i32_463 : BitVec 32 := 2#32
  let v393 : BitVec 32 := Scalar.muli v242 c2_i32_463
  let c1_i32_464 : BitVec 32 := 1#32
  let v394 : BitVec 32 := Scalar.addi v393 c1_i32_464
  let v454 : Index := Scalar.indexCast v394
  let c0_496 : Index := 0#32
  let c192_497 : Index := 192#32
  ![v454.toNat, 0, 192]
def k0_off20 (d0 : Dev nD) (k0_t1 : Fin k0_t1_loop.trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_35 : BitVec 32 := 0#32
  let c1_i32_37 : BitVec 32 := 1#32
  let arg28 : BitVec 32 := Scf.iv c0_i32_35 c1_i32_37 k0_t1
  let v241 : BitVec 32 := Scalar.addi v2 arg28
  let c8_i32_386 : BitVec 32 := 8#32
  let v242 : BitVec 32 := Scalar.remsi v241 c8_i32_386
  let c2_i32_463 : BitVec 32 := 2#32
  let v393 : BitVec 32 := Scalar.muli v242 c2_i32_463
  let c1_i32_464 : BitVec 32 := 1#32
  let v394 : BitVec 32 := Scalar.addi v393 c1_i32_464
  let v471 : Index := Scalar.indexCast v394
  let c0_505 : Index := 0#32
  let c256_506 : Index := 256#32
  ![v471.toNat, 0, 256]
def k0_off21 (d0 : Dev nD) (k0_t1 : Fin k0_t1_loop.trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_35 : BitVec 32 := 0#32
  let c1_i32_37 : BitVec 32 := 1#32
  let arg28 : BitVec 32 := Scf.iv c0_i32_35 c1_i32_37 k0_t1
  let v241 : BitVec 32 := Scalar.addi v2 arg28
  let c8_i32_386 : BitVec 32 := 8#32
  let v242 : BitVec 32 := Scalar.remsi v241 c8_i32_386
  let c2_i32_463 : BitVec 32 := 2#32
  let v393 : BitVec 32 := Scalar.muli v242 c2_i32_463
  let c1_i32_464 : BitVec 32 := 1#32
  let v394 : BitVec 32 := Scalar.addi v393 c1_i32_464
  let v488 : Index := Scalar.indexCast v394
  let c0_514 : Index := 0#32
  let c320_515 : Index := 320#32
  ![v488.toNat, 0, 320]
def k0_off22 (d0 : Dev nD) (k0_t1 : Fin k0_t1_loop.trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_35 : BitVec 32 := 0#32
  let c1_i32_37 : BitVec 32 := 1#32
  let arg28 : BitVec 32 := Scf.iv c0_i32_35 c1_i32_37 k0_t1
  let v241 : BitVec 32 := Scalar.addi v2 arg28
  let c8_i32_386 : BitVec 32 := 8#32
  let v242 : BitVec 32 := Scalar.remsi v241 c8_i32_386
  let c2_i32_463 : BitVec 32 := 2#32
  let v393 : BitVec 32 := Scalar.muli v242 c2_i32_463
  let c1_i32_464 : BitVec 32 := 1#32
  let v394 : BitVec 32 := Scalar.addi v393 c1_i32_464
  let v505 : Index := Scalar.indexCast v394
  let c0_523 : Index := 0#32
  let c384_524 : Index := 384#32
  ![v505.toNat, 0, 384]
def k0_off23 (d0 : Dev nD) (k0_t1 : Fin k0_t1_loop.trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_35 : BitVec 32 := 0#32
  let c1_i32_37 : BitVec 32 := 1#32
  let arg28 : BitVec 32 := Scf.iv c0_i32_35 c1_i32_37 k0_t1
  let v241 : BitVec 32 := Scalar.addi v2 arg28
  let c8_i32_386 : BitVec 32 := 8#32
  let v242 : BitVec 32 := Scalar.remsi v241 c8_i32_386
  let c2_i32_463 : BitVec 32 := 2#32
  let v393 : BitVec 32 := Scalar.muli v242 c2_i32_463
  let c1_i32_464 : BitVec 32 := 1#32
  let v394 : BitVec 32 := Scalar.addi v393 c1_i32_464
  let v522 : Index := Scalar.indexCast v394
  let c0_532 : Index := 0#32
  let c448_533 : Index := 448#32
  ![v522.toNat, 0, 448]
def k0_cond3 (k0_t1 : Fin k0_t1_loop.trips) : BitVec 1 :=
  let c0_i32_35 : BitVec 32 := 0#32
  let c1_i32_37 : BitVec 32 := 1#32
  let arg28 : BitVec 32 := Scf.iv c0_i32_35 c1_i32_37 k0_t1
  let c0_i32_546 : BitVec 32 := 0#32
  let v544 : BitVec 1 := Scalar.cmpi .sgt arg28 c0_i32_546
  let v545 : BitVec 32 := Scalar.extui v544
  let c0_i32_547 : BitVec 32 := 0#32
  let v546 : BitVec 1 := Scalar.cmpi .ne v545 c0_i32_547
  v546

def k0_off24 (k0_t1 : Fin k0_t1_loop.trips) : Fin 1 → Nat :=
  let c0_i32_35 : BitVec 32 := 0#32
  let c1_i32_37 : BitVec 32 := 1#32
  let arg28 : BitVec 32 := Scf.iv c0_i32_35 c1_i32_37 k0_t1
  ![arg28.toNat]
def k0_off25 (k0_t1 : Fin k0_t1_loop.trips) : Fin 4 → Nat :=
  let c0_i32_35 : BitVec 32 := 0#32
  let c1_i32_37 : BitVec 32 := 1#32
  let arg28 : BitVec 32 := Scf.iv c0_i32_35 c1_i32_37 k0_t1
  let c0_i32_572 : BitVec 32 := 0#32
  let c0_i32_573 : BitVec 32 := 0#32
  let c0_i32_574 : BitVec 32 := 0#32
  ![arg28.toNat, 0, 0, 0]
def k0_cond4 (k0_t1 : Fin k0_t1_loop.trips) : BitVec 1 :=
  let c0_i32_35 : BitVec 32 := 0#32
  let c1_i32_37 : BitVec 32 := 1#32
  let arg28 : BitVec 32 := Scf.iv c0_i32_35 c1_i32_37 k0_t1
  let c7_i32_554 : BitVec 32 := 7#32
  let v559 : BitVec 1 := Scalar.cmpi .slt arg28 c7_i32_554
  let v560 : BitVec 32 := Scalar.extui v559
  let c0_i32_555 : BitVec 32 := 0#32
  let v561 : BitVec 1 := Scalar.cmpi .ne v560 c0_i32_555
  v561

def k0_off26 (k0_t1 : Fin k0_t1_loop.trips) : Fin 1 → Nat :=
  let c0_i32_35 : BitVec 32 := 0#32
  let c1_i32_37 : BitVec 32 := 1#32
  let arg28 : BitVec 32 := Scf.iv c0_i32_35 c1_i32_37 k0_t1
  ![arg28.toNat]
def k0_off27 (k0_t1 : Fin k0_t1_loop.trips) : Fin 1 → Nat :=
  let c0_i32_35 : BitVec 32 := 0#32
  let c1_i32_37 : BitVec 32 := 1#32
  let arg28 : BitVec 32 := Scf.iv c0_i32_35 c1_i32_37 k0_t1
  let c1_i32_571 : BitVec 32 := 1#32
  let v587 : BitVec 32 := Scalar.addi arg28 c1_i32_571
  ![v587.toNat]
def k0_off28 (k0_t1 : Fin k0_t1_loop.trips) : Fin 4 → Nat :=
  let c0_i32_35 : BitVec 32 := 0#32
  let c1_i32_37 : BitVec 32 := 1#32
  let arg28 : BitVec 32 := Scf.iv c0_i32_35 c1_i32_37 k0_t1
  let c1_i32_570 : BitVec 32 := 1#32
  let v586 : BitVec 32 := Scalar.addi arg28 c1_i32_570
  let c0_i32_574 : BitVec 32 := 0#32
  let c0_i32_575 : BitVec 32 := 0#32
  let c0_i32_576 : BitVec 32 := 0#32
  ![v586.toNat, 0, 0, 0]
def k0_off29 (k0_t1 : Fin k0_t1_loop.trips) : Fin 4 → Nat :=
  let c0_i32_35 : BitVec 32 := 0#32
  let c1_i32_37 : BitVec 32 := 1#32
  let arg28 : BitVec 32 := Scf.iv c0_i32_35 c1_i32_37 k0_t1
  let c0_i32_577 : BitVec 32 := 0#32
  let c0_i32_578 : BitVec 32 := 0#32
  let c0_i32_579 : BitVec 32 := 0#32
  ![arg28.toNat, 0, 0, 0]
def k0_dev5 (d0 : Dev nD) : Nat :=
  let c0_i32_573 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_572 : BitVec 32 := 1#32
  let v588 : BitVec 32 := Scalar.muli v4 c1_i32_572
  let v589 : BitVec 32 := Scalar.addi c0_i32_573 v588
  v589.toNat
def k0_cond5 (k0_t1 : Fin k0_t1_loop.trips) : BitVec 1 :=
  let c0_i32_35 : BitVec 32 := 0#32
  let c1_i32_37 : BitVec 32 := 1#32
  let arg28 : BitVec 32 := Scf.iv c0_i32_35 c1_i32_37 k0_t1
  let c7_i32_556 : BitVec 32 := 7#32
  let v562 : BitVec 1 := Scalar.cmpi .eq arg28 c7_i32_556
  let v563 : BitVec 32 := Scalar.extui v562
  let c0_i32_557 : BitVec 32 := 0#32
  let v564 : BitVec 1 := Scalar.cmpi .ne v563 c0_i32_557
  v564

def k0_dev6 (d0 : Dev nD) : Nat :=
  let c0_i32_573 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_572 : BitVec 32 := 1#32
  let v586 : BitVec 32 := Scalar.muli v4 c1_i32_572
  let v587 : BitVec 32 := Scalar.addi c0_i32_573 v586
  v587.toNat
def k0_cond6 (k0_t1 : Fin k0_t1_loop.trips) : BitVec 1 :=
  let c0_i32_35 : BitVec 32 := 0#32
  let c1_i32_37 : BitVec 32 := 1#32
  let arg28 : BitVec 32 := Scf.iv c0_i32_35 c1_i32_37 k0_t1
  let c0_i32_558 : BitVec 32 := 0#32
  let v565 : BitVec 1 := Scalar.cmpi .sgt arg28 c0_i32_558
  let v566 : BitVec 32 := Scalar.extui v565
  let c0_i32_559 : BitVec 32 := 0#32
  let v567 : BitVec 1 := Scalar.cmpi .ne v566 c0_i32_559
  v567

def k0_off30 (k0_t1 : Fin k0_t1_loop.trips) : Fin 1 → Nat :=
  let c0_i32_35 : BitVec 32 := 0#32
  let c1_i32_37 : BitVec 32 := 1#32
  let arg28 : BitVec 32 := Scf.iv c0_i32_35 c1_i32_37 k0_t1
  ![arg28.toNat]
def k0_off31 (k0_t1 : Fin k0_t1_loop.trips) : Fin 4 → Nat :=
  let c0_i32_35 : BitVec 32 := 0#32
  let c1_i32_37 : BitVec 32 := 1#32
  let arg28 : BitVec 32 := Scf.iv c0_i32_35 c1_i32_37 k0_t1
  let c0_i32_572 : BitVec 32 := 0#32
  let c0_i32_573 : BitVec 32 := 0#32
  let c0_i32_574 : BitVec 32 := 0#32
  ![arg28.toNat, 0, 0, 0]
def k0_cond7 (k0_t1 : Fin k0_t1_loop.trips) : BitVec 1 :=
  let c0_i32_35 : BitVec 32 := 0#32
  let c1_i32_37 : BitVec 32 := 1#32
  let arg28 : BitVec 32 := Scf.iv c0_i32_35 c1_i32_37 k0_t1
  let c7_i32_566 : BitVec 32 := 7#32
  let v580 : BitVec 1 := Scalar.cmpi .slt arg28 c7_i32_566
  let v581 : BitVec 32 := Scalar.extui v580
  let c0_i32_567 : BitVec 32 := 0#32
  let v582 : BitVec 1 := Scalar.cmpi .ne v581 c0_i32_567
  v582

def k0_off32 (k0_t1 : Fin k0_t1_loop.trips) : Fin 1 → Nat :=
  let c0_i32_35 : BitVec 32 := 0#32
  let c1_i32_37 : BitVec 32 := 1#32
  let arg28 : BitVec 32 := Scf.iv c0_i32_35 c1_i32_37 k0_t1
  ![arg28.toNat]
def k0_off33 (k0_t1 : Fin k0_t1_loop.trips) : Fin 1 → Nat :=
  let c0_i32_35 : BitVec 32 := 0#32
  let c1_i32_37 : BitVec 32 := 1#32
  let arg28 : BitVec 32 := Scf.iv c0_i32_35 c1_i32_37 k0_t1
  let c1_i32_571 : BitVec 32 := 1#32
  let v587 : BitVec 32 := Scalar.addi arg28 c1_i32_571
  ![v587.toNat]
def k0_off34 (k0_t1 : Fin k0_t1_loop.trips) : Fin 4 → Nat :=
  let c0_i32_35 : BitVec 32 := 0#32
  let c1_i32_37 : BitVec 32 := 1#32
  let arg28 : BitVec 32 := Scf.iv c0_i32_35 c1_i32_37 k0_t1
  let c1_i32_570 : BitVec 32 := 1#32
  let v586 : BitVec 32 := Scalar.addi arg28 c1_i32_570
  let c0_i32_574 : BitVec 32 := 0#32
  let c0_i32_575 : BitVec 32 := 0#32
  let c0_i32_576 : BitVec 32 := 0#32
  ![v586.toNat, 0, 0, 0]
def k0_off35 (k0_t1 : Fin k0_t1_loop.trips) : Fin 4 → Nat :=
  let c0_i32_35 : BitVec 32 := 0#32
  let c1_i32_37 : BitVec 32 := 1#32
  let arg28 : BitVec 32 := Scf.iv c0_i32_35 c1_i32_37 k0_t1
  let c0_i32_577 : BitVec 32 := 0#32
  let c0_i32_578 : BitVec 32 := 0#32
  let c0_i32_579 : BitVec 32 := 0#32
  ![arg28.toNat, 0, 0, 0]
def k0_dev7 (d0 : Dev nD) : Nat :=
  let c0_i32_573 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_572 : BitVec 32 := 1#32
  let v588 : BitVec 32 := Scalar.muli v7 c1_i32_572
  let v589 : BitVec 32 := Scalar.addi c0_i32_573 v588
  v589.toNat
def k0_cond8 (k0_t1 : Fin k0_t1_loop.trips) : BitVec 1 :=
  let c0_i32_35 : BitVec 32 := 0#32
  let c1_i32_37 : BitVec 32 := 1#32
  let arg28 : BitVec 32 := Scf.iv c0_i32_35 c1_i32_37 k0_t1
  let c7_i32_568 : BitVec 32 := 7#32
  let v583 : BitVec 1 := Scalar.cmpi .eq arg28 c7_i32_568
  let v584 : BitVec 32 := Scalar.extui v583
  let c0_i32_569 : BitVec 32 := 0#32
  let v585 : BitVec 1 := Scalar.cmpi .ne v584 c0_i32_569
  v585

def k0_dev8 (d0 : Dev nD) : Nat :=
  let c0_i32_573 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_572 : BitVec 32 := 1#32
  let v586 : BitVec 32 := Scalar.muli v7 c1_i32_572
  let v587 : BitVec 32 := Scalar.addi c0_i32_573 v586
  v587.toNat
def k0_dev9 (d0 : Dev nD) : Nat :=
  let c0_i32_382_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_381_r0 : BitVec 32 := 1#32
  let v233_r0 : BitVec 32 := Scalar.muli v7 c1_i32_381_r0
  let v234_r0 : BitVec 32 := Scalar.addi c0_i32_382_r0 v233_r0
  v234_r0.toNat
def k0_dev10 (d0 : Dev nD) : Nat :=
  let c0_i32_385_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_384_r0 : BitVec 32 := 1#32
  let v235_r0 : BitVec 32 := Scalar.muli v4 c1_i32_384_r0
  let v236_r0 : BitVec 32 := Scalar.addi c0_i32_385_r0 v235_r0
  v236_r0.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "scale_log2e" => some (((1 / 8) * (Real.log 2)⁻¹ : ℝ) : EReal)
  | _ => none
-- ==== ReferenceIdeal.lean ====
abbrev S16x128x512 : Shape := ⟨3, ![16, 128, 512]⟩
abbrev S512x4096 : Shape := ⟨2, ![512, 4096]⟩
abbrev S16x128x64x64 : Shape := ⟨4, ![16, 128, 64, 64]⟩
abbrev S4096x512 : Shape := ⟨2, ![4096, 512]⟩
abbrev S16x128x4096 : Shape := ⟨3, ![16, 128, 4096]⟩
abbrev S_ : Shape := ⟨0, ![]⟩
abbrev S16x64x128x1 : Shape := ⟨4, ![16, 64, 128, 1]⟩
abbrev S16x64x128x128 : Shape := ⟨4, ![16, 64, 128, 128]⟩
abbrev S16x64x128 : Shape := ⟨3, ![16, 64, 128]⟩
abbrev S16x128x64x1 : Shape := ⟨4, ![16, 128, 64, 1]⟩
abbrev S16x64x64x128 : Shape := ⟨4, ![16, 64, 64, 128]⟩

abbrev nBuf : Space → Nat
  | .hbm => 42
  | .vmem => 0
  | .smem => 0
  | _ => 0

abbrev bufTy : (tb : Table) → Fin (tcTables nBuf tb) → BufTy
  | .hbm, ⟨0, _⟩ => ⟨S16x128x512, .f32⟩
  | .hbm, ⟨1, _⟩ => ⟨S512x4096, .f32⟩
  | .hbm, ⟨2, _⟩ => ⟨S16x128x64x64, .f32⟩
  | .hbm, ⟨3, _⟩ => ⟨S16x128x64x64, .f32⟩
  | .hbm, ⟨4, _⟩ => ⟨S4096x512, .f32⟩
  | .hbm, ⟨5, _⟩ => ⟨S16x128x4096, .f32⟩
  | .hbm, ⟨6, _⟩ => ⟨S16x128x64x64, .f32⟩
  | .hbm, ⟨7, _⟩ => ⟨S_, .f32⟩
  | .hbm, ⟨8, _⟩ => ⟨S16x128x64x64, .f32⟩
  | .hbm, ⟨9, _⟩ => ⟨S_, .f32⟩
  | .hbm, ⟨10, _⟩ => ⟨S16x64x128x1, .f32⟩
  | .hbm, ⟨11, _⟩ => ⟨S_, .f32⟩
  | .hbm, ⟨12, _⟩ => ⟨S16x64x128x1, .f32⟩
  | .hbm, ⟨13, _⟩ => ⟨S16x64x128x128, .f32⟩
  | .hbm, ⟨14, _⟩ => ⟨S_, .f32⟩
  | .hbm, ⟨15, _⟩ => ⟨S16x64x128x128, .f32⟩
  | .hbm, ⟨16, _⟩ => ⟨S16x64x128x128, .f32⟩
  | .hbm, ⟨17, _⟩ => ⟨S_, .f32⟩
  | .hbm, ⟨18, _⟩ => ⟨S16x64x128, .f32⟩
  | .hbm, ⟨19, _⟩ => ⟨S16x64x128x1, .f32⟩
  | .hbm, ⟨20, _⟩ => ⟨S16x64x128x1, .f32⟩
  | .hbm, ⟨21, _⟩ => ⟨S16x64x128x1, .f32⟩
  | .hbm, ⟨22, _⟩ => ⟨S16x64x128x1, .f32⟩
  | .hbm, ⟨23, _⟩ => ⟨S16x64x128x128, .f32⟩
  | .hbm, ⟨24, _⟩ => ⟨S16x64x128x128, .f32⟩
  | .hbm, ⟨25, _⟩ => ⟨S16x64x128x128, .f32⟩
  | .hbm, ⟨26, _⟩ => ⟨S16x64x128x1, .f32⟩
  | .hbm, ⟨27, _⟩ => ⟨S_, .f32⟩
  | .hbm, ⟨28, _⟩ => ⟨S16x64x128, .f32⟩
  | .hbm, ⟨29, _⟩ => ⟨S16x64x128x1, .f32⟩
  | .hbm, ⟨30, _⟩ => ⟨S16x64x128x1, .f32⟩
  | .hbm, ⟨31, _⟩ => ⟨S16x128x64x1, .f32⟩
  | .hbm, ⟨32, _⟩ => ⟨S16x128x64x64, .f32⟩
  | .hbm, ⟨33, _⟩ => ⟨S16x128x64x64, .f32⟩
  | .hbm, ⟨34, _⟩ => ⟨S16x64x64x128, .f32⟩
  | .hbm, ⟨35, _⟩ => ⟨S16x128x64x64, .f32⟩
  | .hbm, ⟨36, _⟩ => ⟨S16x128x64x64, .f32⟩
  | .hbm, ⟨37, _⟩ => ⟨S16x128x64x1, .f32⟩
  | .hbm, ⟨38, _⟩ => ⟨S16x128x64x64, .f32⟩
  | .hbm, ⟨39, _⟩ => ⟨S16x128x64x64, .f32⟩
  | .hbm, ⟨40, _⟩ => ⟨S16x128x4096, .f32⟩
  | .hbm, ⟨41, _⟩ => ⟨S16x128x512, .f32⟩
  | _, _ => ⟨S16x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_cst_3 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Proof.Slots.lean ====
module

public import proofs.«01_k».proof.Proof.Gen.KernelIdeal.Launch
public import proofs.«01_k».proof.Proof.Gen.KernelIdeal.Skeleton
public import Idealize.ShloMosaic.Lib.Exec
public import Idealize.ShloMosaic.Lib.ValueLayout
public import Idealize.ShloMosaic.Lib.Rounds
public import Idealize.ShloMosaic.Lib.Pipeline.RegionTalk

@[expose] public section

/-! The eight slots of a ring buffer: which elements a slot has, how a transfer from slot to slot re-indexes, and what every slot
of every device holds. -/

noncomputable section

namespace Cert.KernelIdeal.Ring

open Idealize.ShloMosaic Idealize.ShloMosaic.TcCoe Idealize.ShloMosaic.ValueIdx
open Idealize.SL Idealize.SL.RA Idealize.SL.BI
open scoped Idealize.SL.BI

open Idealize.SL.BI.BIBase Idealize.SL.Sem

variable {F : FTy → Type} [FloatOps F] [Named F]

/-! ## The neighbours -/

/-- The neighbour with the next number, around the ring of eight. -/
def right (c : Dev nD) : Dev nD := ⟨(c.val + 1) % 8, Nat.mod_lt _ (by decide)⟩
/-- The neighbour with the number before. -/
def left (c : Dev nD) : Dev nD := ⟨(c.val + 7) % 8, Nat.mod_lt _ (by decide)⟩
/-- The device `j` places before. -/
def back (c : Dev nD) (j : ℕ) : Dev nD := ⟨(c.val + 8 - j) % 8, Nat.mod_lt _ (by decide)⟩
/-- The device `j` places after. -/
def fwd (c : Dev nD) (j : ℕ) : Dev nD := ⟨(c.val + j) % 8, Nat.mod_lt _ (by decide)⟩

theorem lt8 (c : Dev nD) : c.val < 8 := c.isLt
theorem left_right (c : Dev nD) : left (right c) = c := Fin.ext (by have := lt8 c; simp only [left, right]; omega)
theorem right_left (c : Dev nD) : right (left c) = c := Fin.ext (by have := lt8 c; simp only [left, right]; omega)
theorem back_right (c : Dev nD) (j : ℕ) (h : j < 8) : back (right c) (j + 1) = back c j :=
  Fin.ext (by have := lt8 c; simp only [back, right]; omega)
theorem fwd_left (c : Dev nD) (j : ℕ) (h : j < 8) : fwd (left c) (j + 1) = fwd c j :=
  Fin.ext (by have := lt8 c; simp only [fwd, left]; omega)

/-! ## The elements of the slots -/

/-- The elements of the slots `lo, …, hi - 1`. -/
def rows (lo hi : ℕ) : Finset S8x1x128x512.Idx := Finset.univ.filter fun i => lo ≤ (i 0).val ∧ (i 0).val < hi

theorem mem_rows {lo hi : ℕ} {i : S8x1x128x512.Idx} : i ∈ rows lo hi ↔ lo ≤ (i 0).val ∧ (i 0).val < hi := by
  simp [rows]
theorem rows_empty {lo hi : ℕ} (h : hi ≤ lo) : rows lo hi = ∅ := by
  ext i; rw [mem_rows]; simp only [Finset.notMem_empty, iff_false]; omega
theorem rows_all : rows 0 8 = Finset.univ := by
  ext i; rw [mem_rows]
  have h0 : (i 0).val < 8 := (i 0).isLt
  simp only [Finset.mem_univ, iff_true]; omega
theorem rows_union {a b c : ℕ} (h : a ≤ b) (h' : b ≤ c) : rows a c = rows a b ∪ rows b c := by
  ext i; rw [Finset.mem_union, mem_rows, mem_rows, mem_rows]; omega
theorem rows_disjoint (a b c d : ℕ) (h : b ≤ c) : Disjoint (rows a b) (rows c d) := by
  rw [Finset.disjoint_left]; intro i; rw [mem_rows, mem_rows]; omega

/-! ## Indices -/

/-- Slot `j`, row `r`, column `k`. -/
def at4 (j : ℕ) (hj : j < 8) (r : Fin 128) (k : Fin 512) : S8x1x128x512.Idx := ix4 (⟨j, hj⟩ : Fin 8) (0 : Fin 1) r k
/-- Row `r`, column `k` of a slot's contents. -/
def in4 (r : Fin 128) (k : Fin 512) : S1x1x128x512.Idx := ix4 (0 : Fin 1) (0 : Fin 1) r k

theorem in4_eq (y : S1x1x128x512.Idx) : in4 (y 2) (y 3) = y := by
  funext a
  apply Fin.ext
  have y0 : (y 0).val = 0 := by have : (y 0).val < 1 := (y 0).isLt; omega
  have y1 : (y 1).val = 0 := by have : (y 1).val < 1 := (y 1).isLt; omega
  fin_cases a
  · exact y0.symm
  · exact y1.symm
  · rfl
  · rfl

/-- A slot, as the transfers name it: the slot's rectangle without its first axis. -/
theorem slot_emb {sp : Space} (v : View sig .tc sp S8x1x128x512 .bf16) (off : Fin 4 → ℕ) (j : ℕ) (hoff : off = ![j, 0, 0, 0]) (hj : j < 8)
    (inb) (hn) (y : S1x128x512.Idx) :
    ((v.slice (Rect.unit (s := S8x1x128x512) off S1x1x128x512.size inb)).reshape S1x128x512 hn).emb y = v.emb (at4 j hj (y 1) (y 2)) := by
  subst hoff
  show v.emb ((Rect.unit (s := S8x1x128x512) ![j, 0, 0, 0] S1x1x128x512.size inb).emb (Shape.reshapeEquiv hn y)) = _
  congr 1
  have e : Shape.reshapeEquiv hn y = Fin.cons ⟨0, Nat.one_pos⟩ y :=
    Shape.reshapeEquiv_cons_one (d := ![1, 128, 512]) hn y
  rw [e]
  funext a
  apply Fin.ext
  rw [Rect.emb_apply]
  have y0 : (y 0).val = 0 := by have : (y 0).val < 1 := (y 0).isLt; omega
  fin_cases a
  · show j + 1 * 0 = j; omega
  · show 0 + 1 * (y 0).val = 0; omega
  · show 0 + 1 * (y 1).val = (y 1).val; omega
  · show 0 + 1 * (y 2).val = (y 2).val; omega

/-- A slot, as the loads and stores name it. -/
theorem acc_emb (off : Fin 4 → ℕ) (j : ℕ) (hoff : off = ![j, 0, 0, 0]) (hj : j < 8) (inb) (y : S1x1x128x512.Idx) :
    (Rect.unit (s := S8x1x128x512) off S1x1x128x512.size inb).emb y = at4 j hj (y 2) (y 3) := by
  subst hoff
  funext a
  apply Fin.ext
  rw [Rect.emb_apply]
  have y0 : (y 0).val = 0 := by have : (y 0).val < 1 := (y 0).isLt; omega
  have y1 : (y 1).val = 0 := by have : (y 1).val < 1 := (y 1).isLt; omega
  fin_cases a
  · show j + 1 * (y 0).val = j; omega
  · show 0 + 1 * (y 1).val = 0; omega
  · show 0 + 1 * (y 2).val = (y 2).val; omega
  · show 0 + 1 * (y 3).val = (y 3).val; omega

theorem mem_rows_at4 {i : S8x1x128x512.Idx} {j : ℕ} (hj : j < 8) : i ∈ rows j (j + 1) ↔ i = at4 j hj (i 2) (i 3) := by
  rw [mem_rows]
  constructor
  · intro h
    funext a
    apply Fin.ext
    have i1 : (i 1).val = 0 := by have : (i 1).val < 1 := (i 1).isLt; omega
    fin_cases a
    · show (i 0).val = j; omega
    · exact i1
    · rfl
    · rfl
  · intro h
    have h0 : (i 0).val = j := by rw [h]; rfl
    omega

theorem slot_set {sp : Space} (v : View sig .tc sp S8x1x128x512 .bf16) (off : Fin 4 → ℕ) (j : ℕ) (hoff : off = ![j, 0, 0, 0]) (hj : j < 8)
    (inb) (hn) :
    ((v.slice (Rect.unit (s := S8x1x128x512) off S1x1x128x512.size inb)).reshape S1x128x512 hn).set = (rows j (j + 1)).map v.emb := by
  ext i
  constructor
  · intro h
    obtain ⟨y, -, rfl⟩ := Finset.mem_map.mp h
    rw [slot_emb v off j hoff hj]
    exact Finset.mem_map_of_mem _ ((mem_rows_at4 hj).mpr rfl)
  · intro h
    obtain ⟨x, hx, rfl⟩ := Finset.mem_map.mp h
    rw [(mem_rows_at4 hj).mp hx]
    have := slot_emb v off j hoff hj inb hn (ix3 (0 : Fin 1) (x 2) (x 3))
    exact this ▸ View.emb_mem_set _ _

theorem acc_set (off : Fin 4 → ℕ) (j : ℕ) (hoff : off = ![j, 0, 0, 0]) (hj : j < 8) (inb) :
    (Rect.unit (s := S8x1x128x512) off S1x1x128x512.size inb).set = rows j (j + 1) := by
  rw [← Rect.map_emb_univ]
  ext i
  constructor
  · intro h
    obtain ⟨y, -, rfl⟩ := Finset.mem_map.mp h
    rw [acc_emb off j hoff hj]
    exact (mem_rows_at4 hj).mpr rfl
  · intro h
    rw [(mem_rows_at4 hj).mp h]
    have := acc_emb off j hoff hj inb (ix4 (0 : Fin 1) (0 : Fin 1) (i 2) (i 3))
    exact this ▸ Finset.mem_map_of_mem _ (Finset.mem_univ _)

/-- What is written through a view of what another reads, on the first's elements. -/
theorem landed_eq {sp : Space} {s : Shape} {e : EltTy} (w : View sig .tc sp s e) (u : s.Idx → Elt F e)
    (fd G : w.ty.Contents (Elt F)) (h : ∀ y, w.read (Elt F) G y = u y) :
    ∀ i ∈ w.set, w.write (Elt F) fd u Finset.univ i = G i := by
  intro i hi
  obtain ⟨y, -, rfl⟩ := Finset.mem_map.mp hi
  rw [View.write_emb, if_pos (Finset.mem_univ _), ← h y, View.read_apply]
  simp

/-! ## What the slots hold -/

/-- What the eight devices put into the rings: their two rows at the start, the zeros the sums start from, and the two steps
    from the sum that came in to the sum that goes out. -/
structure Data (F : FTy → Type) where
  xR : Dev nD → (⟨S1x1x128x512, .bf16⟩ : BufTy).Contents (Elt F)
  xL : Dev nD → (⟨S1x1x128x512, .bf16⟩ : BufTy).Contents (Elt F)
  zR : (⟨S1x1x128x512, .bf16⟩ : BufTy).Contents (Elt F)
  zL : (⟨S1x1x128x512, .bf16⟩ : BufTy).Contents (Elt F)
  stR : Dev nD → ℕ → (⟨S1x1x128x512, .bf16⟩ : BufTy).Contents (Elt F) → (⟨S1x1x128x512, .bf16⟩ : BufTy).Contents (Elt F)
  stL : Dev nD → ℕ → (⟨S1x1x128x512, .bf16⟩ : BufTy).Contents (Elt F) → (⟨S1x1x128x512, .bf16⟩ : BufTy).Contents (Elt F)

namespace Data

variable (D : Data F)

/-- The sum that leaves device `c` to the right at step `j`. -/
def outR : ℕ → Dev nD → (⟨S1x1x128x512, .bf16⟩ : BufTy).Contents (Elt F)
  | 0, c => D.stR c 0 D.zR
  | j + 1, c => D.stR c (j + 1) (outR j (left c))
/-- The sum that leaves device `c` to the left at step `j`. -/
def outL : ℕ → Dev nD → (⟨S1x1x128x512, .bf16⟩ : BufTy).Contents (Elt F)
  | 0, c => D.stL c 0 D.zL
  | j + 1, c => D.stL c (j + 1) (outL j (right c))
/-- The sum device `c` has received at step `j`. -/
def inR : ℕ → Dev nD → (⟨S1x1x128x512, .bf16⟩ : BufTy).Contents (Elt F)
  | 0, _ => D.zR
  | j + 1, c => D.outR j (left c)
def inL : ℕ → Dev nD → (⟨S1x1x128x512, .bf16⟩ : BufTy).Contents (Elt F)
  | 0, _ => D.zL
  | j + 1, c => D.outL j (right c)

theorem outR_eq (j : ℕ) (c : Dev nD) : D.outR j c = D.stR c j (D.inR j c) := by cases j <;> rfl
theorem outL_eq (j : ℕ) (c : Dev nD) : D.outL j c = D.stL c j (D.inL j c) := by cases j <;> rfl

/-- Device `c`'s buffer of rows on their way right, every slot at what it holds once filled; and so on. -/
def XR (c : Dev nD) : (⟨S8x1x128x512, .bf16⟩ : BufTy).Contents (Elt F) := fun i => D.xR (back c (i 0).val) (in4 (i 2) (i 3))
def XL (c : Dev nD) : (⟨S8x1x128x512, .bf16⟩ : BufTy).Contents (Elt F) := fun i => D.xL (fwd c (i 0).val) (in4 (i 2) (i 3))
def IR (c : Dev nD) : (⟨S8x1x128x512, .bf16⟩ : BufTy).Contents (Elt F) := fun i => D.inR (i 0).val c (in4 (i 2) (i 3))
def IL (c : Dev nD) : (⟨S8x1x128x512, .bf16⟩ : BufTy).Contents (Elt F) := fun i => D.inL (i 0).val c (in4 (i 2) (i 3))
def OR (c : Dev nD) : (⟨S8x1x128x512, .bf16⟩ : BufTy).Contents (Elt F) := fun i => D.outR (i 0).val c (in4 (i 2) (i 3))
def OL (c : Dev nD) : (⟨S8x1x128x512, .bf16⟩ : BufTy).Contents (Elt F) := fun i => D.outL (i 0).val c (in4 (i 2) (i 3))
/-- The finished row that arrives on device `c` from the left. -/
def FR (c : Dev nD) : (⟨S1x128x512, .bf16⟩ : BufTy).Contents (Elt F) := fun i => D.outR 7 (left c) (in4 (i 1) (i 2))
def FL (c : Dev nD) : (⟨S1x128x512, .bf16⟩ : BufTy).Contents (Elt F) := fun i => D.outL 7 (right c) (in4 (i 1) (i 2))

theorem XR_step (c : Dev nD) (j : ℕ) (hj : j < 7) (r : Fin 128) (k : Fin 512) :
    D.XR (right c) (at4 (j + 1) (by omega) r k) = D.XR c (at4 j (by omega) r k) := by
  show D.xR (back (right c) (j + 1)) _ = D.xR (back c j) _
  rw [back_right c j (by omega)]; rfl
theorem XL_step (c : Dev nD) (j : ℕ) (hj : j < 7) (r : Fin 128) (k : Fin 512) :
    D.XL (left c) (at4 (j + 1) (by omega) r k) = D.XL c (at4 j (by omega) r k) := by
  show D.xL (fwd (left c) (j + 1)) _ = D.xL (fwd c j) _
  rw [fwd_left c j (by omega)]; rfl
theorem IR_step (c : Dev nD) (j : ℕ) (hj : j < 7) (r : Fin 128) (k : Fin 512) :
    D.IR (right c) (at4 (j + 1) (by omega) r k) = D.OR c (at4 j (by omega) r k) := by
  show D.outR j (left (right c)) _ = D.outR j c _
  rw [left_right]; rfl
theorem IL_step (c : Dev nD) (j : ℕ) (hj : j < 7) (r : Fin 128) (k : Fin 512) :
    D.IL (left c) (at4 (j + 1) (by omega) r k) = D.OL c (at4 j (by omega) r k) := by
  show D.outL j (right (left c)) _ = D.outL j c _
  rw [right_left]; rfl
theorem FR_step (c : Dev nD) (y : S1x128x512.Idx) : D.FR (right c) y = D.OR c (at4 7 (by omega) (y 1) (y 2)) := by
  show D.outR 7 (left (right c)) _ = D.outR 7 c _
  rw [left_right]; rfl
theorem FL_step (c : Dev nD) (y : S1x128x512.Idx) : D.FL (left c) y = D.OL c (at4 7 (by omega) (y 1) (y 2)) := by
  show D.outL 7 (right (left c)) _ = D.outL 7 c _
  rw [right_left]; rfl

end Data

end Cert.KernelIdeal.Ring

end
-- ==== Proof.Protocol.lean ====
module

public import proofs.«01_k».proof.Proof.Slots

@[expose] public section

/-! The protocol of the ring: every semaphore's duties, what a landing hands over, what a device owes, and in which order it waits.

Row 0 of every device travels right, row 1 left, each device's partial sums of row 0 travel right and of row 1 left. A DMA semaphore is
known here by its number: `6 + j` the departures of row 0 from slot `j`, `14 + j` its arrivals in slot `j`, `22 + j` and `30 + j` those of
row 1, `38 + j` and `46 + j` the departures and arrivals of row 0's sums, `54 + j` and `62 + j` of row 1's, `70` and `71` the arrivals of
the finished rows. -/

noncomputable section

namespace Cert.KernelIdeal.Ring

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The ghost state of the windows' pipeline, of the ring and of the transfers within a device. -/
abbrev UU : Type := UR sig nD τ × (URounds (GSem nD τ sig) Bool × Idealize.SL.ExclCount.Counters)

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) :=
  (Emb.inl : Emb (URounds (GSem nD τ sig) Bool) (URounds (GSem nD τ sig) Bool × Idealize.SL.ExclCount.Counters)).trans embR
abbrev EC : UEmb Idealize.SL.ExclCount.Counters (MT nD τ sig Unit (Elt F) ℕ UU ℕ) := countersEmb

/-! ## Cells -/

/-- DMA semaphore number `n`. -/
def dk (n : ℕ) : DmaSem sig := ⟨n % 72, Nat.mod_lt _ (by decide)⟩
theorem dk_val {n : ℕ} (h : n < 72) : (dk n).val = n := Nat.mod_eq_of_lt h
abbrev dcell (c : Dev nD) (n : ℕ) : GSem nD τ sig := ((c : Thread nD τ), .dma (dk n))
abbrev barS : Sem sig := ⟨0, by decide⟩
abbrev exitS : Sem sig := ⟨1, by decide⟩
abbrev barCell (c : Dev nD) : GSem nD τ sig := ((c : Thread nD τ), .reg barS)
abbrev exitCell (c : Dev nD) : GSem nD τ sig := ((c : Thread nD τ), .reg exitS)

/-- The semaphores' numbers at which a transfer starts or ends. -/
def live (n : ℕ) : Bool := decide (6 ≤ n ∧ n < 72 ∧ n ≠ 13 ∧ n ≠ 14 ∧ n ≠ 29 ∧ n ≠ 30 ∧ n ≠ 46 ∧ n ≠ 62)

/-- What a landed slot credits. -/
abbrev NN : ℕ := (Memref.whole cc0_scratch9 : Memref sig .tc .vmem S1x128x512 .bf16).view.dmaCredit
theorem NN_pos : 0 < NN := View.dmaCredit_pos _ (by decide)

/-- A half share, and the rest. -/
abbrev hA : PosShare TreeShare := fullShare.left
abbrev hB : PosShare TreeShare := fullShare.right

/-- Elements of a buffer of one device. -/
abbrev pts (c : Dev nD) (b : Ref sig .tc) (S : Finset b.ty.Idx) (q : PosShare TreeShare) (f : b.ty.Contents (Elt F)) : sProp 𝕄 :=
  (c : Thread nD τ).loc b ↦[S]{q} f

abbrev xRp (c : Dev nD) (lo hi : ℕ) (q : PosShare TreeShare) (f : (⟨S8x1x128x512, .bf16⟩ : BufTy).Contents (Elt F)) : sProp 𝕄 := pts c cc0_scratch3 (rows lo hi) q f
abbrev xLp (c : Dev nD) (lo hi : ℕ) (q : PosShare TreeShare) (f : (⟨S8x1x128x512, .bf16⟩ : BufTy).Contents (Elt F)) : sProp 𝕄 := pts c cc0_scratch4 (rows lo hi) q f
abbrev iRp (c : Dev nD) (lo hi : ℕ) (q : PosShare TreeShare) (f : (⟨S8x1x128x512, .bf16⟩ : BufTy).Contents (Elt F)) : sProp 𝕄 := pts c cc0_scratch5 (rows lo hi) q f
abbrev iLp (c : Dev nD) (lo hi : ℕ) (q : PosShare TreeShare) (f : (⟨S8x1x128x512, .bf16⟩ : BufTy).Contents (Elt F)) : sProp 𝕄 := pts c cc0_scratch6 (rows lo hi) q f
abbrev oRp (c : Dev nD) (lo hi : ℕ) (q : PosShare TreeShare) (f : (⟨S8x1x128x512, .bf16⟩ : BufTy).Contents (Elt F)) : sProp 𝕄 := pts c cc0_scratch7 (rows lo hi) q f
abbrev oLp (c : Dev nD) (lo hi : ℕ) (q : PosShare TreeShare) (f : (⟨S8x1x128x512, .bf16⟩ : BufTy).Contents (Elt F)) : sProp 𝕄 := pts c cc0_scratch8 (rows lo hi) q f
abbrev fRp (c : Dev nD) (f : (⟨S1x128x512, .bf16⟩ : BufTy).Contents (Elt F)) : sProp 𝕄 := pts c cc0_scratch9 Finset.univ fullShare f
abbrev fLp (c : Dev nD) (f : (⟨S1x128x512, .bf16⟩ : BufTy).Contents (Elt F)) : sProp 𝕄 := pts c cc0_scratch10 Finset.univ fullShare f

/-! ## The schedule -/

variable (D : Data F)

/-- Every scoped cell of device `c` that a neighbour pays is open. -/
def opn (c : Dev nD) : sProp 𝕄 := iprop((bigSep (Finset.Ico 6 72) fun n => reached ER (dcell c n) 0) ∗ reached ER (exitCell c) 0)
instance opn_persistent (c : Dev nD) : BI.Persistent (opn (F := F) c) := by unfold opn; infer_instance

/-- The right neighbour hands the device its slots for what arrives from the left; -/
def barPayR (c : Dev nD) : sProp 𝕄 :=
  iprop((∃ f, xRp (right c) 1 8 fullShare f) ∗ (∃ f, iRp (right c) 1 8 fullShare f) ∗ (∃ f, fRp (right c) f) ∗ opn (right c))
/-- the left neighbour those for what arrives from the right. -/
def barPayL (c : Dev nD) : sProp 𝕄 :=
  iprop((∃ f, xLp (left c) 1 8 fullShare f) ∗ (∃ f, iLp (left c) 1 8 fullShare f) ∗ (∃ f, fLp (left c) f) ∗ opn (left c))

/-- What the landing on DMA semaphore `n` hands over: `k` the array of semaphores, `j` the slot. -/
def payAt (c : Dev nD) (k j : ℕ) : sProp 𝕄 :=
  match k with
  | 0 => xRp c j (j + 1) hA (D.XR c)
  | 1 => xRp c j (j + 1) fullShare (D.XR c)
  | 2 => xLp c j (j + 1) hA (D.XL c)
  | 3 => xLp c j (j + 1) fullShare (D.XL c)
  | 4 => oRp c j (j + 1) fullShare (D.OR c)
  | 5 => iRp c j (j + 1) fullShare (D.IR c)
  | 6 => oLp c j (j + 1) fullShare (D.OL c)
  | 7 => iLp c j (j + 1) fullShare (D.IL c)
  | 8 => if j = 0 then fRp c (D.FR c) else fLp c (D.FL c)
  | _ => iprop(emp)

def pay (c : Dev nD) (n : ℕ) : sProp 𝕄 := payAt D c ((n - 6) / 8) ((n - 6) % 8)

theorem pay_eq (c : Dev nD) (k j : ℕ) (hj : j < 8) : pay D c (6 + 8 * k + j) = payAt D c k j := by
  unfold pay
  rw [show (6 + 8 * k + j - 6) / 8 = k by omega, show (6 + 8 * k + j - 6) % 8 = j by omega]

instance payAt_storable (c : Dev nD) (k j : ℕ) : BI.Storable (upEmb : UEmb _ 𝕄) (payAt (F := F) D c k j) := by
  unfold payAt
  (repeat' split) <;> infer_instance

def duty (sm : SemLoc sig) : Finset Bool :=
  match sm with
  | .reg _ => {false, true}
  | .dma k => if live k.val then {false} else ∅

/-- Every cell runs one round. The entry and the exit barrier have a unit from each neighbour: `false` from the left one, `true` from
    the right one. -/
def Rd : Rounds.Schedule (GSem nD τ sig) Bool 𝕄 where
  duties g r := if r = 0 ∧ g.1.2 = .tc then duty g.2 else ∅
  unitless _ := False
  amount g _ _ := match g.2 with | .reg _ => 1 | .dma _ => NN
  payload g _ d :=
    match g.2 with
    | .reg k => if k.val = 0 then (if d then barPayR g.1.1 else barPayL g.1.1) else iprop(emp)
    | .dma k => pay D g.1.1 k.val
  amount_pos g _ _ _ := by
    split
    · exact Nat.one_pos
    · exact NN_pos

instance Rd_storable (g : GSem nD τ sig) (r : ℕ) (d : Bool) : BI.Storable (upEmb : UEmb _ 𝕄) ((Rd (F := F) D).payload g r d) := by
  show BI.Storable upEmb (match g.2 with
    | .reg k => if k.val = 0 then (if d then barPayR g.1.1 else barPayL g.1.1) else iprop(emp)
    | .dma k => pay D g.1.1 k.val)
  unfold barPayR barPayL opn pay
  (repeat' split) <;> infer_instance

section Sched

variable (c : Dev nD)

theorem live_of {n : ℕ} (h : live n = true) : 6 ≤ n ∧ n < 72 := by
  unfold live at h; have := of_decide_eq_true h; omega

theorem duties_dma {n : ℕ} (h : live n = true) : (Rd (F := F) D).duties (dcell c n) 0 = {false} := by
  have hn := live_of h
  dsimp only [Rd]
  rw [if_pos ⟨rfl, rfl⟩]
  show (if live (dk n).val then ({false} : Finset Bool) else ∅) = _
  rw [dk_val hn.2, if_pos h]
theorem duties_dead {n : ℕ} (hn : n < 72) (h : live n = false) (r : ℕ) : (Rd (F := F) D).duties (dcell c n) r = ∅ := by
  dsimp only [Rd]
  split
  · show (if live (dk n).val then ({false} : Finset Bool) else ∅) = _
    rw [dk_val hn, h]; rfl
  · rfl
theorem duties_bar : (Rd (F := F) D).duties (barCell c) 0 = {false, true} := by dsimp only [Rd]; rw [if_pos ⟨rfl, rfl⟩]; rfl
theorem duties_exit : (Rd (F := F) D).duties (exitCell c) 0 = {false, true} := by dsimp only [Rd]; rw [if_pos ⟨rfl, rfl⟩]; rfl
theorem duties_later (g : GSem nD τ sig) : ∀ r, 1 ≤ r → (Rd (F := F) D).duties g r = ∅ :=
  fun r hr => by dsimp only [Rd]; rw [if_neg (fun h => by omega)]

theorem amount_dma (n : ℕ) (d : Bool) : (Rd (F := F) D).amount (dcell c n) 0 d = NN := rfl
theorem amount_reg (k : Sem sig) (d : Bool) : (Rd (F := F) D).amount ((c : Thread nD τ), .reg k) 0 d = 1 := rfl

theorem expect_dma {n : ℕ} (h : live n = true) : (Rd (F := F) D).expect (dcell c n) 0 = NN := by
  unfold Schedule.expect Schedule.amountOf; rw [duties_dma D c h, Finset.sum_singleton, amount_dma]
theorem expect_bar : (Rd (F := F) D).expect (barCell c) 0 = 2 := by
  unfold Schedule.expect Schedule.amountOf; rw [duties_bar]; rfl
theorem expect_exit : (Rd (F := F) D).expect (exitCell c) 0 = 2 := by
  unfold Schedule.expect Schedule.amountOf; rw [duties_exit]; rfl

theorem payload_dma {n : ℕ} (hn : n < 72) (d : Bool) : (Rd (F := F) D).payload (dcell c n) 0 d = pay D c n := by
  show pay D c (dk n).val = _
  rw [dk_val hn]
theorem payload_barR : (Rd (F := F) D).payload (barCell c) 0 true = barPayR c := rfl
theorem payload_barL : (Rd (F := F) D).payload (barCell c) 0 false = barPayL c := rfl
theorem payload_exit (d : Bool) : (Rd (F := F) D).payload (exitCell c) 0 d = iprop(emp) := rfl

theorem rest_dma {n : ℕ} (h : live n = true) :
    bigSep ((Rd (F := F) D).duties (dcell c n) 0 \ ∅) (fun u => (Rd (F := F) D).payload (dcell c n) 0 u) = pay D c n := by
  rw [Finset.sdiff_empty, duties_dma D c h, bigSep_singleton, payload_dma D c (live_of h).2]
theorem rest_bar : bigSep ((Rd (F := F) D).duties (barCell c) 0 \ ∅) (fun u => (Rd (F := F) D).payload (barCell c) 0 u)
    = iprop(barPayL c ∗ barPayR c) := by
  rw [Finset.sdiff_empty, duties_bar, bigSep_insert (by decide), bigSep_singleton, payload_barL, payload_barR]; rfl

end Sched

/-! ## The levels -/

def L (g : GSem nD τ sig) : Finset Unit := if g.1.2 = .tc then {()} else ∅
/-- The level of DMA semaphore `n`: an arrival in slot `j` at `j + 1`, a finished row above them, the departures below. -/
def lvD (n : ℕ) : ℕ :=
  if n < 14 then 0 else if n < 22 then n - 13 else if n < 30 then 0 else if n < 38 then n - 29
  else if n < 46 then 0 else if n < 54 then n - 45 else if n < 62 then 0 else if n < 70 then n - 61 else 10
def lv (g : GSem nD τ sig) (_ : Unit) : ℕ :=
  match g.2 with
  | .reg k => if k.val = 0 then 1 else 20
  | .dma k => lvD k.val

theorem L_of_ne (g : GSem nD τ sig) (h : g.1.2 ≠ .tc) : L g = ∅ := if_neg h
theorem L_tc (c : Dev nD) (sm : SemLoc sig) : L ((c : Thread nD τ), sm) = {()} := if_pos rfl
theorem lv_dma (c : Dev nD) {n : ℕ} (h : n < 72) : lv (dcell c n) () = lvD n := by
  show lvD (dk n).val = _; rw [dk_val h]
theorem lv_bar (c : Dev nD) : lv (barCell c) () = 1 := rfl
theorem lv_exit (c : Dev nD) : lv (exitCell c) () = 20 := rfl

/-- Everything owed is of a TensorCore, above level `b`. -/
def Above (b : ℕ) (O : CellTallies nD τ sig Unit) : Prop := ∀ g u, 0 < O g u → g.1.2 = .tc ∧ b < lv g u

theorem above_zero (b : ℕ) : Above b 0 := fun _ _ h => absurd h (Nat.lt_irrefl 0)
theorem above_add {b : ℕ} {O O' : CellTallies nD τ sig Unit} (h : Above b O) (h' : Above b O') : Above b (O + O') := by
  intro g u hg
  rw [Pi.add_apply, Finsupp.add_apply] at hg
  rcases Nat.add_pos_iff_pos_or_pos.mp hg with hg | hg
  · exact h g u hg
  · exact h' g u hg
theorem above_tally {b : ℕ} (c : Dev nD) (sm : SemLoc sig) (n : ℕ) (h : b < lv ((c : Thread nD τ), sm) ()) :
    Above b (tallyAt ((c : Thread nD τ), sm) () n) := by
  intro g u hg
  rw [tallyAt_apply] at hg
  split at hg
  · next e => rw [e.1]; exact ⟨rfl, h⟩
  · exact absurd hg (Nat.lt_irrefl 0)
theorem above_sum {b : ℕ} {ι : Type} (S : Finset ι) (f : ι → CellTallies nD τ sig Unit) (h : ∀ i ∈ S, Above b (f i)) :
    Above b (∑ i ∈ S, f i) := by
  classical
  induction S using Finset.induction_on with
  | empty => rw [Finset.sum_empty]; exact above_zero b
  | insert a S ha ih =>
    rw [Finset.sum_insert ha]
    exact above_add (h a (Finset.mem_insert_self _ _)) (ih fun i hi => h i (Finset.mem_insert_of_mem hi))

theorem mayWait (c : Dev nD) (sm : SemLoc sig) (b : ℕ) (hs : lv ((c : Thread nD τ), sm) () ≤ b) (O : CellTallies nD τ sig Unit) (h : Above b O) :
    (levAts L lv : sProp 𝕄) ⊢ MayWait (c : Thread nD τ) sm () O :=
  MayOwe.of_cut (L := L) (lev := lv) b
    (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact hs)
    (fun g u hg => (h g u hg).2)

/-! ## What a device owes -/

/-- Arrivals the device still has to bring about at `c'`, in the slots `lo, …, 7` of the array at number `n`. -/
def oweD (c' : Dev nD) (n lo : ℕ) : CellTallies nD τ sig Unit := ∑ j ∈ Finset.Ico lo 8, tallyAt (dcell c' (n + j)) () NN

theorem oweD_head (c' : Dev nD) (n lo : ℕ) (h : lo < 8) : oweD c' n lo = oweD c' n (lo + 1) + tallyAt (dcell c' (n + lo)) () NN := by
  unfold oweD
  rw [Finset.sum_eq_sum_Ico_succ_bot h, add_comm]
theorem oweD_none (c' : Dev nD) (n lo : ℕ) (h : 8 ≤ lo) : oweD c' n lo = 0 := by
  unfold oweD; rw [Finset.Ico_eq_empty (by omega), Finset.sum_empty]

theorem above_oweD (c' : Dev nD) (n lo b : ℕ) (hn : n + 8 ≤ 72) (h : ∀ j, lo ≤ j → j < 8 → b < lvD (n + j)) : Above b (oweD c' n lo) :=
  above_sum _ _ fun j hj => by
    rw [Finset.mem_Ico] at hj
    exact above_tally _ _ _ (by rw [lv_dma _ (by omega)]; exact h j hj.1 hj.2)

end Cert.KernelIdeal.Ring

end
-- ==== Proof.Steps.lean ====
module

public import proofs.«01_k».proof.Proof.Protocol

@[expose] public section

/-! One operation of the protocol at a time: a departure, a wait, and the transfers of the six kinds. -/

noncomputable section

namespace Cert.KernelIdeal.Ring

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (D : Data F)

/-! ## All the cells -/

/-- A device's scoped cells: the DMA semaphores from number 6 on, and the exit barrier. -/
def scLoc (k : Fin 67) : SemLoc sig := if k.val < 66 then .dma (dk (6 + k.val)) else .reg exitS

theorem scLoc_inj : Function.Injective scLoc := by decide +kernel
theorem scLoc_ne_bar : ∀ k : Fin 67, scLoc k ≠ .reg barS := by decide +kernel

def barEmb : Dev nD ↪ GSem nD τ sig := ⟨fun c => barCell c, fun _ _ h => congrArg (fun g : GSem nD τ sig => g.1.1) h⟩
def scEmb : Dev nD × Fin 67 ↪ GSem nD τ sig :=
  ⟨fun ck => ((ck.1 : Thread nD τ), scLoc ck.2), fun _ _ h =>
    Prod.ext (congrArg (fun g : GSem nD τ sig => g.1.1) h) (scLoc_inj (congrArg Prod.snd h))⟩

def barCells : Finset (GSem nD τ sig) := Finset.univ.map barEmb
def scCells : Finset (GSem nD τ sig) := Finset.univ.map scEmb

theorem bar_mem (c : Dev nD) : barCell c ∈ barCells ∪ scCells :=
  Finset.mem_union_left _ (Finset.mem_map_of_mem barEmb (Finset.mem_univ c))
theorem exit_mem (c : Dev nD) : exitCell c ∈ barCells ∪ scCells :=
  Finset.mem_union_right _ (by
    have h := Finset.mem_map_of_mem scEmb (Finset.mem_univ (c, (66 : Fin 67)))
    have e : scEmb (c, (66 : Fin 67)) = exitCell c := rfl
    rwa [e] at h)
theorem dma_mem (c : Dev nD) {n : ℕ} (h6 : 6 ≤ n) (h : n < 72) : dcell c n ∈ barCells ∪ scCells :=
  Finset.mem_union_right _ (by
    have hm := Finset.mem_map_of_mem scEmb (Finset.mem_univ (c, (⟨n - 6, by omega⟩ : Fin 67)))
    have e : scEmb (c, (⟨n - 6, by omega⟩ : Fin 67)) = dcell c n := by
      show ((c : Thread nD τ), scLoc ⟨n - 6, _⟩) = _
      unfold scLoc
      rw [if_pos (show n - 6 < 66 by omega)]
      show ((c : Thread nD τ), SemLoc.dma (dk (6 + (n - 6)))) = _
      rw [show 6 + (n - 6) = n by omega]
    rwa [e] at hm)

/-- The invariants of all the cells of all the devices; they may be used by everyone. -/
def recs (K : GSem nD τ sig → ℕ) : sProp 𝕄 := bigSep (barCells ∪ scCells) fun g => cellInv ER (Rd D) (K g) g
instance recs_persistent (K : GSem nD τ sig → ℕ) : BI.Persistent (recs D K) := by unfold recs; infer_instance

theorem inv_at (K : GSem nD τ sig → ℕ) {g : GSem nD τ sig} (hg : g ∈ barCells ∪ scCells) : recs D K ⊢ cellInv ER (Rd D) (K g) g :=
  bigSep_elim hg

theorem opn_at (c : Dev nD) {n : ℕ} (h6 : 6 ≤ n) (h : n < 72) : opn (F := F) c ⊢ reached ER (dcell c n) 0 := by
  unfold opn
  exact Laws.sep_elim_left.trans (bigSep_elim (Φ := fun n => (reached ER (dcell c n) 0 : sProp 𝕄)) (Finset.mem_Ico.mpr ⟨h6, h⟩))

/-! ## What is held of a cell -/

/-- The device owes `O`. -/
def ow (c : Dev nD) (O : CellTallies nD τ sig Unit) : sProp 𝕄 := iprop(∃ W, owes (c : Thread nD τ) O W)
/-- Device `c` can wait for the landing on its semaphore `n`. -/
def rtk (c : Dev nD) (n : ℕ) : sProp 𝕄 := iprop(cred (tallyAt (dcell c n) () NN) ∗ atPos ER (dcell c n) 0 ∅ 0)
/-- Device `c` can start the transfer that leaves on its semaphore `n` and arrives on `n'` of device `c'`. -/
def stk (c c' : Dev nD) (n n' : ℕ) : sProp 𝕄 := iprop(dutyTok ER (dcell c n) 0 false ∗ dutyTok ER (dcell c' n') 0 false ∗ atPos ER (dcell c n) 0 ∅ 0)

abbrev 𝒱₀ : Variants := Variants.none

theorem close (κ : ℕ) (g : GSem nD τ sig) :
    iprop(cellInv ER (Rd D) κ g ∗ atPos ER g (0 + 1) ∅ 0) ⊢ (|={Set.univ}=> semVal g 0 : sProp 𝕄) :=
  Rounds.cell_close ER (Rd D) (Set.mem_univ κ) id (duties_later D g)

/-- A wait for a landing, owing only what lies above: what the landing hands over, and the semaphore, back at zero. -/
theorem wait_dma (K : GSem nD τ sig → ℕ) (c : Dev nD) {n : ℕ} (hl : live n = true) {sp sp' : Space} {s s' : Shape} {e e' : EltTy}
    {src : Memref sig .tc sp s e} {dst : Memref sig .tc sp' s' e'} {sem : DmaSem sig}
    {h₁ : src.view.WordExact} {h₂ : dst.view.WordExact} (hs : sem = dk n) (hN : dst.view.dmaCredit = NN)
    (O : CellTallies nD τ sig Unit) (hab : Above (lvD n) O) {α : Type}
    {k : PUnit → Prog (TpuEff nD τ sig (Elt F) Λ₀ .tc) α} {Q : α → sProp 𝕄} :
    iprop(recs D K ∗ levAts L lv ∗ rtk c n ∗ ow c O)
      ⊢ iprop(((ow c O ∗ semVal (dcell c n) 0 ∗ pay D c n) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sem src dst h₁ h₂) k) Q) := by
  subst hs
  have hn := live_of hl
  unfold rtk ow
  iintro ⟨#HI, #Hlev, ⟨Hc, Hat⟩, ⟨%W, HO⟩⟩ Hk
  iapply (Rounds.wp_wait_rest_token 𝒱₀ ER (Rd D) (c : Thread nD τ) none (κ := K (dcell c n)) (sm := .dma (dk n))
      (wpE_waitDma2_eq 𝒱₀ (c : Thread nD τ) none Set.univ) (Set.mem_univ _) () (O := O) (W := W) (R := 0) (m := 0) (T := ∅)
      ((Nat.zero_add _).trans (hN.trans (expect_dma D c hl).symm))) $$ [Hc HO Hat]
  · isplitr; · iapply (inv_at D K (dma_mem c hn.1 hn.2)); iexact HI
    isplitl [Hc]; · rw [hN]; iexact Hc
    isplitl [HO]; · iexact HO
    isplitr; · iapply (mayWait c (.dma (dk n)) (lvD n) (le_of_eq (lv_dma c hn.2)) O hab); iexact Hlev
    iexact Hat
  iintro ⟨HO, Hat, -, Hpay⟩
  imod (close D (K (dcell c n)) (dcell c n)) $$ [Hat] with Hs
  · isplitr; · iapply (inv_at D K (dma_mem c hn.1 hn.2)); iexact HI
    iexact Hat
  iapply Hk
  isplitl [HO]; · iexists _; iexact HO
  isplitl [Hs]; · iexact Hs
  iapply (Entails.of_eq (rest_dma D c hl)) $$ Hpay

/-- A transfer to a neighbour: the source's share goes back at the departure's wait, the destination at the neighbour's. -/
theorem send_dma (K : GSem nD τ sig → ℕ) (c c' : Dev nD) {n n' : ℕ} (hl : live n = true) (hl' : live n' = true) {sp sp' : Space} {s : Shape} {e : EltTy}
    {src : Memref sig .tc sp s e} {c'' : Dev nD} {dst : Memref sig (Dev.tc c'' : Thread nD τ).2.kind sp' s e} {hsc : dst.view.ref.isScScratch = false}
    {sS sem : DmaSem sig}
    {h₁ : src.view.WordExact} {h₂ : dst.view.WordExact} {h₃ : DmaTarget.Typed sp (.dma sem) (.remote (Dev.tc c'' : Thread nD τ) dst (.dma sS) hsc)}
    (hc : c'' = c') (hsS : sS = dk n) (hsem : sem = dk n') (hN : dst.view.dmaCredit = NN) {q : PosShare TreeShare}
    (fs : Buf (Elt F) (src.view.loc (c : Thread nD τ))) (fd : Buf (Elt F) (dst.view.loc (Dev.tc c'' : Thread nD τ)))
    (O₀ O : CellTallies nD τ sig Unit) (hO : O₀ = O + tallyAt (dcell c' n') () NN)
    (hp₁ : (src.view.loc (c : Thread nD τ) ↦[src.view.set]{q} fs) ⊢ pay D c n)
    (hp₂ : (dst.view.loc (Dev.tc c'' : Thread nD τ) ↦[dst.view.set]{fullShare} (dst.view.write (Elt F) fd (src.view.read (Elt F) fs) Finset.univ)) ⊢ pay D c' n')
    {α : Type} {k : PUnit → Prog (TpuEff nD τ sig (Elt F) Λ₀ .tc) α} {Q : α → sProp 𝕄} :
    iprop(recs D K ∗ opn c ∗ opn c' ∗ (src.view.loc (c : Thread nD τ) ↦[src.view.set]{q} fs)
        ∗ (dst.view.loc (Dev.tc c'' : Thread nD τ) ↦[dst.view.set]{fullShare} fd) ∗ stk c c' n n' ∗ ow c O₀)
      ⊢ iprop(((rtk c n ∗ ow c O) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma src (.remote (Dev.tc c'' : Thread nD τ) dst (.dma sS) hsc) (.dma sem) h₁ h₂ h₃) k) Q) := by
  subst hc hsS hsem
  have hn := live_of hl
  have hn' := live_of hl'
  unfold stk ow rtk
  iintro ⟨#HI, #Ho, #Ho', Hs, Hd, ⟨Ht, Ht', Hat⟩, ⟨%W, HO⟩⟩ Hk
  iapply (Rounds.wp_send_pointsTo 𝒱₀ ER (Rd D) (c : Thread nD τ) none (c' := (Dev.tc c'' : Thread nD τ)) (src := src) (dst := dst)
      (sS := .dma (dk n)) (sem := .dma (dk n')) (q := q) (fs := fs) (κ₁ := K (dcell c n)) (κ₂ := K (dcell c'' n'))
      (r₁ := 0) (r₂ := 0) (d₁ := false) (d₂ := false) (fd := fd)
      (by rw [duties_dma D c hl]; exact Finset.mem_singleton_self _) (by rw [duties_dma D c'' hl']; exact Finset.mem_singleton_self _)
      () () NN hN (amount_dma D c n false) (amount_dma D c'' n' false) O hO (W := W)
      (by rw [payload_dma D c hn.2]; exact hp₁)
      (by rw [payload_dma D c'' hn'.2]; exact hp₂)) $$ [Hs Hd HO Ht Ht']
  · isplitr; · iapply (inv_at D K (dma_mem c hn.1 hn.2)); iexact HI
    isplitr; · iapply (inv_at D K (dma_mem c'' hn'.1 hn'.2)); iexact HI
    isplitl [Hs]; · iexact Hs
    isplitl [Hd]; · iexact Hd
    isplitl [HO]; · iexact HO
    isplitl [Ht]; · iexact Ht
    isplitr; · iapply (opn_at c hn.1 hn.2); iexact Ho
    isplitl [Ht']; · iexact Ht'
    iapply (opn_at c'' hn'.1 hn'.2); iexact Ho'
  iintro ⟨Hc, HO⟩
  iapply Hk
  isplitl [Hc Hat]
  · isplitl [Hc] <;> iassumption
  iexists _; iexact HO

/-! ## The semaphores' numbers -/

theorem sem_slot (b : ℕ) (h : b + S8.numel ≤ 72) (off : Fin 1 → ℕ) (j : ℕ) (hoff : off = ![j]) (hj : j < 8) (inb) (hq) :
    (((SemArray.consecutive b S8 h : DmaSems sig S8).slice (Rect.unit (s := S8) off S1.size inb)).squeeze S_ hq).sem = dk (b + j) := by
  subst hoff
  apply Fin.ext
  have hS : S8.numel = 8 := by decide
  rw [dk_val (by omega)]
  show b + (S8.rowMajor ((Rect.unit (s := S8) ![j] S1.size inb).emb (Shape.reshapeEquiv _ _))).val = b + j
  rw [Shape.rowMajor_val_one, Rect.emb_apply]
  have h1 : ∀ y : S1.Idx, (y 0).val = 0 := fun y => by have : (y 0).val < 1 := (y 0).isLt; omega
  rw [h1]
  rfl

theorem sem_one (b : ℕ) (hb : b < 72) (h : b + S_.numel ≤ 72) : ((SemArray.consecutive b S_ h : DmaSems sig S_)).sem = dk b := by
  apply Fin.ext
  rw [dk_val hb]
  show b + (S_.rowMajor _).val = b
  have hS : S_.numel = 1 := by decide
  have := (S_.rowMajor (fun i => i.elim0)).isLt
  omega

end Cert.KernelIdeal.Ring

end
-- ==== Proof.Slot.lean ====
module

public import proofs.«01_k».proof.Proof.Steps

@[expose] public section

/-! A slot of a ring buffer: its elements in hand, its transfer to a slot of a neighbour, its load and its store. -/

noncomputable section

namespace Cert.KernelIdeal.Ring

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## Families and pieces -/

theorem sep_head {lo hi : ℕ} (h : lo < hi) (Φ : ℕ → sProp 𝕄) :
    bigSep (Finset.Ico lo hi) Φ = iprop(Φ lo ∗ bigSep (Finset.Ico (lo + 1) hi) Φ) := by
  rw [← Finset.insert_Ico_add_one_left_eq_Ico h]
  exact bigSep_insert (by simp)
theorem sep_last {lo hi : ℕ} (h : lo ≤ hi) (Φ : ℕ → sProp 𝕄) :
    bigSep (Finset.Ico lo (hi + 1)) Φ = iprop(Φ hi ∗ bigSep (Finset.Ico lo hi) Φ) := by
  rw [← Finset.insert_Ico_right_eq_Ico_add_one h]
  exact bigSep_insert (by simp)
theorem sep_none {lo hi : ℕ} (h : hi ≤ lo) (Φ : ℕ → sProp 𝕄) : bigSep (Finset.Ico lo hi) Φ = iprop(emp) := by
  rw [Finset.Ico_eq_empty (by omega)]; rfl

section Pieces

variable {ℓ : Loc nD τ sig} {q : PosShare TreeShare}

theorem cut (I J K : Finset (Idx ℓ)) (f : Buf (Elt F) ℓ) (h : K = I ∪ J) (hd : Disjoint I J) :
    (ℓ ↦[K]{q} f : sProp 𝕄) = iprop((ℓ ↦[I]{q} f) ∗ ℓ ↦[J]{q} f) := by
  rw [h]; exact Idealize.SL.BI.equiv_iff.mp ⟨(pointsTo_union hd).mp, (pointsTo_union hd).mpr⟩

theorem halve (I : Finset (Idx ℓ)) (f : Buf (Elt F) ℓ) :
    (ℓ ↦[I]{fullShare} f : sProp 𝕄) = iprop((ℓ ↦[I]{hA} f) ∗ ℓ ↦[I]{hB} f) :=
  Idealize.SL.BI.equiv_iff.mp ⟨(pointsTo_share (PosShare.mem_left_op_right fullShare)).mp, (pointsTo_share (PosShare.mem_left_op_right fullShare)).mpr⟩

end Pieces

/-! ## Slots -/

/-- Slot `off` of the ring buffer `b`, as the transfers name it. -/
abbrev slot (b : Memref sig .tc .vmem S8x1x128x512 .bf16) (off : Fin 4 → ℕ) (inb : ∀ a, off a + S1x1x128x512.size a ≤ S8x1x128x512.size a) :
    Memref sig .tc .vmem S1x128x512 .bf16 :=
  (b.slice (Rect.unit (s := S8x1x128x512) off S1x1x128x512.size inb) (fun _ => rfl)).squeeze S1x128x512 Gen.squeezes_S1x1x128x512_S1x128x512

theorem slot_credit (b : Memref sig .tc .vmem S8x1x128x512 .bf16) (off : Fin 4 → ℕ) (inb) : (slot b off inb).view.dmaCredit = NN := rfl

theorem slot_view_set (b : Memref sig .tc .vmem S8x1x128x512 .bf16) (off : Fin 4 → ℕ) (j : ℕ) (hoff : off = ![j, 0, 0, 0]) (hj : j < 8) (inb) :
    (slot b off inb).view.set = (rows j (j + 1)).map b.view.emb := slot_set b.view off j hoff hj _ _

theorem slot_read (b : Memref sig .tc .vmem S8x1x128x512 .bf16) (off : Fin 4 → ℕ) (j : ℕ) (hoff : off = ![j, 0, 0, 0]) (hj : j < 8) (inb)
    (f : b.view.ty.Contents (Elt F)) (y : S1x128x512.Idx) :
    (slot b off inb).view.read (Elt F) f y = b.view.read (Elt F) f (at4 j hj (y 1) (y 2)) := by
  have e : (slot b off inb).view.emb y = b.view.emb (at4 j hj (y 1) (y 2)) := slot_emb b.view off j hoff hj inb _ y
  rw [View.read_apply, View.read_apply]
  exact congrArg (fun i => _root_.cast (congrArg (Elt F) b.view.elt_eq) (f i)) e

variable (D : Data F)

/-- A slot of one ring buffer sent to a slot of a neighbour's. -/
theorem send_slot (K : GSem nD τ sig → ℕ) (c c' : Dev nD) {n n' : ℕ} (hl : live n = true) (hl' : live n' = true)
    (b b' : Memref sig .tc .vmem S8x1x128x512 .bf16)
    (off off' : Fin 4 → ℕ) (j j' : ℕ) (hoff : off = ![j, 0, 0, 0]) (hoff' : off' = ![j', 0, 0, 0]) (hj : j < 8) (hj' : j' < 8) {inb inb'}
    {c'' : Dev nD} {hsc : (slot b' off' inb').view.ref.isScScratch = false} {sS sem : DmaSem sig}
    {h₁ : (slot b off inb).view.WordExact} {h₂ : (slot b' off' inb').view.WordExact}
    {h₃ : DmaTarget.Typed .vmem (.dma sem) (.remote (Dev.tc c'' : Thread nD τ) (slot b' off' inb') (.dma sS) hsc)}
    (hc : c'' = c') (hsS : sS = dk n) (hsem : sem = dk n') {q : PosShare TreeShare}
    (fs : Buf (Elt F) (b.view.loc (c : Thread nD τ))) (fd G : Buf (Elt F) (b'.view.loc (Dev.tc c' : Thread nD τ)))
    (hG : ∀ y : S1x128x512.Idx, b'.view.read (Elt F) G (at4 j' hj' (y 1) (y 2)) = b.view.read (Elt F) fs (at4 j hj (y 1) (y 2)))
    (O₀ O : CellTallies nD τ sig Unit) (hO : O₀ = O + tallyAt (dcell c' n') () NN)
    (hp₁ : (b.view.loc (c : Thread nD τ) ↦[(rows j (j + 1)).map b.view.emb]{q} fs) ⊢ pay D c n)
    (hp₂ : (b'.view.loc (Dev.tc c' : Thread nD τ) ↦[(rows j' (j' + 1)).map b'.view.emb]{fullShare} G) ⊢ pay D c' n')
    {α : Type} {k : PUnit → Prog (TpuEff nD τ sig (Elt F) Λ₀ .tc) α} {Q : α → sProp 𝕄} :
    iprop(recs D K ∗ opn c ∗ opn c' ∗ (b.view.loc (c : Thread nD τ) ↦[(rows j (j + 1)).map b.view.emb]{q} fs)
        ∗ (b'.view.loc (Dev.tc c' : Thread nD τ) ↦[(rows j' (j' + 1)).map b'.view.emb]{fullShare} fd) ∗ stk c c' n n' ∗ ow c O₀)
      ⊢ iprop(((rtk c n ∗ ow c O) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (slot b off inb) (.remote (Dev.tc c'' : Thread nD τ) (slot b' off' inb') (.dma sS) hsc) (.dma sem) h₁ h₂ h₃) k) Q) := by
  subst hc
  have e := slot_view_set b off j hoff hj inb
  have e' := slot_view_set b' off' j' hoff' hj' inb'
  rw [← e, ← e']
  refine send_dma D K c c'' hl hl' (src := slot b off inb) (dst := slot b' off' inb') rfl hsS hsem rfl (q := q) fs fd O₀ O hO
    (by rw [e]; exact hp₁) ?_
  refine (Entails.of_eq (pointsTo_congr ?_)).trans (by rw [e']; exact hp₂)
  refine landed_eq (slot b' off' inb').view _ fd G fun y => ?_
  rw [slot_read b' off' j' hoff' hj', hG y, ← slot_read b off j hoff hj inb]

/-- A slot of a ring buffer sent to a neighbour's whole buffer of one slot. -/
theorem send_last (K : GSem nD τ sig → ℕ) (c c' : Dev nD) {n n' : ℕ} (hl : live n = true) (hl' : live n' = true)
    (b : Memref sig .tc .vmem S8x1x128x512 .bf16) (b' : Memref sig .tc .vmem S1x128x512 .bf16)
    (off : Fin 4 → ℕ) (j : ℕ) (hoff : off = ![j, 0, 0, 0]) (hj : j < 8) {inb} (hN : b'.view.dmaCredit = NN)
    {c'' : Dev nD} {hsc : b'.view.ref.isScScratch = false} {sS sem : DmaSem sig}
    {h₁ : (slot b off inb).view.WordExact} {h₂ : b'.view.WordExact}
    {h₃ : DmaTarget.Typed .vmem (.dma sem) (.remote (Dev.tc c'' : Thread nD τ) b' (.dma sS) hsc)}
    (hc : c'' = c') (hsS : sS = dk n) (hsem : sem = dk n') {q : PosShare TreeShare}
    (fs : Buf (Elt F) (b.view.loc (c : Thread nD τ))) (fd G : Buf (Elt F) (b'.view.loc (Dev.tc c' : Thread nD τ)))
    (hG : ∀ y : S1x128x512.Idx, b'.view.read (Elt F) G y = b.view.read (Elt F) fs (at4 j hj (y 1) (y 2)))
    (O₀ O : CellTallies nD τ sig Unit) (hO : O₀ = O + tallyAt (dcell c' n') () NN)
    (hp₁ : (b.view.loc (c : Thread nD τ) ↦[(rows j (j + 1)).map b.view.emb]{q} fs) ⊢ pay D c n)
    (hp₂ : (b'.view.loc (Dev.tc c' : Thread nD τ) ↦[b'.view.set]{fullShare} G) ⊢ pay D c' n')
    {α : Type} {k : PUnit → Prog (TpuEff nD τ sig (Elt F) Λ₀ .tc) α} {Q : α → sProp 𝕄} :
    iprop(recs D K ∗ opn c ∗ opn c' ∗ (b.view.loc (c : Thread nD τ) ↦[(rows j (j + 1)).map b.view.emb]{q} fs)
        ∗ (b'.view.loc (Dev.tc c' : Thread nD τ) ↦[b'.view.set]{fullShare} fd) ∗ stk c c' n n' ∗ ow c O₀)
      ⊢ iprop(((rtk c n ∗ ow c O) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (slot b off inb) (.remote (Dev.tc c'' : Thread nD τ) b' (.dma sS) hsc) (.dma sem) h₁ h₂ h₃) k) Q) := by
  subst hc
  have e := slot_view_set b off j hoff hj inb
  rw [← e]
  refine send_dma D K c c'' hl hl' (src := slot b off inb) (dst := b') rfl hsS hsem hN (q := q) fs fd O₀ O hO
    (by rw [e]; exact hp₁) ?_
  refine (Entails.of_eq (pointsTo_congr ?_)).trans hp₂
  refine landed_eq b'.view _ fd G fun y => ?_
  rw [hG y, ← slot_read b off j hoff hj inb]

/-- The load of a slot. -/
theorem load_slot (c : Dev nD) (b : Memref sig .tc .vmem S8x1x128x512 .bf16) (off : Fin 4 → ℕ) (j : ℕ) (hoff : off = ![j, 0, 0, 0]) (hj : j < 8) {inb}
    {hl : b.view.LoadsAt (Rect.unit (s := S8x1x128x512) off S1x1x128x512.size inb).toLoadRect}
    (I : Finset S8x1x128x512.Idx) (hI : rows j (j + 1) ⊆ I) {q : PosShare TreeShare} (f : Buf (Elt F) (b.view.loc (c : Thread nD τ)))
    (u : (⟨S1x1x128x512, .bf16⟩ : BufTy).Contents (Elt F)) (hu : ∀ y : S1x1x128x512.Idx, b.view.read (Elt F) f (at4 j hj (y 2) (y 3)) = u y)
    {α : Type} {k : (S1x1x128x512.Idx → Elt F .bf16) → Prog (TpuEff nD τ sig (Elt F) Λ₀ .tc) α} {Q : α → sProp 𝕄} :
    (b.view.loc (c : Thread nD τ) ↦[I.map b.view.emb]{q} f)
      ⊢ iprop(((b.view.loc (c : Thread nD τ) ↦[I.map b.view.emb]{q} f) -∗ wp frame (wpE (defs₀ (F := F)) 𝒱₀ (c : Thread nD τ) none) Set.univ (k u) Q)
        -∗ wp frame (wpE (defs₀ (F := F)) 𝒱₀ (c : Thread nD τ) none) Set.univ
            (.op (.load b (Rect.unit (s := S8x1x128x512) off S1x1x128x512.size inb).toLoadRect hl) k) Q) := by
  have hr : (b.access (Rect.unit (s := S8x1x128x512) off S1x1x128x512.size inb)).read (Elt F) f = u := by
    funext y
    have e : (b.access (Rect.unit (s := S8x1x128x512) off S1x1x128x512.size inb)).emb y = b.view.emb (at4 j hj (y 2) (y 3)) :=
      congrArg b.view.emb (acc_emb off j hoff hj inb y)
    rw [← hu y, View.read_apply, View.read_apply]
    exact congrArg (fun i => _root_.cast (congrArg (Elt F) b.view.elt_eq) (f i)) e
  rw [← hr]
  refine wp_load_rect 𝒱₀ (c : Thread nD τ) none Set.univ (m := b) (r := Rect.unit (s := S8x1x128x512) off S1x1x128x512.size inb)
    (S := I.map b.view.emb) (q := q) (f := f) (k := k) (Q := Q) ?_
  rw [View.set_slice, acc_set off j hoff hj inb]
  exact Finset.map_subset_map.mpr hI

/-- The store of a slot. -/
theorem store_slot (c : Dev nD) (b : Memref sig .tc .vmem S8x1x128x512 .bf16) (off : Fin 4 → ℕ) (j : ℕ) (hoff : off = ![j, 0, 0, 0]) (hj : j < 8) {inb}
    {w : (⟨S1x1x128x512, .bf16⟩ : BufTy).Contents (Elt F)} {hx : (b.access (Rect.unit (s := S8x1x128x512) off S1x1x128x512.size inb)).Stores Finset.univ} {hm}
    (f G : Buf (Elt F) (b.view.loc (c : Thread nD τ)))
    (hG : ∀ y : S1x1x128x512.Idx, b.view.read (Elt F) G (at4 j hj (y 2) (y 3)) = w y)
    {α : Type} {k : PUnit → Prog (TpuEff nD τ sig (Elt F) Λ₀ .tc) α} {Q : α → sProp 𝕄} :
    (b.view.loc (c : Thread nD τ) ↦[(rows j (j + 1)).map b.view.emb]{fullShare} f)
      ⊢ iprop(((b.view.loc (c : Thread nD τ) ↦[(rows j (j + 1)).map b.view.emb]{fullShare} G)
          -∗ wp frame (wpE (defs₀ (F := F)) 𝒱₀ (c : Thread nD τ) none) Set.univ (k ⟨⟩) Q)
        -∗ wp frame (wpE (defs₀ (F := F)) 𝒱₀ (c : Thread nD τ) none) Set.univ
            (.op (.store b (Rect.unit (s := S8x1x128x512) off S1x1x128x512.size inb) w Finset.univ hx hm) k) Q) := by
  have hs : (b.access (Rect.unit (s := S8x1x128x512) off S1x1x128x512.size inb)).set = (rows j (j + 1)).map b.view.emb := by
    rw [View.set_slice, acc_set off j hoff hj inb]
  have hw : (b.view.loc (c : Thread nD τ) ↦[(rows j (j + 1)).map b.view.emb]{fullShare} G : sProp 𝕄)
      = (b.view.loc (c : Thread nD τ) ↦[(rows j (j + 1)).map b.view.emb]{fullShare}
          ((b.access (Rect.unit (s := S8x1x128x512) off S1x1x128x512.size inb)).write (Elt F) f w Finset.univ)) := by
    rw [← hs]
    refine (pointsTo_congr ?_).symm
    refine landed_eq (b.access (Rect.unit (s := S8x1x128x512) off S1x1x128x512.size inb)) w f G fun y => ?_
    have e : (b.access (Rect.unit (s := S8x1x128x512) off S1x1x128x512.size inb)).emb y = b.view.emb (at4 j hj (y 2) (y 3)) :=
      congrArg b.view.emb (acc_emb off j hoff hj inb y)
    rw [← hG y, View.read_apply, View.read_apply]
    exact congrArg (fun i => _root_.cast (congrArg (Elt F) b.view.elt_eq) (G i)) e
  rw [hw, ← hs]
  exact wp_store 𝒱₀ (c : Thread nD τ) none Set.univ (m := b) (r := Rect.unit (s := S8x1x128x512) off S1x1x128x512.size inb)
    (w := w) (Mk := Finset.univ) (hx := hx) (hm := hm)
    (S := (b.access (Rect.unit (s := S8x1x128x512) off S1x1x128x512.size inb)).set) (f := f) (k := k) (Q := Q) (Finset.Subset.refl _)

end Cert.KernelIdeal.Ring

end
-- ==== Proof.Row.lean ====
module

public import proofs.«01_k».proof.Proof.Slot

@[expose] public section

/-! A ring, the one that runs right or the one that runs left: the state of a device before and in every trip, and each step from one
to the next. -/

noncomputable section

namespace Cert.KernelIdeal.Ring

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (D : Data F)

/-! ## The two rings -/

abbrev m3 : Memref sig .tc .vmem S8x1x128x512 .bf16 := Memref.whole cc0_scratch3
abbrev m4 : Memref sig .tc .vmem S8x1x128x512 .bf16 := Memref.whole cc0_scratch4
abbrev m5 : Memref sig .tc .vmem S8x1x128x512 .bf16 := Memref.whole cc0_scratch5
abbrev m6 : Memref sig .tc .vmem S8x1x128x512 .bf16 := Memref.whole cc0_scratch6
abbrev m7 : Memref sig .tc .vmem S8x1x128x512 .bf16 := Memref.whole cc0_scratch7
abbrev m8 : Memref sig .tc .vmem S8x1x128x512 .bf16 := Memref.whole cc0_scratch8
abbrev m9 : Memref sig .tc .vmem S1x128x512 .bf16 := Memref.whole cc0_scratch9
abbrev m10 : Memref sig .tc .vmem S1x128x512 .bf16 := Memref.whole cc0_scratch10

/-- The ring buffers: the rows, the sums that come in and the sums that go out, of the ring that runs right (`true`) and of the one
    that runs left (`false`). -/
inductive Ring8 where
  | x (b : Bool)
  | i (b : Bool)
  | o (b : Bool)

/-- The buffer itself. -/
abbrev mem : Ring8 → Memref sig .tc .vmem S8x1x128x512 .bf16
  | .x true => m3
  | .x false => m4
  | .i true => m5
  | .i false => m6
  | .o true => m7
  | .o false => m8
/-- The slots `lo, …, hi - 1` of a ring buffer of device `c`. -/
abbrev held (w : Ring8) (c : Dev nD) (lo hi : ℕ) (q : PosShare TreeShare) (f : (⟨S8x1x128x512, .bf16⟩ : BufTy).Contents (Elt F)) : sProp 𝕄 :=
  match w with
  | .x true => xRp c lo hi q f
  | .x false => xLp c lo hi q f
  | .i true => iRp c lo hi q f
  | .i false => iLp c lo hi q f
  | .o true => oRp c lo hi q f
  | .o false => oLp c lo hi q f
/-- A ring buffer's contents, as the buffer's own view has them. -/
def cont (w : Ring8) (f : (⟨S8x1x128x512, .bf16⟩ : BufTy).Contents (Elt F)) (c : Dev nD) : Buf (Elt F) ((mem w).view.loc (c : Thread nD τ)) :=
  match w with
  | .x true => f
  | .x false => f
  | .i true => f
  | .i false => f
  | .o true => f
  | .o false => f

section Held

variable (w : Ring8) (c : Dev nD) (lo mid hi : ℕ) (q : PosShare TreeShare) (f : (⟨S8x1x128x512, .bf16⟩ : BufTy).Contents (Elt F))

/-- The elements of a buffer, through its whole view. -/
theorem pts_whole (r : Ref sig .tc) (I : Finset r.ty.Idx) (f : r.ty.Contents (Elt F)) :
    (pts c r I q f : sProp 𝕄) = ((c : Thread nD τ).loc r ↦[I.map (Function.Embedding.refl _)]{q} f) := by
  rw [Finset.map_refl]

theorem held_eq : (held w c lo hi q f : sProp 𝕄) = ((mem w).view.loc (c : Thread nD τ) ↦[(rows lo hi).map (mem w).view.emb]{q} cont w f c) := by
  rcases w with b | b | b <;> cases b <;> exact pts_whole c q _ _ _
theorem read_cont (y : S8x1x128x512.Idx) : (mem w).view.read (Elt F) (cont w f c) y = f y := by
  rcases w with b | b | b <;> cases b <;> rfl
theorem cut_held (w : Ring8) (c : Dev nD) (lo mid hi : ℕ) (h : lo ≤ mid) (h' : mid ≤ hi) (q : PosShare TreeShare)
    (f : (⟨S8x1x128x512, .bf16⟩ : BufTy).Contents (Elt F)) : (held w c lo hi q f : sProp 𝕄) = iprop(held w c lo mid q f ∗ held w c mid hi q f) := by
  rw [held_eq, held_eq, held_eq]
  exact cut _ _ _ _ (by rw [rows_union h h', Finset.map_union]) ((Finset.disjoint_map _).mpr (rows_disjoint _ _ _ _ (le_refl mid)))
theorem halve_held : (held w c lo hi fullShare f : sProp 𝕄) = iprop(held w c lo hi hA f ∗ held w c lo hi hB f) := by
  rw [held_eq, held_eq, held_eq]
  exact halve _ _
/-- No slot is nothing. -/
theorem held_none (h : hi ≤ lo) : (held w c lo hi q f : sProp 𝕄) = iprop(emp) := by
  rw [held_eq, rows_empty h, Finset.map_empty]
  exact pointsTo_empty

end Held

/-- The buffer of the finished row. -/
abbrev last : Bool → Memref sig .tc .vmem S1x128x512 .bf16
  | true => m9
  | false => m10
abbrev done (b : Bool) (c : Dev nD) (f : (⟨S1x128x512, .bf16⟩ : BufTy).Contents (Elt F)) : sProp 𝕄 :=
  match b with
  | true => fRp c f
  | false => fLp c f
def contLast (b : Bool) (f : (⟨S1x128x512, .bf16⟩ : BufTy).Contents (Elt F)) (c : Dev nD) : Buf (Elt F) ((last b).view.loc (c : Thread nD τ)) :=
  match b with
  | true => f
  | false => f
theorem done_eq (b : Bool) (c : Dev nD) (f : (⟨S1x128x512, .bf16⟩ : BufTy).Contents (Elt F)) :
    (done b c f : sProp 𝕄) = ((last b).view.loc (c : Thread nD τ) ↦[(last b).view.set]{fullShare} contLast b f c) := by
  cases b <;> (rw [View.set_whole]; rfl)
theorem read_contLast (b : Bool) (c : Dev nD) (f : (⟨S1x128x512, .bf16⟩ : BufTy).Contents (Elt F)) (y : S1x128x512.Idx) :
    (last b).view.read (Elt F) (contLast b f c) y = f y := by cases b <;> rfl
theorem last_credit (b : Bool) : (last b).view.dmaCredit = NN := by cases b <;> rfl

/-- The neighbour a ring sends to, the device a row comes from, -/
abbrev next (b : Bool) (c : Dev nD) : Dev nD := match b with | true => right c | false => left c
abbrev far (b : Bool) (c : Dev nD) (t : ℕ) : Dev nD := match b with | true => back c t | false => fwd c t
/-- and the numbers of the semaphores: the rows' departures and arrivals, the sums', and the finished row's arrival. -/
abbrev xOut (b : Bool) : ℕ := match b with | true => 6 | false => 22
abbrev xIn (b : Bool) : ℕ := match b with | true => 14 | false => 30
abbrev aOut (b : Bool) : ℕ := match b with | true => 38 | false => 54
abbrev aIn (b : Bool) : ℕ := match b with | true => 46 | false => 62
abbrev fIn (b : Bool) : ℕ := match b with | true => 70 | false => 71

namespace Data

abbrev x (b : Bool) : Dev nD → (⟨S1x1x128x512, .bf16⟩ : BufTy).Contents (Elt F) := match b with | true => D.xR | false => D.xL
abbrev inn (b : Bool) : ℕ → Dev nD → (⟨S1x1x128x512, .bf16⟩ : BufTy).Contents (Elt F) := match b with | true => D.inR | false => D.inL
abbrev out (b : Bool) : ℕ → Dev nD → (⟨S1x1x128x512, .bf16⟩ : BufTy).Contents (Elt F) := match b with | true => D.outR | false => D.outL
abbrev X (b : Bool) : Dev nD → (⟨S8x1x128x512, .bf16⟩ : BufTy).Contents (Elt F) := match b with | true => D.XR | false => D.XL
abbrev I (b : Bool) : Dev nD → (⟨S8x1x128x512, .bf16⟩ : BufTy).Contents (Elt F) := match b with | true => D.IR | false => D.IL
abbrev O (b : Bool) : Dev nD → (⟨S8x1x128x512, .bf16⟩ : BufTy).Contents (Elt F) := match b with | true => D.OR | false => D.OL
abbrev Z (b : Bool) : Dev nD → (⟨S1x128x512, .bf16⟩ : BufTy).Contents (Elt F) := match b with | true => D.FR | false => D.FL

variable (b : Bool) (c : Dev nD) (j : ℕ)

theorem X_at (hj : j < 8) (y : S1x1x128x512.Idx) : D.X b c (at4 j hj (y 2) (y 3)) = D.x b (far b c j) y := by cases b <;> exact congrArg _ (in4_eq y)
theorem I_at (hj : j < 8) (y : S1x1x128x512.Idx) : D.I b c (at4 j hj (y 2) (y 3)) = D.inn b j c y := by cases b <;> exact congrArg _ (in4_eq y)
theorem O_at (hj : j < 8) (y : S1x1x128x512.Idx) : D.O b c (at4 j hj (y 2) (y 3)) = D.out b j c y := by cases b <;> exact congrArg _ (in4_eq y)
theorem X_step (hj : j < 7) (r : Fin 128) (k : Fin 512) : D.X b (next b c) (at4 (j + 1) (by omega) r k) = D.X b c (at4 j (by omega) r k) := by
  cases b
  · exact D.XL_step c j hj r k
  · exact D.XR_step c j hj r k
theorem I_step (hj : j < 7) (r : Fin 128) (k : Fin 512) : D.I b (next b c) (at4 (j + 1) (by omega) r k) = D.O b c (at4 j (by omega) r k) := by
  cases b
  · exact D.IL_step c j hj r k
  · exact D.IR_step c j hj r k
theorem Z_step (y : S1x128x512.Idx) : D.Z b (next b c) y = D.O b c (at4 7 (by omega) (y 1) (y 2)) := by
  cases b
  · exact D.FL_step c y
  · exact D.FR_step c y

end Data

section Pay

variable (b : Bool) (c : Dev nD) (t : ℕ)

theorem pay_xOut (h : t < 8) : pay D c (xOut b + t) = held (.x b) c t (t + 1) hA (D.X b c) := by
  cases b
  · exact pay_eq D c 2 t h
  · exact pay_eq D c 0 t h
theorem pay_xIn (h : t < 8) : pay D c (xIn b + t) = held (.x b) c t (t + 1) fullShare (D.X b c) := by
  cases b
  · exact pay_eq D c 3 t h
  · exact pay_eq D c 1 t h
theorem pay_aOut (h : t < 8) : pay D c (aOut b + t) = held (.o b) c t (t + 1) fullShare (D.O b c) := by
  cases b
  · exact pay_eq D c 6 t h
  · exact pay_eq D c 4 t h
theorem pay_aIn (h : t < 8) : pay D c (aIn b + t) = held (.i b) c t (t + 1) fullShare (D.I b c) := by
  cases b
  · exact pay_eq D c 7 t h
  · exact pay_eq D c 5 t h
theorem pay_fIn : pay D c (fIn b) = done b c (D.Z b c) := by
  cases b
  · exact pay_eq D c 8 1 (by decide)
  · exact pay_eq D c 8 0 (by decide)

theorem live_xOut (h : t < 7) : live (xOut b + t) = true := by cases b <;> exact decide_eq_true (by dsimp only [xOut]; omega)
theorem live_xIn (h0 : 0 < t) (h : t < 8) : live (xIn b + t) = true := by cases b <;> exact decide_eq_true (by dsimp only [xIn]; omega)
theorem live_aOut (h : t < 8) : live (aOut b + t) = true := by cases b <;> exact decide_eq_true (by dsimp only [aOut]; omega)
theorem live_aIn (h0 : 0 < t) (h : t < 8) : live (aIn b + t) = true := by cases b <;> exact decide_eq_true (by dsimp only [aIn]; omega)
theorem live_fIn : live (fIn b) = true := by cases b <;> decide
theorem lv_xIn (h : t < 8) (h0 : 0 < t) : lvD (xIn b + t) = t + 1 := by cases b <;> (dsimp only [xIn]; unfold lvD; split_ifs <;> omega)
theorem lv_aIn (h : t < 8) (h0 : 0 < t) : lvD (aIn b + t) = t + 1 := by cases b <;> (dsimp only [aIn]; unfold lvD; split_ifs <;> omega)

end Pay

/-! ## The row -/

/-- Before trip `t`. -/
def Xs (b : Bool) (c : Dev nD) (t : ℕ) : sProp 𝕄 :=
  iprop(held (.x b) c 0 t hB (D.X b c) ∗ (if t = 0 then held (.x b) c 0 1 fullShare (D.X b c) else iprop(emp)) ∗ (if t = 8 then held (.x b) c 7 8 hA (D.X b c) else iprop(emp))
    ∗ (∃ f, held (.x b) (next b c) (t + 1) 8 fullShare f)
    ∗ bigSep (Finset.Ico (max t 1) 8) (fun j => rtk c (xIn b + j)) ∗ bigSep (Finset.Ico 1 (max t 1)) (fun j => semVal (dcell c (xIn b + j)) 0)
    ∗ bigSep (Finset.Ico t 7) (fun j => stk c (next b c) (xOut b + j) (xIn b + (j + 1))) ∗ bigSep (Finset.Ico 0 (min t 7)) (fun j => rtk c (xOut b + j)))
/-- In trip `t`, the row in slot `t` in hand. -/
def Xm (b : Bool) (c : Dev nD) (t : ℕ) : sProp 𝕄 :=
  iprop(held (.x b) c 0 t hB (D.X b c) ∗ held (.x b) c t (t + 1) fullShare (D.X b c)
    ∗ (∃ f, held (.x b) (next b c) (t + 1) 8 fullShare f)
    ∗ bigSep (Finset.Ico (t + 1) 8) (fun j => rtk c (xIn b + j)) ∗ bigSep (Finset.Ico 1 (t + 1)) (fun j => semVal (dcell c (xIn b + j)) 0)
    ∗ bigSep (Finset.Ico t 7) (fun j => stk c (next b c) (xOut b + j) (xIn b + (j + 1))) ∗ bigSep (Finset.Ico 0 (min t 7)) (fun j => rtk c (xOut b + j)))

theorem first_x (b : Bool) (c : Dev nD) : Xs D b c 0 ⊢ Xm D b c 0 := by
  unfold Xs Xm
  rw [if_pos rfl, if_neg (by decide)]
  iintro ⟨Ha, Hb, -, Hd, Hr, Hv, Hs, Ht⟩
  isplitl [Ha]; · iexact Ha
  isplitl [Hb]; · iexact Hb
  isplitl [Hd]; · iexact Hd
  isplitl [Hr]; · iexact Hr
  isplitl [Hv]; · iexact Hv
  isplitl [Hs] <;> iassumption

theorem wait_x (K : GSem nD τ sig → ℕ) (b : Bool) (c : Dev nD) (t : ℕ) (h0 : 0 < t) (h8 : t < 8) {sp sp' : Space} {s s' : Shape} {e e' : EltTy}
    {src : Memref sig .tc sp s e} {dst : Memref sig .tc sp' s' e'} {sem : DmaSem sig}
    {h₁ : src.view.WordExact} {h₂ : dst.view.WordExact} (hs : sem = dk (xIn b + t)) (hN : dst.view.dmaCredit = NN)
    (O : CellTallies nD τ sig Unit) (hab : Above (t + 1) O) {α : Type}
    {k : PUnit → Prog (TpuEff nD τ sig (Elt F) Λ₀ .tc) α} {Q : α → sProp 𝕄} :
    iprop(recs D K ∗ levAts L lv ∗ Xs D b c t ∗ ow c O)
      ⊢ iprop(((Xm D b c t ∗ ow c O) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sem src dst h₁ h₂) k) Q) := by
  have hlv := lv_xIn b t h8 h0
  unfold Xs Xm
  rw [if_neg (by omega), if_neg (by omega), show max t 1 = t by omega, sep_head h8, sep_last (show 1 ≤ t by omega)]
  iintro ⟨HI, Hlev, ⟨Ha, -, -, Hd, ⟨Hr, Hrs⟩, Hv, Hs, Ht⟩, HO⟩ Hk
  iapply (wait_dma D K c (n := xIn b + t) (live_xIn b t h0 h8) hs hN O (by rw [hlv]; exact hab)) $$ [HI Hlev Hr HO]
  · isplitl [HI]; · iexact HI
    isplitl [Hlev]; · iexact Hlev
    isplitl [Hr] <;> iassumption
  iintro ⟨HO, Hv', Hp⟩
  iapply Hk
  isplitr [HO]
  · isplitl [Ha]; · iexact Ha
    isplitl [Hp]; · iapply (show pay D c (xIn b + t) ⊢ held (.x b) c t (t + 1) fullShare (D.X b c) from Entails.of_eq (pay_xIn D b c t h8)) $$ Hp
    isplitl [Hd]; · iexact Hd
    isplitl [Hrs]; · iexact Hrs
    isplitl [Hv Hv']
    · isplitl [Hv'] <;> iassumption
    isplitl [Hs] <;> iassumption
  iexact HO

theorem last_x (b : Bool) (c : Dev nD) : Xm D b c 7 ⊢ Xs D b c 8 := by
  unfold Xs Xm
  rw [if_neg (by decide), if_pos rfl]
  simp only [held_none (.x b) (next b c) (7 + 1) 8 _ _ (by omega), held_none (.x b) (next b c) (8 + 1) 8 _ _ (by omega)]
  rw [halve_held (.x b), cut_held (.x b) c 0 7 8 (by omega) (by omega)]
  iintro ⟨Ha, ⟨Hb, Hb'⟩, Hd, Hr, Hv, Hs, Ht⟩
  isplitl [Ha Hb']; · isplitl [Ha] <;> iassumption
  isplitr; · iempintro
  isplitl [Hb]; · iexact Hb
  isplitl [Hd]; · iexact Hd
  isplitl [Hr]; · iexact Hr
  isplitl [Hv]; · iexact Hv
  isplitl [Hs]; · iexact Hs
  iexact Ht

theorem send_x (K : GSem nD τ sig → ℕ) (b : Bool) (c : Dev nD) (t : ℕ) (h7 : t < 7) {off off' : Fin 4 → ℕ} {inb inb'} {c'' : Dev nD}
    (hoff : off = ![t, 0, 0, 0]) (hoff' : off' = ![t + 1, 0, 0, 0])
    {hsc : (slot (mem (.x b)) off' inb').view.ref.isScScratch = false} {sS sem : DmaSem sig}
    {h₁ : (slot (mem (.x b)) off inb).view.WordExact} {h₂ : (slot (mem (.x b)) off' inb').view.WordExact}
    {h₃ : DmaTarget.Typed .vmem (.dma sem) (.remote (Dev.tc c'' : Thread nD τ) (slot (mem (.x b)) off' inb') (.dma sS) hsc)}
    (hc : c'' = next b c) (hsS : sS = dk (xOut b + t)) (hsem : sem = dk (xIn b + (t + 1)))
    (O₀ O : CellTallies nD τ sig Unit) (hO : O₀ = O + tallyAt (dcell (next b c) (xIn b + (t + 1))) () NN)
    {α : Type} {k : PUnit → Prog (TpuEff nD τ sig (Elt F) Λ₀ .tc) α} {Q : α → sProp 𝕄} :
    iprop(recs D K ∗ opn c ∗ opn (next b c) ∗ Xm D b c t ∗ ow c O₀)
      ⊢ iprop(((Xs D b c (t + 1) ∗ ow c O) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (slot (mem (.x b)) off inb) (.remote (Dev.tc c'' : Thread nD τ) (slot (mem (.x b)) off' inb') (.dma sS) hsc) (.dma sem) h₁ h₂ h₃) k) Q) := by
  unfold Xs Xm
  rw [if_neg (by omega), if_neg (by omega), halve_held (.x b), cut_held (.x b) c 0 t (t + 1) (by omega) (by omega),
    sep_head h7, show min (t + 1) 7 = t + 1 by omega, show min t 7 = t by omega, sep_last (Nat.zero_le t), show max (t + 1) 1 = t + 1 by omega]
  iintro ⟨HI, Ho, Ho', ⟨Ha, ⟨Hb, Hb'⟩, ⟨%fd, Hd⟩, Hr, Hv, ⟨Hs, Hss⟩, Ht⟩, HO⟩ Hk
  ihave Hd' := (Entails.of_eq (cut_held (.x b) (next b c) (t + 1) (t + 1 + 1) 8 (by omega) (by omega) fullShare fd)) $$ Hd
  icases Hd' with ⟨Hd1, Hd2⟩
  iapply (send_slot D K c (next b c) (n := xOut b + t) (n' := xIn b + (t + 1)) (live_xOut b t h7)
    (live_xIn b (t + 1) (by omega) (by omega)) (mem (.x b)) (mem (.x b)) off off' t (t + 1) hoff hoff' (by omega) (by omega) hc hsS hsem (q := hA) (cont (.x b) (D.X b c) c) (cont (.x b) fd (next b c)) (cont (.x b) (D.X b (next b c)) (next b c))
    (fun y => by rw [read_cont, read_cont]; exact D.X_step b c t h7 (y 1) (y 2)) O₀ O hO
    (by rw [← held_eq]; exact Entails.of_eq (pay_xOut D b c t (by omega)).symm)
    (by rw [← held_eq]; exact Entails.of_eq (pay_xIn D b (next b c) (t + 1) (by omega)).symm)) $$ [HI Ho Ho' Hb Hd1 Hs HO]
  · rw [← held_eq, ← held_eq]
    isplitl [HI]; · iexact HI
    isplitl [Ho]; · iexact Ho
    isplitl [Ho']; · iexact Ho'
    isplitl [Hb]; · iexact Hb
    isplitl [Hd1]; · iexact Hd1
    isplitl [Hs] <;> iassumption
  iintro ⟨Ht', HO⟩
  iapply Hk
  isplitr [HO]
  · isplitl [Ha Hb']; · isplitl [Ha] <;> iassumption
    isplitr; · iempintro
    isplitr; · iempintro
    isplitl [Hd2]; · iexists fd; iexact Hd2
    isplitl [Hr]; · iexact Hr
    isplitl [Hv]; · iexact Hv
    isplitl [Hss]; · iexact Hss
    isplitl [Ht'] <;> iassumption
  iexact HO

theorem load_x (b : Bool) (c : Dev nD) (t : ℕ) (h8 : t < 8) {off : Fin 4 → ℕ} (hoff : off = ![t, 0, 0, 0]) {inb}
    {hl : (mem (.x b)).view.LoadsAt (Rect.unit (s := S8x1x128x512) off S1x1x128x512.size inb).toLoadRect}
    {α : Type} {k : (S1x1x128x512.Idx → Elt F .bf16) → Prog (TpuEff nD τ sig (Elt F) Λ₀ .tc) α} {Q : α → sProp 𝕄} :
    Xs D b c (t + 1)
      ⊢ iprop((Xs D b c (t + 1) -∗ wp frame (wpE (defs₀ (F := F)) 𝒱₀ (c : Thread nD τ) none) Set.univ (k (D.x b (far b c t))) Q)
        -∗ wp frame (wpE (defs₀ (F := F)) 𝒱₀ (c : Thread nD τ) none) Set.univ
            (.op (.load (mem (.x b)) (Rect.unit (s := S8x1x128x512) off S1x1x128x512.size inb).toLoadRect hl) k) Q) := by
  unfold Xs
  rw [held_eq (.x b) c 0]
  iintro ⟨Ha, Hrest⟩ Hk
  iapply (load_slot c (mem (.x b)) off t hoff h8 (rows 0 (t + 1)) (fun i hi => by rw [mem_rows] at hi ⊢; omega) (cont (.x b) (D.X b c) c) (D.x b (far b c t))
    (fun y => by rw [read_cont]; exact D.X_at b c t h8 y)) $$ Ha
  iintro Ha
  iapply Hk
  isplitl [Ha] <;> iassumption

/-! ## The sums -/

/-- Before trip `t`. -/
def As (b : Bool) (c : Dev nD) (t : ℕ) : sProp 𝕄 :=
  iprop(held (.i b) c 0 (max t 1) fullShare (D.I b c)
    ∗ (∃ f, held (.i b) (next b c) (t + 1) 8 fullShare f) ∗ (if t < 8 then iprop(∃ f, done b (next b c) f) else iprop(emp))
    ∗ (∃ f, held (.o b) c t 8 fullShare f)
    ∗ bigSep (Finset.Ico (max t 1) 8) (fun j => rtk c (aIn b + j)) ∗ bigSep (Finset.Ico 1 (max t 1)) (fun j => semVal (dcell c (aIn b + j)) 0)
    ∗ bigSep (Finset.Ico t 7) (fun j => stk c (next b c) (aOut b + j) (aIn b + (j + 1))) ∗ (if t < 8 then stk c (next b c) (aOut b + 7) (fIn b) else iprop(emp))
    ∗ bigSep (Finset.Ico 0 t) (fun j => rtk c (aOut b + j)))
/-- In trip `t`, the sum in slot `t` in hand. -/
def Am (b : Bool) (c : Dev nD) (t : ℕ) : sProp 𝕄 :=
  iprop(held (.i b) c 0 (t + 1) fullShare (D.I b c)
    ∗ (∃ f, held (.i b) (next b c) (t + 1) 8 fullShare f) ∗ iprop(∃ f, done b (next b c) f)
    ∗ (∃ f, held (.o b) c t 8 fullShare f)
    ∗ bigSep (Finset.Ico (t + 1) 8) (fun j => rtk c (aIn b + j)) ∗ bigSep (Finset.Ico 1 (t + 1)) (fun j => semVal (dcell c (aIn b + j)) 0)
    ∗ bigSep (Finset.Ico t 7) (fun j => stk c (next b c) (aOut b + j) (aIn b + (j + 1))) ∗ stk c (next b c) (aOut b + 7) (fIn b)
    ∗ bigSep (Finset.Ico 0 t) (fun j => rtk c (aOut b + j)))
/-- In trip `t`, the new sum stored. -/
def An (b : Bool) (c : Dev nD) (t : ℕ) : sProp 𝕄 :=
  iprop(held (.i b) c 0 (t + 1) fullShare (D.I b c)
    ∗ (∃ f, held (.i b) (next b c) (t + 1) 8 fullShare f) ∗ iprop(∃ f, done b (next b c) f)
    ∗ held (.o b) c t (t + 1) fullShare (D.O b c) ∗ (∃ f, held (.o b) c (t + 1) 8 fullShare f)
    ∗ bigSep (Finset.Ico (t + 1) 8) (fun j => rtk c (aIn b + j)) ∗ bigSep (Finset.Ico 1 (t + 1)) (fun j => semVal (dcell c (aIn b + j)) 0)
    ∗ bigSep (Finset.Ico t 7) (fun j => stk c (next b c) (aOut b + j) (aIn b + (j + 1))) ∗ stk c (next b c) (aOut b + 7) (fIn b)
    ∗ bigSep (Finset.Ico 0 t) (fun j => rtk c (aOut b + j)))

theorem first_a (b : Bool) (c : Dev nD) : As D b c 0 ⊢ Am D b c 0 := by
  unfold As Am
  rw [if_pos (by decide), if_pos (by decide)]
  exact .rfl

theorem wait_a (K : GSem nD τ sig → ℕ) (b : Bool) (c : Dev nD) (t : ℕ) (h0 : 0 < t) (h8 : t < 8) {sp sp' : Space} {s s' : Shape} {e e' : EltTy}
    {src : Memref sig .tc sp s e} {dst : Memref sig .tc sp' s' e'} {sem : DmaSem sig}
    {h₁ : src.view.WordExact} {h₂ : dst.view.WordExact} (hs : sem = dk (aIn b + t)) (hN : dst.view.dmaCredit = NN)
    (O : CellTallies nD τ sig Unit) (hab : Above (t + 1) O) {α : Type}
    {k : PUnit → Prog (TpuEff nD τ sig (Elt F) Λ₀ .tc) α} {Q : α → sProp 𝕄} :
    iprop(recs D K ∗ levAts L lv ∗ As D b c t ∗ ow c O)
      ⊢ iprop(((Am D b c t ∗ ow c O) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sem src dst h₁ h₂) k) Q) := by
  have hlv := lv_aIn b t h8 h0
  unfold As Am
  rw [if_pos h8, if_pos h8, show max t 1 = t by omega, sep_head h8, sep_last (show 1 ≤ t by omega), cut_held (.i b) c 0 t (t + 1) (by omega) (by omega)]
  iintro ⟨HI, Hlev, ⟨Ha, Hd, Hf, Hout, ⟨Hr, Hrs⟩, Hv, Hs, Hsf, Ht⟩, HO⟩ Hk
  iapply (wait_dma D K c (n := aIn b + t) (live_aIn b t h0 h8) hs hN O (by rw [hlv]; exact hab)) $$ [HI Hlev Hr HO]
  · isplitl [HI]; · iexact HI
    isplitl [Hlev]; · iexact Hlev
    isplitl [Hr] <;> iassumption
  iintro ⟨HO, Hv', Hp⟩
  iapply Hk
  isplitr [HO]
  · isplitl [Ha Hp]
    · isplitl [Ha]; · iexact Ha
      iapply (show pay D c (aIn b + t) ⊢ held (.i b) c t (t + 1) fullShare (D.I b c) from Entails.of_eq (pay_aIn D b c t h8)) $$ Hp
    isplitl [Hd]; · iexact Hd
    isplitl [Hf]; · iexact Hf
    isplitl [Hout]; · iexact Hout
    isplitl [Hrs]; · iexact Hrs
    isplitl [Hv Hv']
    · isplitl [Hv'] <;> iassumption
    isplitl [Hs]; · iexact Hs
    isplitl [Hsf] <;> iassumption
  iexact HO

theorem load_i (b : Bool) (c : Dev nD) (t : ℕ) (h8 : t < 8) {off : Fin 4 → ℕ} (hoff : off = ![t, 0, 0, 0]) {inb}
    {hl : (mem (.i b)).view.LoadsAt (Rect.unit (s := S8x1x128x512) off S1x1x128x512.size inb).toLoadRect}
    {α : Type} {k : (S1x1x128x512.Idx → Elt F .bf16) → Prog (TpuEff nD τ sig (Elt F) Λ₀ .tc) α} {Q : α → sProp 𝕄} :
    Am D b c t
      ⊢ iprop((Am D b c t -∗ wp frame (wpE (defs₀ (F := F)) 𝒱₀ (c : Thread nD τ) none) Set.univ (k (D.inn b t c)) Q)
        -∗ wp frame (wpE (defs₀ (F := F)) 𝒱₀ (c : Thread nD τ) none) Set.univ
            (.op (.load (mem (.i b)) (Rect.unit (s := S8x1x128x512) off S1x1x128x512.size inb).toLoadRect hl) k) Q) := by
  unfold Am
  rw [held_eq (.i b) c 0]
  iintro ⟨Ha, Hrest⟩ Hk
  iapply (load_slot c (mem (.i b)) off t hoff h8 (rows 0 (t + 1)) (fun i hi => by rw [mem_rows] at hi ⊢; omega) (cont (.i b) (D.I b c) c) (D.inn b t c)
    (fun y => by rw [read_cont]; exact D.I_at b c t h8 y)) $$ Ha
  iintro Ha
  iapply Hk
  isplitl [Ha] <;> iassumption

theorem peek_o (b : Bool) (c : Dev nD) (t : ℕ) (h8 : t < 8) {off : Fin 4 → ℕ} (hoff : off = ![t, 0, 0, 0]) {inb}
    {hl : (mem (.o b)).view.LoadsAt (Rect.unit (s := S8x1x128x512) off S1x1x128x512.size inb).toLoadRect}
    {α : Type} {k : (S1x1x128x512.Idx → Elt F .bf16) → Prog (TpuEff nD τ sig (Elt F) Λ₀ .tc) α} {Q : α → sProp 𝕄} :
    Am D b c t
      ⊢ iprop((∀ v, Am D b c t -∗ wp frame (wpE (defs₀ (F := F)) 𝒱₀ (c : Thread nD τ) none) Set.univ (k v) Q)
        -∗ wp frame (wpE (defs₀ (F := F)) 𝒱₀ (c : Thread nD τ) none) Set.univ
            (.op (.load (mem (.o b)) (Rect.unit (s := S8x1x128x512) off S1x1x128x512.size inb).toLoadRect hl) k) Q) := by
  unfold Am
  iintro ⟨H1, H2, H3, ⟨%f, Hout⟩, Hrest⟩ Hk
  ihave Ho := (Entails.of_eq (held_eq (.o b) c t 8 fullShare f)) $$ Hout
  iapply (load_slot c (mem (.o b)) off t hoff h8 (rows t 8) (fun i hi => by rw [mem_rows] at hi ⊢; omega) (cont (.o b) f c)
    (fun y => (mem (.o b)).view.read (Elt F) (cont (.o b) f c) (at4 t h8 (y 2) (y 3))) (fun y => rfl)) $$ Ho
  iintro Ho
  iapply Hk
  isplitl [H1]; · iexact H1
  isplitl [H2]; · iexact H2
  isplitl [H3]; · iexact H3
  isplitl [Ho]; · iexists f; iapply (Entails.of_eq (held_eq (.o b) c t 8 fullShare f).symm) $$ Ho
  iexact Hrest

theorem store_o (b : Bool) (c : Dev nD) (t : ℕ) (h8 : t < 8) {off : Fin 4 → ℕ} (hoff : off = ![t, 0, 0, 0]) {inb}
    {w : (⟨S1x1x128x512, .bf16⟩ : BufTy).Contents (Elt F)} {hx : ((mem (.o b)).access (Rect.unit (s := S8x1x128x512) off S1x1x128x512.size inb)).Stores Finset.univ} {hm}
    (hw : w = D.out b t c)
    {α : Type} {k : PUnit → Prog (TpuEff nD τ sig (Elt F) Λ₀ .tc) α} {Q : α → sProp 𝕄} :
    Am D b c t
      ⊢ iprop((An D b c t -∗ wp frame (wpE (defs₀ (F := F)) 𝒱₀ (c : Thread nD τ) none) Set.univ (k ⟨⟩) Q)
        -∗ wp frame (wpE (defs₀ (F := F)) 𝒱₀ (c : Thread nD τ) none) Set.univ
            (.op (.store (mem (.o b)) (Rect.unit (s := S8x1x128x512) off S1x1x128x512.size inb) w Finset.univ hx hm) k) Q) := by
  subst hw
  unfold Am An
  iintro ⟨H1, H2, H3, ⟨%f, Hout⟩, Hrest⟩ Hk
  ihave Ho := (Entails.of_eq (cut_held (.o b) c t (t + 1) 8 (by omega) (by omega) fullShare f)) $$ Hout
  icases Ho with ⟨Ho1, Ho2⟩
  ihave Ho := (Entails.of_eq (held_eq (.o b) c t (t + 1) fullShare f)) $$ Ho1
  iapply (store_slot c (mem (.o b)) off t hoff h8 (cont (.o b) f c) (cont (.o b) (D.O b c) c) (fun y => by rw [read_cont]; exact D.O_at b c t h8 y)) $$ Ho
  iintro Ho
  iapply Hk
  isplitl [H1]; · iexact H1
  isplitl [H2]; · iexact H2
  isplitl [H3]; · iexact H3
  isplitl [Ho]; · iapply (Entails.of_eq (held_eq (.o b) c t (t + 1) fullShare (D.O b c)).symm) $$ Ho
  isplitl [Ho2]; · iexists f; iexact Ho2
  iexact Hrest

theorem send_a (K : GSem nD τ sig → ℕ) (b : Bool) (c : Dev nD) (t : ℕ) (h7 : t < 7) {off off' : Fin 4 → ℕ} {inb inb'} {c'' : Dev nD}
    (hoff : off = ![t, 0, 0, 0]) (hoff' : off' = ![t + 1, 0, 0, 0])
    {hsc : (slot (mem (.i b)) off' inb').view.ref.isScScratch = false} {sS sem : DmaSem sig}
    {h₁ : (slot (mem (.o b)) off inb).view.WordExact} {h₂ : (slot (mem (.i b)) off' inb').view.WordExact}
    {h₃ : DmaTarget.Typed .vmem (.dma sem) (.remote (Dev.tc c'' : Thread nD τ) (slot (mem (.i b)) off' inb') (.dma sS) hsc)}
    (hc : c'' = next b c) (hsS : sS = dk (aOut b + t)) (hsem : sem = dk (aIn b + (t + 1)))
    (O₀ O : CellTallies nD τ sig Unit) (hO : O₀ = O + tallyAt (dcell (next b c) (aIn b + (t + 1))) () NN)
    {α : Type} {k : PUnit → Prog (TpuEff nD τ sig (Elt F) Λ₀ .tc) α} {Q : α → sProp 𝕄} :
    iprop(recs D K ∗ opn c ∗ opn (next b c) ∗ An D b c t ∗ ow c O₀)
      ⊢ iprop(((As D b c (t + 1) ∗ ow c O) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (slot (mem (.o b)) off inb) (.remote (Dev.tc c'' : Thread nD τ) (slot (mem (.i b)) off' inb') (.dma sS) hsc) (.dma sem) h₁ h₂ h₃) k) Q) := by
  unfold As An
  rw [if_pos (by omega), if_pos (by omega),
    sep_head h7, sep_last (Nat.zero_le t), show max (t + 1) 1 = t + 1 by omega]
  iintro ⟨HI, Ho, Ho', ⟨Ha, ⟨%fd, Hd⟩, Hf, Hb, Hout, Hr, Hv, ⟨Hs, Hss⟩, Hsf, Ht⟩, HO⟩ Hk
  ihave Hd' := (Entails.of_eq (cut_held (.i b) (next b c) (t + 1) (t + 1 + 1) 8 (by omega) (by omega) fullShare fd)) $$ Hd
  icases Hd' with ⟨Hd1, Hd2⟩
  iapply (send_slot D K c (next b c) (n := aOut b + t) (n' := aIn b + (t + 1)) (live_aOut b t (by omega))
    (live_aIn b (t + 1) (by omega) (by omega)) (mem (.o b)) (mem (.i b)) off off' t (t + 1) hoff hoff' (by omega) (by omega) hc hsS hsem (q := fullShare) (cont (.o b) (D.O b c) c) (cont (.i b) fd (next b c)) (cont (.i b) (D.I b (next b c)) (next b c))
    (fun y => by rw [read_cont, read_cont]; exact D.I_step b c t h7 (y 1) (y 2)) O₀ O hO
    (by rw [← held_eq]; exact Entails.of_eq (pay_aOut D b c t (by omega)).symm)
    (by rw [← held_eq]; exact Entails.of_eq (pay_aIn D b (next b c) (t + 1) (by omega)).symm)) $$ [HI Ho Ho' Hb Hd1 Hs HO]
  · rw [← held_eq, ← held_eq]
    isplitl [HI]; · iexact HI
    isplitl [Ho]; · iexact Ho
    isplitl [Ho']; · iexact Ho'
    isplitl [Hb]; · iexact Hb
    isplitl [Hd1]; · iexact Hd1
    isplitl [Hs] <;> iassumption
  iintro ⟨Ht', HO⟩
  iapply Hk
  isplitr [HO]
  · isplitl [Ha]; · iexact Ha
    isplitl [Hd2]; · iexists fd; iexact Hd2
    isplitl [Hf]; · iexact Hf
    isplitl [Hout]; · iexact Hout
    isplitl [Hr]; · iexact Hr
    isplitl [Hv]; · iexact Hv
    isplitl [Hss]; · iexact Hss
    isplitl [Hsf]; · iexact Hsf
    isplitl [Ht'] <;> iassumption
  iexact HO

theorem send_f (K : GSem nD τ sig → ℕ) (b : Bool) (c : Dev nD) {off : Fin 4 → ℕ} {inb} {c'' : Dev nD}
    (hoff : off = ![7, 0, 0, 0])
    {hsc : (last b).view.ref.isScScratch = false} {sS sem : DmaSem sig}
    {h₁ : (slot (mem (.o b)) off inb).view.WordExact} {h₂ : (last b).view.WordExact}
    {h₃ : DmaTarget.Typed .vmem (.dma sem) (.remote (Dev.tc c'' : Thread nD τ) (last b) (.dma sS) hsc)}
    (hc : c'' = next b c) (hsS : sS = dk (aOut b + 7)) (hsem : sem = dk (fIn b))
    (O₀ O : CellTallies nD τ sig Unit) (hO : O₀ = O + tallyAt (dcell (next b c) (fIn b)) () NN)
    {α : Type} {k : PUnit → Prog (TpuEff nD τ sig (Elt F) Λ₀ .tc) α} {Q : α → sProp 𝕄} :
    iprop(recs D K ∗ opn c ∗ opn (next b c) ∗ An D b c 7 ∗ ow c O₀)
      ⊢ iprop(((As D b c 8 ∗ ow c O) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (slot (mem (.o b)) off inb) (.remote (Dev.tc c'' : Thread nD τ) (last b) (.dma sS) hsc) (.dma sem) h₁ h₂ h₃) k) Q) := by
  unfold As An
  rw [if_neg (by decide), if_neg (by decide), sep_last (show 0 ≤ 7 by decide)]
  simp only [held_none (.i b) (next b c) (7 + 1) 8 _ _ (by omega), held_none (.i b) (next b c) (8 + 1) 8 _ _ (by omega),
    held_none (.o b) c (7 + 1) 8 _ _ (by omega), held_none (.o b) c 8 8 _ _ (by omega)]
  iintro ⟨HI, Ho, Ho', ⟨Ha, Hd, ⟨%fd, Hf⟩, Hb, Hout, Hr, Hv, Hss, Hsf, Ht⟩, HO⟩ Hk
  iapply (send_last D K c (next b c) (n := aOut b + 7) (n' := fIn b) (live_aOut b 7 (by decide)) (live_fIn b) (mem (.o b)) (last b) off 7 hoff (by decide) (last_credit b) hc hsS hsem (q := fullShare)
    (cont (.o b) (D.O b c) c) (contLast b fd (next b c)) (contLast b (D.Z b (next b c)) (next b c))
    (fun y => by rw [read_contLast, read_cont]; exact D.Z_step b c y) O₀ O hO
    (by rw [← held_eq]; exact Entails.of_eq (pay_aOut D b c 7 (by omega)).symm)
    (by rw [← done_eq]; exact Entails.of_eq (pay_fIn D b (next b c)).symm)) $$ [HI Ho Ho' Hb Hf Hsf HO]
  · rw [← held_eq, ← done_eq]
    isplitl [HI]; · iexact HI
    isplitl [Ho]; · iexact Ho
    isplitl [Ho']; · iexact Ho'
    isplitl [Hb]; · iexact Hb
    isplitl [Hf]; · iexact Hf
    isplitl [Hsf] <;> iassumption
  iintro ⟨Ht', HO⟩
  iapply Hk
  isplitr [HO]
  · isplitl [Ha]; · iexact Ha
    isplitl [Hd]; · iexact Hd
    isplitr; · iempintro
    isplitl [Hout]; · iexact Hout
    isplitl [Hr]; · iexact Hr
    isplitl [Hv]; · iexact Hv
    isplitl [Hss]; · iexact Hss
    isplitr; · iempintro
    isplitl [Ht'] <;> iassumption
  iexact HO

end Cert.KernelIdeal.Ring

end
-- ==== Proof.Tile.lean ====
module

public import proofs.«01_k».proof.Proof.Row

@[expose] public section

/-! What a device computes in one trip: the attention of eight heads over the two rows in hand, tile by tile, into a scratch buffer. -/

noncomputable section

namespace Cert.KernelIdeal.Ring

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F] [Named F]

local notation "𝕄" => MT nD τ sig Unit (Elt F) ℕ UU ℕ

/-! ## Loads and stores of memrefs -/

section Mem

variable {sp : CoreSpace} {s : Shape} {e : EltTy} (m : Memref sig .tc sp s e)

theorem owns_load (c : Dev nD) {r : Rect s} {hl : m.view.LoadsAt r.toLoadRect} {q : PosShare TreeShare} (X : s.Idx → Elt F e)
    (u : r.shape.Idx → Elt F e) (hu : ∀ y, X (r.emb y) = u y)
    {α : Type} {k : (r.shape.Idx → Elt F e) → Prog (TpuEff nD τ sig (Elt F) Λ₀ .tc) α} {Q : α → sProp 𝕄} :
    (owns (c : Thread nD τ) m q X : sProp 𝕄)
      ⊢ iprop((owns (c : Thread nD τ) m q X -∗ wp frame (wpE (defs₀ (F := F)) 𝒱₀ (c : Thread nD τ) none) Set.univ (k u) Q)
        -∗ wp frame (wpE (defs₀ (F := F)) 𝒱₀ (c : Thread nD τ) none) Set.univ (.op (.load m r.toLoadRect hl) k) Q) := by
  unfold owns
  iintro ⟨%f, %hf, H⟩ Hk
  have e1 : (m.access r).read (Elt F) f = u := by
    funext y
    rw [← hu y, ← hf, View.read_apply, View.read_apply]
    rfl
  subst e1
  iapply (wp_load_rect 𝒱₀ (c : Thread nD τ) none Set.univ (m := m) (r := r) (S := m.view.set) (q := q) (f := f) (k := k) (Q := Q)
    (by rw [View.set_slice]; exact Finset.map_subset_map.mpr (Finset.subset_univ _))) $$ H
  iintro H
  iapply Hk
  iexists f
  isplitr; · ipureintro; exact hf
  iexact H

theorem owns_store (c : Dev nD) {r : Rect s} {w : r.shape.Idx → Elt F e} {hx : (m.access r).Stores Finset.univ} {hm}
    (X X' : s.Idx → Elt F e) (hin : ∀ y, X' (r.emb y) = w y) (hout : ∀ i, i ∉ r.set → X' i = X i)
    {α : Type} {k : PUnit → Prog (TpuEff nD τ sig (Elt F) Λ₀ .tc) α} {Q : α → sProp 𝕄} :
    (owns (c : Thread nD τ) m fullShare X : sProp 𝕄)
      ⊢ iprop((owns (c : Thread nD τ) m fullShare X' -∗ wp frame (wpE (defs₀ (F := F)) 𝒱₀ (c : Thread nD τ) none) Set.univ (k ⟨⟩) Q)
        -∗ wp frame (wpE (defs₀ (F := F)) 𝒱₀ (c : Thread nD τ) none) Set.univ (.op (.store m r w Finset.univ hx hm) k) Q) := by
  unfold owns
  iintro ⟨%f, %hf, H⟩ Hk
  iapply (wp_store 𝒱₀ (c : Thread nD τ) none Set.univ (m := m) (r := r) (w := w) (Mk := Finset.univ) (hx := hx) (hm := hm)
    (S := m.view.set) (f := f) (k := k) (Q := Q)
    (by rw [View.setOn_univ, View.set_slice]; exact Finset.map_subset_map.mpr (Finset.subset_univ _))) $$ H
  iintro H
  iapply Hk
  iexists _
  isplitr
  · ipureintro
    funext i
    by_cases hi : i ∈ r.set
    · rw [← Rect.map_emb_univ] at hi
      obtain ⟨y, -, rfl⟩ := Finset.mem_map.mp hi
      rw [hin y]
      exact View.read_slice_write_emb (v := m.view) r f w (Finset.mem_univ y)
    · rw [hout i hi, ← hf]
      exact View.read_slice_write_of_not_mem (v := m.view) r f w Finset.univ (by rwa [Rect.map_emb_univ])
  iexact H

end Mem

/-! ## The tiles -/

/-- Head `h` of batch row `a`. -/
def kt (K : (⟨S16x128x512, .f32⟩ : BufTy).Contents (Elt F)) (a h : ℕ) : Vec F S1x128x64 .f32 :=
  fun y => K (ix3 (⟨a % 16, Nat.mod_lt _ (by decide)⟩ : Fin 16) (y 1) (⟨(64 * h + (y 2).val) % 512, Nat.mod_lt _ (by decide)⟩ : Fin 512))

/-- What one trip works on: the two rows, the projections' weights, the keys and values, and the batch rows `a` and `b` whose keys
    and values they attend to. -/
structure Work (F : FTy → Type) where
  xr : Vec F S1x1x128x512 .bf16
  xl : Vec F S1x1x128x512 .bf16
  wq : Vec F S512x512 .f32
  K : Vec F S16x128x512 .f32
  V : Vec F S16x128x512 .f32
  a : ℕ
  b : ℕ

/-- Tile `n`: heads 0 to 7 of the first row, then of the second. -/
def tile (W : Work F) : ℕ → FVec F S128x64 .f32
  | 0 => k0_pay5 (k0_pay3 W.xr W.wq (kt W.K W.a 0) (kt W.V W.a 0)) (k0_pay4 W.xr W.wq (kt W.K W.a 0))
  | 1 => k0_pay6 (k0_pay1 W.xr W.wq) (kt W.K W.a 1) (kt W.V W.a 1)
  | 2 => k0_pay7 (k0_pay1 W.xr W.wq) (kt W.K W.a 2) (kt W.V W.a 2)
  | 3 => k0_pay8 (k0_pay1 W.xr W.wq) (kt W.K W.a 3) (kt W.V W.a 3)
  | 4 => k0_pay9 (k0_pay1 W.xr W.wq) (kt W.K W.a 4) (kt W.V W.a 4)
  | 5 => k0_pay11 (k0_pay10 (k0_pay1 W.xr W.wq)) (kt W.K W.a 5) (kt W.V W.a 5)
  | 6 => k0_pay12 (k0_pay1 W.xr W.wq) (kt W.K W.a 6) (kt W.V W.a 6)
  | 7 => k0_pay16 (k0_pay13 (k0_pay1 W.xr W.wq)) (k0_pay14 (kt W.K W.a 7)) (k0_pay15 (kt W.V W.a 7))
  | 8 => k0_pay19 (k0_pay18 W.xl W.wq (kt W.K W.b 0) (kt W.V W.b 0))
  | 9 => k0_pay20 (k0_pay17 W.xl W.wq) (kt W.K W.b 1) (kt W.V W.b 1)
  | 10 => k0_pay21 (k0_pay17 W.xl W.wq) (kt W.K W.b 2) (kt W.V W.b 2)
  | 11 => k0_pay23 (k0_pay22 (k0_pay17 W.xl W.wq)) (kt W.K W.b 3) (kt W.V W.b 3)
  | 12 => k0_pay24 (k0_pay17 W.xl W.wq) (kt W.K W.b 4) (kt W.V W.b 4)
  | 13 => k0_pay27 (k0_pay25 (k0_pay17 W.xl W.wq)) (k0_pay26 (kt W.K W.b 5)) (kt W.V W.b 5)
  | 14 => k0_pay28 (k0_pay17 W.xl W.wq) (kt W.K W.b 6) (kt W.V W.b 6)
  | _ => k0_pay31 (k0_pay29 (kt W.V W.b 7)) (k0_pay30 (k0_pay17 W.xl W.wq) (kt W.K W.b 7))

/-- The tile an element of the scratch buffer lies in. -/
def tix (i : S256x512.Idx) : ℕ := 8 * ((i 0).val / 128) + (i 1).val / 64

/-- The scratch buffer with all tiles in it. -/
def tiles (W : Work F) : Vec F S256x512 .f32 := fun i =>
  tile W (tix i) (ix2 (⟨(i 0).val % 128, Nat.mod_lt _ (by decide)⟩ : Fin 128) (⟨(i 1).val % 64, Nat.mod_lt _ (by decide)⟩ : Fin 64))

abbrev m1 : Memref sig .tc .vmem S16x128x512 .f32 := Memref.whole cc0_scratch1
abbrev m2 : Memref sig .tc .vmem S16x128x512 .f32 := Memref.whole cc0_scratch2
abbrev m27 : Memref sig .tc .vmem S256x512 .f32 := Memref.whole cc0_scratch21

/-- The first `n` tiles are in the scratch buffer. -/
def Tn (W : Work F) (c : Dev nD) (n : ℕ) : sProp 𝕄 :=
  iprop(∃ X, ⌜∀ i, tix i < n → X i = tiles W i⌝ ∗ owns (c : Thread nD τ) m27 fullShare X)

section Tiles

variable (W : Work F) (c : Dev nD)

theorem tix_emb (n : ℕ) (hn : n < 16) (off : Fin 2 → ℕ) (hoff : off = ![128 * (n / 8), 64 * (n % 8)]) (inb) (y : S128x64.Idx) :
    tix ((Rect.unit (s := S256x512) off S128x64.size inb).emb y) = n
      ∧ (((Rect.unit (s := S256x512) off S128x64.size inb).emb y) 0).val = 128 * (n / 8) + (y 0).val
      ∧ (((Rect.unit (s := S256x512) off S128x64.size inb).emb y) 1).val = 64 * (n % 8) + (y 1).val := by
  subst hoff
  have y0 : (y 0).val < 128 := (y 0).isLt
  have y1 : (y 1).val < 64 := (y 1).isLt
  have e0 : (((Rect.unit (s := S256x512) ![128 * (n / 8), 64 * (n % 8)] S128x64.size inb).emb y) 0).val = 128 * (n / 8) + (y 0).val := by
    rw [Rect.emb_apply]; show 128 * (n / 8) + 1 * (y 0).val = _; omega
  have e1 : (((Rect.unit (s := S256x512) ![128 * (n / 8), 64 * (n % 8)] S128x64.size inb).emb y) 1).val = 64 * (n % 8) + (y 1).val := by
    rw [Rect.emb_apply]; show 64 * (n % 8) + 1 * (y 1).val = _; omega
  refine ⟨?_, e0, e1⟩
  unfold tix; rw [e0, e1]; omega

theorem tile_emb (n : ℕ) (hn : n < 16) (off : Fin 2 → ℕ) (hoff : off = ![128 * (n / 8), 64 * (n % 8)]) (inb) (y : S128x64.Idx) :
    tix ((Rect.unit (s := S256x512) off S128x64.size inb).emb y) = n
      ∧ tiles W ((Rect.unit (s := S256x512) off S128x64.size inb).emb y) = tile W n y := by
  obtain ⟨ht, e0, e1⟩ := tix_emb n hn off hoff inb y
  have y0 : (y 0).val < 128 := (y 0).isLt
  have y1 : (y 1).val < 64 := (y 1).isLt
  refine ⟨ht, ?_⟩
  unfold tiles
  rw [ht]
  congr 1
  funext a
  apply Fin.ext
  fin_cases a
  · show (((Rect.unit (s := S256x512) off S128x64.size inb).emb y) 0).val % 128 = (y 0).val
    rw [e0]; omega
  · show (((Rect.unit (s := S256x512) off S128x64.size inb).emb y) 1).val % 64 = (y 1).val
    rw [e1]; omega

theorem mem_tile (n : ℕ) (hn : n < 16) (off : Fin 2 → ℕ) (hoff : off = ![128 * (n / 8), 64 * (n % 8)]) (inb) (i : S256x512.Idx) :
    i ∈ (Rect.unit (s := S256x512) off S128x64.size inb).set ↔ tix i = n := by
  constructor
  · intro h
    rw [← Rect.map_emb_univ] at h
    obtain ⟨y, -, rfl⟩ := Finset.mem_map.mp h
    exact (tix_emb n hn off hoff inb y).1
  · intro h
    subst hoff
    rw [Rect.mem_set_unit]
    have i0 : (i 0).val < 256 := (i 0).isLt
    have i1 : (i 1).val < 512 := (i 1).isLt
    unfold tix at h
    intro a
    fin_cases a
    · show 128 * (n / 8) ≤ (i 0).val ∧ (i 0).val < 128 * (n / 8) + 128; omega
    · show 64 * (n % 8) ≤ (i 1).val ∧ (i 1).val < 64 * (n % 8) + 64; omega

/-- The store of tile `n`. -/
theorem put_tile (n : ℕ) (hn : n < 16) {off : Fin 2 → ℕ} (hoff : off = ![128 * (n / 8), 64 * (n % 8)]) {inb}
    {w : S128x64.Idx → Elt F .f32} {hx : (m27.access (Rect.unit (s := S256x512) off S128x64.size inb)).Stores Finset.univ} {hm}
    (hw : w = tile W n)
    {α : Type} {k : PUnit → Prog (TpuEff nD τ sig (Elt F) Λ₀ .tc) α} {Q : α → sProp 𝕄} :
    Tn W c n
      ⊢ iprop((Tn W c (n + 1) -∗ wp frame (wpE (defs₀ (F := F)) 𝒱₀ (c : Thread nD τ) none) Set.univ (k ⟨⟩) Q)
        -∗ wp frame (wpE (defs₀ (F := F)) 𝒱₀ (c : Thread nD τ) none) Set.univ
            (.op (.store m27 (Rect.unit (s := S256x512) off S128x64.size inb) w Finset.univ hx hm) k) Q) := by
  subst hw
  unfold Tn
  iintro ⟨%X, %hX, H⟩ Hk
  iapply (owns_store m27 c (r := Rect.unit (s := S256x512) off S128x64.size inb) X (fun i => if tix i = n then tiles W i else X i)
    (fun y => by
      have h := tile_emb W n hn off hoff inb y
      simp only [h.1, if_true]
      exact h.2)
    (fun i hi => if_neg fun h => hi ((mem_tile n hn off hoff inb i).mpr h))) $$ H
  iintro H
  iapply Hk
  iexists _
  isplitr
  · ipureintro
    intro i hi
    show (if tix i = n then tiles W i else X i) = _
    split
    · rfl
    · exact hX i (by omega)
  iexact H

/-- A load of a tile not yet stored: its value is not used. -/
theorem peek_tile (n : ℕ) {r : Rect S256x512} {hl : m27.view.LoadsAt r.toLoadRect}
    {α : Type} {k : (r.shape.Idx → Elt F .f32) → Prog (TpuEff nD τ sig (Elt F) Λ₀ .tc) α} {Q : α → sProp 𝕄} :
    Tn W c n
      ⊢ iprop((∀ v, Tn W c n -∗ wp frame (wpE (defs₀ (F := F)) 𝒱₀ (c : Thread nD τ) none) Set.univ (k v) Q)
        -∗ wp frame (wpE (defs₀ (F := F)) 𝒱₀ (c : Thread nD τ) none) Set.univ (.op (.load m27 r.toLoadRect hl) k) Q) := by
  unfold Tn
  iintro ⟨%X, %hX, H⟩ Hk
  iapply (owns_load m27 c (r := r) X (fun y => X (r.emb y)) (fun y => rfl)) $$ H
  iintro H
  iapply Hk
  iexists X
  isplitr; · ipureintro; exact hX
  iexact H

theorem whole_emb (inb) (y : S256x512.Idx) : (Rect.unit (s := S256x512) ![0, 0] S256x512.size inb).emb y = y := by
  funext a
  apply Fin.ext
  rw [Rect.emb_apply]
  fin_cases a
  · show 0 + 1 * (y 0).val = (y 0).val; omega
  · show 0 + 1 * (y 1).val = (y 1).val; omega

/-- The load of the whole scratch buffer, all tiles stored. -/
theorem get_tiles {inb} {hl : m27.view.LoadsAt (Rect.unit (s := S256x512) ![0, 0] S256x512.size inb).toLoadRect}
    {α : Type} {k : (S256x512.Idx → Elt F .f32) → Prog (TpuEff nD τ sig (Elt F) Λ₀ .tc) α} {Q : α → sProp 𝕄} :
    Tn W c 16
      ⊢ iprop((Tn W c 16 -∗ wp frame (wpE (defs₀ (F := F)) 𝒱₀ (c : Thread nD τ) none) Set.univ (k (tiles W)) Q)
        -∗ wp frame (wpE (defs₀ (F := F)) 𝒱₀ (c : Thread nD τ) none) Set.univ
          (.op (.load m27 (Rect.unit (s := S256x512) ![0, 0] S256x512.size inb).toLoadRect hl) k) Q) := by
  unfold Tn
  iintro ⟨%X, %hX, H⟩ Hk
  iapply (owns_load m27 c (r := Rect.unit (s := S256x512) ![0, 0] S256x512.size inb) X (tiles W) (fun y => by
    rw [whole_emb]
    refine hX y ?_
    have y0 : (y 0).val < 256 := (y 0).isLt
    have y1 : (y 1).val < 512 := (y 1).isLt
    unfold tix; omega)) $$ H
  iintro H
  iapply Hk
  iexists X
  isplitr; · ipureintro; exact hX
  iexact H

/-- The load of one head of the keys or values. -/
theorem load_head (m : Memref sig .tc .vmem S16x128x512 .f32) (K : S16x128x512.Idx → Elt F .f32) (a h : ℕ) (ha : a < 16) (hh : h < 8)
    {off : Fin 3 → ℕ} (hoff : off = ![a, 0, 64 * h]) {inb}
    {hl : m.view.LoadsAt (Rect.unit (s := S16x128x512) off S1x128x64.size inb).toLoadRect}
    {α : Type} {k : (S1x128x64.Idx → Elt F .f32) → Prog (TpuEff nD τ sig (Elt F) Λ₀ .tc) α} {Q : α → sProp 𝕄} :
    (owns (c : Thread nD τ) m fullShare K : sProp 𝕄)
      ⊢ iprop((owns (c : Thread nD τ) m fullShare K -∗ wp frame (wpE (defs₀ (F := F)) 𝒱₀ (c : Thread nD τ) none) Set.univ (k (kt K a h)) Q)
        -∗ wp frame (wpE (defs₀ (F := F)) 𝒱₀ (c : Thread nD τ) none) Set.univ
          (.op (.load m (Rect.unit (s := S16x128x512) off S1x128x64.size inb).toLoadRect hl) k) Q) :=
  owns_load m c (r := Rect.unit (s := S16x128x512) off S1x128x64.size inb) K (kt K a h) (fun y => by
    subst hoff
    unfold kt
    congr 1
    funext i
    apply Fin.ext
    rw [Rect.emb_apply]
    have y0 : (y 0).val = 0 := by have : (y 0).val < 1 := (y 0).isLt; omega
    have y2 : (y 2).val < 64 := (y 2).isLt
    fin_cases i
    · show a + 1 * (y 0).val = a % 16; omega
    · show 0 + 1 * (y 1).val = (y 1).val; omega
    · show 64 * h + 1 * (y 2).val = (64 * h + (y 2).val) % 512; omega)

/-- The load of a whole weight matrix. -/
theorem load_w (m : Memref sig .tc .vmem S512x512 .f32) (X : S512x512.Idx → Elt F .f32) {inb}
    {hl : m.view.LoadsAt (Rect.unit (s := S512x512) ![0, 0] S512x512.size inb).toLoadRect}
    {α : Type} {k : (S512x512.Idx → Elt F .f32) → Prog (TpuEff nD τ sig (Elt F) Λ₀ .tc) α} {Q : α → sProp 𝕄} :
    (owns (c : Thread nD τ) m fullShare X : sProp 𝕄)
      ⊢ iprop((owns (c : Thread nD τ) m fullShare X -∗ wp frame (wpE (defs₀ (F := F)) 𝒱₀ (c : Thread nD τ) none) Set.univ (k X) Q)
        -∗ wp frame (wpE (defs₀ (F := F)) 𝒱₀ (c : Thread nD τ) none) Set.univ
          (.op (.load m (Rect.unit (s := S512x512) ![0, 0] S512x512.size inb).toLoadRect hl) k) Q) :=
  owns_load m c (r := Rect.unit (s := S512x512) ![0, 0] S512x512.size inb) X X (fun y => by
    congr 1
    funext a
    apply Fin.ext
    rw [Rect.emb_apply]
    fin_cases a
    · show 0 + 1 * (y 0).val = (y 0).val; omega
    · show 0 + 1 * (y 1).val = (y 1).val; omega)

end Tiles

end Cert.KernelIdeal.Ring

end
-- ==== Proof.Parts.lean ====
module

public import proofs.«01_k».proof.Proof.Tile

@[expose] public section

/-! The straight-line parts of a trip: each stores its tiles. -/

noncomputable section

namespace Cert.KernelIdeal.Ring

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F] [Named F]

local notation "𝕄" => MT nD τ sig Unit (Elt F) ℕ UU ℕ

/-- The keys and values, in hand. -/
def KV (W : Work F) (c : Dev nD) : sProp 𝕄 := iprop(owns (c : Thread nD τ) m1 fullShare W.K ∗ owns (c : Thread nD τ) m2 fullShare W.V)

/-- The work is that of trip `t` of device `c`: whose rows are whose. -/
structure Work.At (W : Work F) (c : Dev nD) (t : ℕ) : Prop where
  a : W.a = 2 * ((c.val + 8 - t) % 8)
  b : W.b = 2 * ((c.val + t) % 8) + 1

section Steps

variable (W : Work F) (c : Dev nD)

theorem load_k (a h : ℕ) (ha : a < 16) (hh : h < 8)
    {off : Fin 3 → ℕ} (hoff : off = ![a, 0, 64 * h]) {inb}
    {hl : m1.view.LoadsAt (Rect.unit (s := S16x128x512) off S1x128x64.size inb).toLoadRect}
    {α : Type} {k : (S1x128x64.Idx → Elt F .f32) → Prog (TpuEff nD τ sig (Elt F) Λ₀ .tc) α} {Q : α → sProp 𝕄} :
    KV W c
      ⊢ iprop((KV W c -∗ wp frame (wpE (defs₀ (F := F)) 𝒱₀ (c : Thread nD τ) none) Set.univ (k (kt W.K a h)) Q)
        -∗ wp frame (wpE (defs₀ (F := F)) 𝒱₀ (c : Thread nD τ) none) Set.univ
          (.op (.load m1 (Rect.unit (s := S16x128x512) off S1x128x64.size inb).toLoadRect hl) k) Q) := by
  unfold KV
  iintro ⟨H1, H2⟩ Hk
  iapply (load_head c m1 W.K a h ha hh hoff) $$ H1
  iintro H1
  iapply Hk
  iframe H1 H2

theorem load_v (a h : ℕ) (ha : a < 16) (hh : h < 8)
    {off : Fin 3 → ℕ} (hoff : off = ![a, 0, 64 * h]) {inb}
    {hl : m2.view.LoadsAt (Rect.unit (s := S16x128x512) off S1x128x64.size inb).toLoadRect}
    {α : Type} {k : (S1x128x64.Idx → Elt F .f32) → Prog (TpuEff nD τ sig (Elt F) Λ₀ .tc) α} {Q : α → sProp 𝕄} :
    KV W c
      ⊢ iprop((KV W c -∗ wp frame (wpE (defs₀ (F := F)) 𝒱₀ (c : Thread nD τ) none) Set.univ (k (kt W.V a h)) Q)
        -∗ wp frame (wpE (defs₀ (F := F)) 𝒱₀ (c : Thread nD τ) none) Set.univ
          (.op (.load m2 (Rect.unit (s := S16x128x512) off S1x128x64.size inb).toLoadRect hl) k) Q) := by
  unfold KV
  iintro ⟨H1, H2⟩ Hk
  iapply (load_head c m2 W.V a h ha hh hoff) $$ H2
  iintro H2
  iapply Hk
  iframe H1 H2

/-- Peek at a tile, then store it. -/
theorem do_tile (n : ℕ) (hn : n < 16) {off : Fin 2 → ℕ} (hoff : off = ![128 * (n / 8), 64 * (n % 8)]) {inb hl}
    {w : S128x64.Idx → Elt F .f32} {hx : (m27.access (Rect.unit (s := S256x512) off S128x64.size inb)).Stores Finset.univ} {hm}
    (hw : w = tile W n)
    {α : Type} {k : PUnit → Prog (TpuEff nD τ sig (Elt F) Λ₀ .tc) α} {Q : α → sProp 𝕄} :
    Tn W c n
      ⊢ iprop((Tn W c (n + 1) -∗ wp frame (wpE (defs₀ (F := F)) 𝒱₀ (c : Thread nD τ) none) Set.univ (k ⟨⟩) Q)
        -∗ wp frame (wpE (defs₀ (F := F)) 𝒱₀ (c : Thread nD τ) none) Set.univ
            (.op (.load m27 (Rect.unit (s := S256x512) off S128x64.size inb).toLoadRect hl) fun _ =>
              .op (.store m27 (Rect.unit (s := S256x512) off S128x64.size inb) w Finset.univ hx hm) k) Q) := by
  iintro HT Hk
  iapply (peek_tile W c n) $$ HT
  iintro %v HT
  iapply (put_tile W c n hn hoff hw) $$ HT
  iexact Hk

/-- One head: its keys and values, then the store of its tile. -/
theorem do_head (n a h : ℕ) (hn : n < 16) (ha : a < 16) (hh : h < 8) {off : Fin 2 → ℕ} (hoff : off = ![128 * (n / 8), 64 * (n % 8)]) {inb hl}
    {off' : Fin 3 → ℕ} (hoff' : off' = ![a, 0, 64 * h]) {inb'}
    {hl₁ : m1.view.LoadsAt (Rect.unit (s := S16x128x512) off' S1x128x64.size inb').toLoadRect}
    {hl₂ : m2.view.LoadsAt (Rect.unit (s := S16x128x512) off' S1x128x64.size inb').toLoadRect}
    {w : (S1x128x64.Idx → Elt F .f32) → (S1x128x64.Idx → Elt F .f32) → S128x64.Idx → Elt F .f32}
    {hx : (m27.access (Rect.unit (s := S256x512) off S128x64.size inb)).Stores Finset.univ} {hm}
    (hw : w (kt W.K a h) (kt W.V a h) = tile W n)
    {α : Type} {k : PUnit → Prog (TpuEff nD τ sig (Elt F) Λ₀ .tc) α} {Q : α → sProp 𝕄} :
    iprop(KV W c ∗ Tn W c n)
      ⊢ iprop(((KV W c ∗ Tn W c (n + 1)) -∗ wp frame (wpE (defs₀ (F := F)) 𝒱₀ (c : Thread nD τ) none) Set.univ (k ⟨⟩) Q)
        -∗ wp frame (wpE (defs₀ (F := F)) 𝒱₀ (c : Thread nD τ) none) Set.univ
            (.op (.load m1 (Rect.unit (s := S16x128x512) off' S1x128x64.size inb').toLoadRect hl₁) fun u =>
              .op (.load m2 (Rect.unit (s := S16x128x512) off' S1x128x64.size inb').toLoadRect hl₂) fun v =>
              .op (.load m27 (Rect.unit (s := S256x512) off S128x64.size inb).toLoadRect hl) fun _ =>
              .op (.store m27 (Rect.unit (s := S256x512) off S128x64.size inb) (w u v) Finset.univ hx hm) k) Q) := by
  iintro ⟨HK, HT⟩ Hk
  iapply (load_k W c a h ha hh hoff') $$ HK
  iintro HK
  iapply (load_v W c a h ha hh hoff') $$ HK
  iintro HK
  iapply (do_tile W c n hn hoff hw) $$ HT
  iintro HT
  iapply Hk
  iframe HK HT

end Steps

section Parts

variable (a0 : Memref sig .tc .vmem S2x128x512 .f32) (h0 : a0.IsWhole) (a1 : Memref sig .tc .vmem S512x512 .f32) (h1 : a1.IsWhole)
  (a2 : Memref sig .tc .vmem S512x512 .f32) (h2 : a2.IsWhole) (a5 : Memref sig .tc .vmem S2x128x512 .f32) (h5 : a5.IsWhole)
  (W : Work F) (c : Dev nD) (t : Fin k0_t1_loop.trips) (hW : W.At c t.val)

theorem a_lt {W : Work F} {c : Dev nD} {t : ℕ} (h : W.At c t) : W.a < 16 := by rw [h.a]; omega
theorem b_lt {W : Work F} {c : Dev nD} {t : ℕ} (h : W.At c t) : W.b < 16 := by rw [h.b]; omega
include hW

theorem run_part2 {v246 : BitVec 32} {Q : _ → sProp 𝕄} :
    iprop(KV W c ∗ Tn W c 0)
      ⊢ iprop(((KV W c ∗ Tn W c 2) -∗ Q (k0_pay7 (k0_pay1 W.xr W.wq) (kt W.K W.a 2) (kt W.V W.a 2)))
        -∗ wp frame (wpE (defs₀ (F := F)) 𝒱₀ (c : Thread nD τ) none) Set.univ
          (k0_part2 a0 h0 a1 h1 a2 h2 (Memref.whole main_v15) (Memref.isWhole_whole _) (Memref.whole main_v16) (Memref.isWhole_whole _) a5 h5 cc0_scratch0 m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) cc0_scratch11 cc0_scratch12 cc0_scratch13 cc0_scratch14 cc0_scratch15 cc0_scratch16 cc0_scratch17 cc0_scratch18 cc0_scratch19 cc0_scratch20 m27 (Memref.isWhole_whole _) cc0_scoped0 c t v246 (k0_pay1 W.xr W.wq) (k0_pay3 W.xr W.wq (kt W.K W.a 0) (kt W.V W.a 0)) (k0_pay4 W.xr W.wq (kt W.K W.a 0))) Q) := by
  rw [k0_part2_eq_skeleton]
  unfold k0_part2_skel
  simp only [semSignalWord, semWaitWord, Prog.lift, Prog.bind_op, Prog.bind_ret, Prog.pure_eq_ret, Prog.bind_assoc]
  iintro ⟨HK, HT⟩ Hk
  iapply (do_tile W c 0 (by decide) rfl rfl) $$ HT
  iintro HT
  iapply (do_head W c 1 W.a 1 (by decide) (a_lt hW) (by decide) rfl (by rw [k0_off9_eq, hW.a]) rfl) $$ [HK HT]
  · iframe HK HT
  iintro ⟨HK, HT⟩
  iapply (load_k W c W.a 2 (a_lt hW) (by decide) (by rw [k0_off10_eq, hW.a])) $$ HK
  iintro HK
  iapply (load_v W c W.a 2 (a_lt hW) (by decide) (by rw [k0_off10_eq, hW.a])) $$ HK
  iintro HK
  iapply (peek_tile W c 2) $$ HT
  iintro %v HT
  rw [wp_ret]
  imodintro
  iapply Hk
  iframe HK HT

theorem run_part3 {v246 : BitVec 32} {Q : _ → sProp 𝕄} :
    iprop(KV W c ∗ Tn W c 2)
      ⊢ iprop(((KV W c ∗ Tn W c 5) -∗ Q ⟨k0_pay10 (k0_pay1 W.xr W.wq), (kt W.K W.a 5)⟩)
        -∗ wp frame (wpE (defs₀ (F := F)) 𝒱₀ (c : Thread nD τ) none) Set.univ
          (k0_part3 a0 h0 a1 h1 a2 h2 (Memref.whole main_v15) (Memref.isWhole_whole _) (Memref.whole main_v16) (Memref.isWhole_whole _) a5 h5 cc0_scratch0 m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) cc0_scratch11 cc0_scratch12 cc0_scratch13 cc0_scratch14 cc0_scratch15 cc0_scratch16 cc0_scratch17 cc0_scratch18 cc0_scratch19 cc0_scratch20 m27 (Memref.isWhole_whole _) cc0_scoped0 c t v246 (k0_pay1 W.xr W.wq) (k0_pay7 (k0_pay1 W.xr W.wq) (kt W.K W.a 2) (kt W.V W.a 2))) Q) := by
  rw [k0_part3_eq_skeleton]
  unfold k0_part3_skel
  simp only [semSignalWord, semWaitWord, Prog.lift, Prog.bind_op, Prog.bind_ret, Prog.pure_eq_ret, Prog.bind_assoc]
  iintro ⟨HK, HT⟩ Hk
  iapply (put_tile W c 2 (by decide) rfl rfl) $$ HT
  iintro HT
  iapply (do_head W c 3 W.a 3 (by decide) (a_lt hW) (by decide) rfl (by rw [k0_off11_eq, hW.a]) rfl) $$ [HK HT]
  · iframe HK HT
  iintro ⟨HK, HT⟩
  iapply (do_head W c 4 W.a 4 (by decide) (a_lt hW) (by decide) rfl (by rw [k0_off12_eq, hW.a]) rfl) $$ [HK HT]
  · iframe HK HT
  iintro ⟨HK, HT⟩
  iapply (load_k W c W.a 5 (a_lt hW) (by decide) (by rw [k0_off13_eq, hW.a])) $$ HK
  iintro HK
  rw [wp_ret]
  imodintro
  iapply Hk
  iframe HK HT

theorem run_part4 {v246 : BitVec 32} {Q : _ → sProp 𝕄} :
    iprop(KV W c ∗ Tn W c 5)
      ⊢ iprop(((KV W c ∗ Tn W c 7) -∗ Q ⟨k0_pay13 (k0_pay1 W.xr W.wq), k0_pay14 (kt W.K W.a 7), k0_pay15 (kt W.V W.a 7)⟩)
        -∗ wp frame (wpE (defs₀ (F := F)) 𝒱₀ (c : Thread nD τ) none) Set.univ
          (k0_part4 a0 h0 a1 h1 a2 h2 (Memref.whole main_v15) (Memref.isWhole_whole _) (Memref.whole main_v16) (Memref.isWhole_whole _) a5 h5 cc0_scratch0 m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) cc0_scratch11 cc0_scratch12 cc0_scratch13 cc0_scratch14 cc0_scratch15 cc0_scratch16 cc0_scratch17 cc0_scratch18 cc0_scratch19 cc0_scratch20 m27 (Memref.isWhole_whole _) cc0_scoped0 c t v246 (k0_pay1 W.xr W.wq) (k0_pay10 (k0_pay1 W.xr W.wq)) (kt W.K W.a 5)) Q) := by
  rw [k0_part4_eq_skeleton]
  unfold k0_part4_skel
  simp only [semSignalWord, semWaitWord, Prog.lift, Prog.bind_op, Prog.bind_ret, Prog.pure_eq_ret, Prog.bind_assoc]
  iintro ⟨HK, HT⟩ Hk
  iapply (load_v W c W.a 5 (a_lt hW) (by decide) (by rw [k0_off13_eq, hW.a])) $$ HK
  iintro HK
  iapply (do_tile W c 5 (by decide) rfl rfl) $$ HT
  iintro HT
  iapply (do_head W c 6 W.a 6 (by decide) (a_lt hW) (by decide) rfl (by rw [k0_off14_eq, hW.a]) rfl) $$ [HK HT]
  · iframe HK HT
  iintro ⟨HK, HT⟩
  iapply (load_k W c W.a 7 (a_lt hW) (by decide) (by rw [k0_off15_eq, hW.a])) $$ HK
  iintro HK
  iapply (load_v W c W.a 7 (a_lt hW) (by decide) (by rw [k0_off15_eq, hW.a])) $$ HK
  iintro HK
  rw [wp_ret]
  imodintro
  iapply Hk
  iframe HK HT

theorem run_part6 {v394 : BitVec 32} {Q : _ → sProp 𝕄} :
    iprop(KV W c ∗ Tn W c 8)
      ⊢ iprop(((KV W c ∗ Tn W c 11) -∗ Q (k0_pay22 (k0_pay17 W.xl W.wq)))
        -∗ wp frame (wpE (defs₀ (F := F)) 𝒱₀ (c : Thread nD τ) none) Set.univ
          (k0_part6 a0 h0 a1 h1 a2 h2 (Memref.whole main_v15) (Memref.isWhole_whole _) (Memref.whole main_v16) (Memref.isWhole_whole _) a5 h5 cc0_scratch0 m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) cc0_scratch11 cc0_scratch12 cc0_scratch13 cc0_scratch14 cc0_scratch15 cc0_scratch16 cc0_scratch17 cc0_scratch18 cc0_scratch19 cc0_scratch20 m27 (Memref.isWhole_whole _) cc0_scoped0 c t v394 (k0_pay17 W.xl W.wq) (k0_pay18 W.xl W.wq (kt W.K W.b 0) (kt W.V W.b 0))) Q) := by
  rw [k0_part6_eq_skeleton]
  unfold k0_part6_skel
  simp only [semSignalWord, semWaitWord, Prog.lift, Prog.bind_op, Prog.bind_ret, Prog.pure_eq_ret, Prog.bind_assoc]
  iintro ⟨HK, HT⟩ Hk
  iapply (do_tile W c 8 (by decide) rfl rfl) $$ HT
  iintro HT
  iapply (do_head W c 9 W.b 1 (by decide) (b_lt hW) (by decide) rfl (by rw [k0_off17_eq, hW.b]) rfl) $$ [HK HT]
  · iframe HK HT
  iintro ⟨HK, HT⟩
  iapply (do_head W c 10 W.b 2 (by decide) (b_lt hW) (by decide) rfl (by rw [k0_off18_eq, hW.b]) rfl) $$ [HK HT]
  · iframe HK HT
  iintro ⟨HK, HT⟩
  rw [wp_ret]
  imodintro
  iapply Hk
  iframe HK HT

theorem run_part7 {v394 : BitVec 32} {Q : _ → sProp 𝕄} :
    iprop(KV W c ∗ Tn W c 11)
      ⊢ iprop(((KV W c ∗ Tn W c 13) -∗ Q ⟨k0_pay25 (k0_pay17 W.xl W.wq), k0_pay26 (kt W.K W.b 5)⟩)
        -∗ wp frame (wpE (defs₀ (F := F)) 𝒱₀ (c : Thread nD τ) none) Set.univ
          (k0_part7 a0 h0 a1 h1 a2 h2 (Memref.whole main_v15) (Memref.isWhole_whole _) (Memref.whole main_v16) (Memref.isWhole_whole _) a5 h5 cc0_scratch0 m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) cc0_scratch11 cc0_scratch12 cc0_scratch13 cc0_scratch14 cc0_scratch15 cc0_scratch16 cc0_scratch17 cc0_scratch18 cc0_scratch19 cc0_scratch20 m27 (Memref.isWhole_whole _) cc0_scoped0 c t v394 (k0_pay17 W.xl W.wq) (k0_pay22 (k0_pay17 W.xl W.wq))) Q) := by
  rw [k0_part7_eq_skeleton]
  unfold k0_part7_skel
  simp only [semSignalWord, semWaitWord, Prog.lift, Prog.bind_op, Prog.bind_ret, Prog.pure_eq_ret, Prog.bind_assoc]
  iintro ⟨HK, HT⟩ Hk
  iapply (do_head W c 11 W.b 3 (by decide) (b_lt hW) (by decide) rfl (by rw [k0_off19_eq, hW.b]) rfl) $$ [HK HT]
  · iframe HK HT
  iintro ⟨HK, HT⟩
  iapply (do_head W c 12 W.b 4 (by decide) (b_lt hW) (by decide) rfl (by rw [k0_off20_eq, hW.b]) rfl) $$ [HK HT]
  · iframe HK HT
  iintro ⟨HK, HT⟩
  iapply (load_k W c W.b 5 (b_lt hW) (by decide) (by rw [k0_off21_eq, hW.b])) $$ HK
  iintro HK
  rw [wp_ret]
  imodintro
  iapply Hk
  iframe HK HT

theorem run_part8 {v394 : BitVec 32} {Q : _ → sProp 𝕄} :
    iprop(KV W c ∗ Tn W c 13)
      ⊢ iprop(((KV W c ∗ Tn W c 15) -∗ Q ⟨k0_pay29 (kt W.V W.b 7), k0_pay30 (k0_pay17 W.xl W.wq) (kt W.K W.b 7)⟩)
        -∗ wp frame (wpE (defs₀ (F := F)) 𝒱₀ (c : Thread nD τ) none) Set.univ
          (k0_part8 a0 h0 a1 h1 a2 h2 (Memref.whole main_v15) (Memref.isWhole_whole _) (Memref.whole main_v16) (Memref.isWhole_whole _) a5 h5 cc0_scratch0 m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) cc0_scratch11 cc0_scratch12 cc0_scratch13 cc0_scratch14 cc0_scratch15 cc0_scratch16 cc0_scratch17 cc0_scratch18 cc0_scratch19 cc0_scratch20 m27 (Memref.isWhole_whole _) cc0_scoped0 c t v394 (k0_pay17 W.xl W.wq) (k0_pay25 (k0_pay17 W.xl W.wq)) (k0_pay26 (kt W.K W.b 5))) Q) := by
  rw [k0_part8_eq_skeleton]
  unfold k0_part8_skel
  simp only [semSignalWord, semWaitWord, Prog.lift, Prog.bind_op, Prog.bind_ret, Prog.pure_eq_ret, Prog.bind_assoc]
  iintro ⟨HK, HT⟩ Hk
  iapply (load_v W c W.b 5 (b_lt hW) (by decide) (by rw [k0_off21_eq, hW.b])) $$ HK
  iintro HK
  iapply (do_tile W c 13 (by decide) rfl rfl) $$ HT
  iintro HT
  iapply (do_head W c 14 W.b 6 (by decide) (b_lt hW) (by decide) rfl (by rw [k0_off22_eq, hW.b]) rfl) $$ [HK HT]
  · iframe HK HT
  iintro ⟨HK, HT⟩
  iapply (load_k W c W.b 7 (b_lt hW) (by decide) (by rw [k0_off23_eq, hW.b])) $$ HK
  iintro HK
  iapply (load_v W c W.b 7 (b_lt hW) (by decide) (by rw [k0_off23_eq, hW.b])) $$ HK
  iintro HK
  rw [wp_ret]
  imodintro
  iapply Hk
  iframe HK HT

omit hW in
theorem work_t (t : Fin k0_t1_loop.trips) : t.val < 8 := t.isLt

variable (D : Data F)

theorem run_part5 (hxl : W.xl = D.x false (far false c t.val)) {arg28 v242 : BitVec 32} {Q : _ → sProp 𝕄} :
    iprop(KV W c ∗ Tn W c 7 ∗ owns (c : Thread nD τ) a1 fullShare W.wq ∗ Xs D false c (t.val + 1))
      ⊢ iprop(((KV W c ∗ Tn W c 8 ∗ owns (c : Thread nD τ) a1 fullShare W.wq ∗ Xs D false c (t.val + 1)) -∗ Q ⟨Scalar.addi (Scalar.muli v242 2#32) 1#32, (k0_pay17 W.xl W.wq), k0_pay18 W.xl W.wq (kt W.K W.b 0) (kt W.V W.b 0)⟩)
        -∗ wp frame (wpE (defs₀ (F := F)) 𝒱₀ (c : Thread nD τ) none) Set.univ
          (k0_part5 a0 h0 a1 h1 a2 h2 (Memref.whole main_v15) (Memref.isWhole_whole _) (Memref.whole main_v16) (Memref.isWhole_whole _) a5 h5 cc0_scratch0 m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) cc0_scratch11 cc0_scratch12 cc0_scratch13 cc0_scratch14 cc0_scratch15 cc0_scratch16 cc0_scratch17 cc0_scratch18 cc0_scratch19 cc0_scratch20 m27 (Memref.isWhole_whole _) cc0_scoped0 c t arg28 v242 (k0_pay13 (k0_pay1 W.xr W.wq)) (k0_pay14 (kt W.K W.a 7)) (k0_pay15 (kt W.V W.a 7))) Q) := by
  rw [k0_part5_eq_skeleton]
  unfold k0_part5_skel
  simp only [semSignalWord, semWaitWord, Prog.lift, Prog.bind_op, Prog.bind_ret, Prog.pure_eq_ret, Prog.bind_assoc]
  iintro ⟨HK, HT, HW, HX⟩ Hk
  iapply (do_tile W c 7 (by decide) rfl rfl) $$ HT
  iintro HT
  iapply (load_x D false c t.val (work_t t) (k0_off7_eq t)) $$ HX
  iintro HX
  rw [← hxl]
  iapply (load_w c a1 W.wq) $$ HW
  iintro HW
  iapply (load_k W c W.b 0 (b_lt hW) (by decide) (by rw [k0_off16_eq, hW.b])) $$ HK
  iintro HK
  iapply (load_v W c W.b 0 (b_lt hW) (by decide) (by rw [k0_off16_eq, hW.b])) $$ HK
  iintro HK
  rw [wp_ret]
  imodintro
  iapply Hk
  iframe HK HT HW HX

end Parts

end Cert.KernelIdeal.Ring

end
-- ==== Proof.Stages.lean ====
module

public import proofs.«01_k».proof.Proof.Parts

@[expose] public section

/-! The stages of a trip: what is owed at each, and the guarded waits and sends. -/

noncomputable section

namespace Cert.KernelIdeal.Ring

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F] [Named F]

local notation "𝕄" => MT nD τ sig Unit (Elt F) ℕ UU ℕ

/-! ## The data -/

/-- What the eight devices start from: their rows, their weights, and the keys and values of their heads. -/
structure Env (F : FTy → Type) where
  x : Dev nD → Vec F S2x128x512 .f32
  wq : Dev nD → Vec F S512x512 .f32
  wo : Dev nD → Vec F S512x512 .f32
  K : Dev nD → Vec F S16x128x512 .f32
  V : Dev nD → Vec F S16x128x512 .f32

/-- Row `a` of a device's two. -/
def rowOf (a : Fin 2) (x : Vec F S2x128x512 .f32) : Vec F S1x128x512 .f32 := fun y => x (ix3 a (y 1) (y 2))

namespace Env

variable (E : Env F)

def xR (c : Dev nD) : Vec F S1x1x128x512 .bf16 := k0_pay35 (rowOf 0 (E.x c))
def xL (c : Dev nD) : Vec F S1x1x128x512 .bf16 := k0_pay37 (k0_pay36 (rowOf 1 (E.x c)))
/-- The work of trip `t` of device `c`. -/
def work (c : Dev nD) (t : ℕ) : Work F where
  xr := E.xR (back c t)
  xl := E.xL (fwd c t)
  wq := E.wq c
  K := E.K c
  V := E.V c
  a := 2 * ((c.val + 8 - t) % 8)
  b := 2 * ((c.val + t) % 8) + 1
theorem work_at (c : Dev nD) (t : ℕ) : (E.work c t).At c t := ⟨rfl, rfl⟩

def data : Data F where
  xR := E.xR
  xL := E.xL
  zR := k0_pay38
  zL := k0_pay39
  stR c t v := k0_pay34 (tiles (E.work c t)) (E.wo c) v
  stL c t v := k0_pay40 (k0_pay33 (tiles (E.work c t)) (E.wo c)) v

end Env

/-! ## What is owed -/

def fin (c' : Dev nD) (n a : ℕ) : CellTallies nD τ sig Unit := if a < 8 then tallyAt (dcell c' n) () NN else 0
theorem fin_lt (c' : Dev nD) (n a : ℕ) (h : a < 8) : fin c' n a = tallyAt (dcell c' n) () NN := if_pos h
theorem fin_8 (c' : Dev nD) (n : ℕ) : fin c' n 8 = 0 := rfl
/-- What is owed to the exit barrier. -/
def oweExit (c : Dev nD) : CellTallies nD τ sig Unit := tallyAt (exitCell (right c)) () 1 + tallyAt (exitCell (left c)) () 1
/-- What device `c` owes to a ring, having sent `x` rows and `a` sums. -/
def oweRing (b : Bool) (c : Dev nD) (x a : ℕ) : CellTallies nD τ sig Unit :=
  oweD (next b c) (xIn b) (x + 1) + (oweD (next b c) (aIn b) (a + 1) + fin (next b c) (fIn b) a)
/-- What device `c` owes having sent `x₁` and `x₂` rows and `s₁` and `s₂` sums. -/
def owe (c : Dev nD) (x₁ x₂ s₁ s₂ : ℕ) : CellTallies nD τ sig Unit := oweRing true c x₁ s₁ + oweRing false c x₂ s₂ + oweExit c

section Owe

variable (b : Bool) (c : Dev nD) (x a x₁ x₂ s₁ s₂ t n : ℕ)

theorem oweRing_x (h : t < 7) : oweRing b c t a = oweRing b c (t + 1) a + tallyAt (dcell (next b c) (xIn b + (t + 1))) () NN := by
  unfold oweRing; rw [oweD_head (next b c) (xIn b) (t + 1) (by omega)]; abel
theorem oweRing_a (h : t < 7) : oweRing b c x t = oweRing b c x (t + 1) + tallyAt (dcell (next b c) (aIn b + (t + 1))) () NN := by
  unfold oweRing; rw [oweD_head (next b c) (aIn b) (t + 1) (by omega), fin_lt _ _ t (by omega), fin_lt _ _ (t + 1) (by omega)]; abel
theorem oweRing_x_last : oweRing b c 7 a = oweRing b c 8 a := by
  unfold oweRing; rw [oweD_none _ _ (7 + 1) (by omega), oweD_none _ _ (8 + 1) (by omega)]
theorem oweRing_a_last : oweRing b c x 7 = oweRing b c x 8 + tallyAt (dcell (next b c) (fIn b)) () NN := by
  unfold oweRing
  rw [oweD_none _ _ (7 + 1) (by omega), oweD_none _ _ (8 + 1) (by omega), fin_lt _ _ 7 (by omega), fin_8]; abel
theorem oweRing_end : oweRing b c 8 8 = 0 := by
  unfold oweRing
  rw [oweD_none _ _ _ (by omega), oweD_none _ _ _ (by omega), fin_8, add_zero, add_zero]
theorem owe_end : owe c 8 8 8 8 = oweExit c := by
  unfold owe
  rw [oweRing_end, oweRing_end, add_zero, zero_add]

theorem above_fin (c' : Dev nD) (n a b : ℕ) (hn : n < 72) (hb : b < lvD n) : Above b (fin c' n a) := by
  unfold fin
  split
  · exact above_tally _ _ _ (by rw [lv_dma _ hn]; exact hb)
  · exact above_zero b
theorem above_exit (b : ℕ) (hb : b < 20) : Above b (oweExit c) :=
  above_add (above_tally _ _ _ (by rw [lv_exit]; exact hb)) (above_tally _ _ _ (by rw [lv_exit]; exact hb))
theorem above_oweRing (h8 : n ≤ 8) (h₁ : n < x + 2) (h₂ : n < a + 2) : Above n (oweRing b c x a) := by
  unfold oweRing
  refine above_add (above_oweD _ _ _ _ (by cases b <;> decide) fun j hj hj8 => ?_)
    (above_add (above_oweD _ _ _ _ (by cases b <;> decide) fun j hj hj8 => ?_) (above_fin _ _ _ _ (by cases b <;> decide) ?_))
  · rw [lv_xIn b j hj8 (by omega)]; omega
  · rw [lv_aIn b j hj8 (by omega)]; omega
  · have : lvD (fIn b) = 10 := by cases b <;> rfl
    omega
theorem above_owe (h8 : n ≤ 8) (h₁ : n < x₁ + 2) (h₂ : n < x₂ + 2) (h₃ : n < s₁ + 2) (h₄ : n < s₂ + 2) : Above n (owe c x₁ x₂ s₁ s₂) :=
  above_add (above_add (above_oweRing true c x₁ s₁ n h8 h₁ h₃) (above_oweRing false c x₂ s₂ n h8 h₂ h₄)) (above_exit c n (by omega))

end Owe

/-! ## The conditions -/

theorem cond1_iff : ∀ t : Fin k0_t1_loop.trips, k0_cond1 t = 1#1 ↔ t.val ≠ 0 := by decide +kernel
theorem cond2_iff : ∀ t : Fin k0_t1_loop.trips, k0_cond2 t = 1#1 ↔ t.val ≠ 7 := by decide +kernel
theorem cond3_iff : ∀ t : Fin k0_t1_loop.trips, k0_cond3 t = 1#1 ↔ t.val ≠ 0 := by decide +kernel
theorem cond4_iff : ∀ t : Fin k0_t1_loop.trips, k0_cond4 t = 1#1 ↔ t.val ≠ 7 := by decide +kernel
theorem cond5_iff : ∀ t : Fin k0_t1_loop.trips, k0_cond5 t = 1#1 ↔ t.val = 7 := by decide +kernel
theorem cond6_iff : ∀ t : Fin k0_t1_loop.trips, k0_cond6 t = 1#1 ↔ t.val ≠ 0 := by decide +kernel
theorem cond7_iff : ∀ t : Fin k0_t1_loop.trips, k0_cond7 t = 1#1 ↔ t.val ≠ 7 := by decide +kernel
theorem cond8_iff : ∀ t : Fin k0_t1_loop.trips, k0_cond8 t = 1#1 ↔ t.val = 7 := by decide +kernel

theorem dev_right {n : ℕ} (c : Dev nD) (h : n < nD) (e : n = (c.val + 1) % 8) : (⟨n, h⟩ : Dev nD) = right c := Fin.ext e
theorem dev_left {n : ℕ} (c : Dev nD) (h : n < nD) (e : n = (c.val + 7) % 8) : (⟨n, h⟩ : Dev nD) = left c := Fin.ext e

/-- What a device knows throughout: the protocol, the levels, and that its and its neighbours' cells are open. -/
def Ctx (D : Data F) (K : GSem nD τ sig → ℕ) (c : Dev nD) : sProp 𝕄 :=
  iprop(recs D K ∗ levAts L lv ∗ opn c ∗ opn (right c) ∗ opn (left c))
instance Ctx_persistent (D : Data F) (K : GSem nD τ sig → ℕ) (c : Dev nD) : BI.Persistent (Ctx D K c) := by unfold Ctx; infer_instance

/-! ## The guarded waits and sends -/

section Stages

variable (D : Data F) (K : GSem nD τ sig → ℕ) (c : Dev nD) (t : ℕ) {P : Prop} [Decidable P]
  {α : Type} {k : Prog (TpuEff nD τ sig (Elt F) Λ₀ .tc) α}

/-- In every trip but the first, the rows from both neighbours are waited for. -/
theorem wait_rows {Q : α → sProp 𝕄} (hP : P ↔ t ≠ 0) (h8 : t < 8)
    {sp sp' sq sq' : Space} {s s' r r' : Shape} {e e' d d' : EltTy}
    {src : P → Memref sig .tc sp s e} {dst : P → Memref sig .tc sp' s' e'} {sem : P → DmaSem sig}
    {src' : P → Memref sig .tc sq r d} {dst' : P → Memref sig .tc sq' r' d'} {sem' : P → DmaSem sig}
    {h₁ : ∀ h, (src h).view.WordExact} {h₂ : ∀ h, (dst h).view.WordExact} {h₃ : ∀ h, (src' h).view.WordExact} {h₄ : ∀ h, (dst' h).view.WordExact}
    (hs : ∀ h, sem h = dk (14 + t)) (hN : ∀ h, (dst h).view.dmaCredit = NN) (hs' : ∀ h, sem' h = dk (30 + t)) (hN' : ∀ h, (dst' h).view.dmaCredit = NN)
    (O : CellTallies nD τ sig Unit) (hab : Above (t + 1) O) :
    iprop(recs D K ∗ levAts L lv ∗ Xs D true c t ∗ Xs D false c t ∗ ow c O)
      ⊢ iprop(((Xm D true c t ∗ Xm D false c t ∗ ow c O) -∗ wp frame (wpE (defs₀ (F := F)) 𝒱₀ (c : Thread nD τ) none) Set.univ k Q)
        -∗ wp frame (wpE (defs₀ (F := F)) 𝒱₀ (c : Thread nD τ) none) Set.univ
          (dite P (fun h => .op (.waitDma2 (sem h) (src h) (dst h) (h₁ h) (h₂ h)) fun _ =>
            .op (.waitDma2 (sem' h) (src' h) (dst' h) (h₃ h) (h₄ h)) fun _ => k) (fun _ => k)) Q) := by
  iintro ⟨#HI, #Hl, HX, HY, HO⟩ Hk
  by_cases h : P
  · have h0 := hP.mp h
    rw [dif_pos h]
    iapply (wait_x D K true c t (by omega) h8 (hs h) (hN h) O hab) $$ [HX HO]
    · iframe HI Hl HX HO
    iintro ⟨HX, HO⟩
    iapply (wait_x D K false c t (by omega) h8 (hs' h) (hN' h) O hab) $$ [HY HO]
    · iframe HI Hl HY HO
    iintro ⟨HY, HO⟩
    iapply Hk
    iframe HX HY HO
  · have h0 : t = 0 := by by_contra h'; exact h (hP.mpr h')
    rw [dif_neg h]
    subst h0
    iapply Hk
    iframe HO
    isplitl [HX]
    · iapply (first_x D true c) $$ HX
    · iapply (first_x D false c) $$ HY

/-- In every trip but the last, the rows in hand go on. -/
theorem send_rows {Q : α → sProp 𝕄} (hP : P ↔ t ≠ 7) (h8 : t < 8) (s₁ s₂ : ℕ)
    {off off' : P → Fin 4 → ℕ}
    {inb : ∀ h, ∀ a, off h a + S1x1x128x512.size a ≤ S8x1x128x512.size a} {inb' : ∀ h, ∀ a, off' h a + S1x1x128x512.size a ≤ S8x1x128x512.size a}
    {c₁ c₂ : P → Dev nD} {sem₁ sem₁' sem₂ sem₂' : P → DmaSem sig}
    (hoff : ∀ h, off h = ![t, 0, 0, 0]) (hoff' : ∀ h, off' h = ![t + 1, 0, 0, 0])
    {hsc₁ : ∀ h, (slot m3 (off' h) (inb' h)).view.ref.isScScratch = false} {hsc₂ : ∀ h, (slot m4 (off' h) (inb' h)).view.ref.isScScratch = false}
    {h₁ : ∀ h, (slot m3 (off h) (inb h)).view.WordExact} {h₂ : ∀ h, (slot m3 (off' h) (inb' h)).view.WordExact}
    {h₃ : ∀ h, DmaTarget.Typed .vmem (.dma (sem₁ h)) (.remote (Dev.tc (c₁ h) : Thread nD τ) (slot m3 (off' h) (inb' h)) (.dma (sem₁' h)) (hsc₁ h))}
    {h₄ : ∀ h, (slot m4 (off h) (inb h)).view.WordExact} {h₅ : ∀ h, (slot m4 (off' h) (inb' h)).view.WordExact}
    {h₆ : ∀ h, DmaTarget.Typed .vmem (.dma (sem₂ h)) (.remote (Dev.tc (c₂ h) : Thread nD τ) (slot m4 (off' h) (inb' h)) (.dma (sem₂' h)) (hsc₂ h))}
    (hc₁ : ∀ h, c₁ h = right c) (hc₂ : ∀ h, c₂ h = left c)
    (hs₁ : ∀ h, sem₁' h = dk (6 + t)) (hr₁ : ∀ h, sem₁ h = dk (14 + (t + 1))) (hs₂ : ∀ h, sem₂' h = dk (22 + t)) (hr₂ : ∀ h, sem₂ h = dk (30 + (t + 1))) :
    iprop(Ctx D K c ∗ Xm D true c t ∗ Xm D false c t ∗ ow c (owe c t t s₁ s₂))
      ⊢ iprop(((Xs D true c (t + 1) ∗ Xs D false c (t + 1) ∗ ow c (owe c (t + 1) (t + 1) s₁ s₂)) -∗ wp frame (wpE (defs₀ (F := F)) 𝒱₀ (c : Thread nD τ) none) Set.univ k Q)
        -∗ wp frame (wpE (defs₀ (F := F)) 𝒱₀ (c : Thread nD τ) none) Set.univ
          (dite P (fun h => .op (.enqueueDma (slot m3 (off h) (inb h)) (.remote (Dev.tc (c₁ h) : Thread nD τ) (slot m3 (off' h) (inb' h)) (.dma (sem₁' h)) (hsc₁ h)) (.dma (sem₁ h)) (h₁ h) (h₂ h) (h₃ h)) fun _ =>
            .op (.enqueueDma (slot m4 (off h) (inb h)) (.remote (Dev.tc (c₂ h) : Thread nD τ) (slot m4 (off' h) (inb' h)) (.dma (sem₂' h)) (hsc₂ h)) (.dma (sem₂ h)) (h₄ h) (h₅ h) (h₆ h)) fun _ => k) (fun _ => k)) Q) := by
  unfold Ctx
  iintro ⟨⟨#HI, #Hl, #Hc, #Hr, #Hq⟩, HX, HY, HO⟩ Hk
  by_cases h : P
  · have h7 := hP.mp h
    rw [dif_pos h]
    iapply (send_x D K true c t (by omega) (hoff h) (hoff' h) (hc₁ h) (hs₁ h) (hr₁ h) (owe c t t s₁ s₂) (owe c (t + 1) t s₁ s₂)
      (by unfold owe; rw [oweRing_x true c s₁ t (by omega)]; abel)) $$ [HX HO]
    · iframe HI Hc Hr HX HO
    iintro ⟨HX, HO⟩
    iapply (send_x D K false c t (by omega) (hoff h) (hoff' h) (hc₂ h) (hs₂ h) (hr₂ h) (owe c (t + 1) t s₁ s₂) (owe c (t + 1) (t + 1) s₁ s₂)
      (by unfold owe; rw [oweRing_x false c s₂ t (by omega)]; abel)) $$ [HY HO]
    · iframe HI Hc Hq HY HO
    iintro ⟨HY, HO⟩
    iapply Hk
    iframe HX HY HO
  · have h7 : t = 7 := by by_contra h'; exact h (hP.mpr h')
    rw [dif_neg h]
    subst h7
    rw [show owe c 7 7 s₁ s₂ = owe c (7 + 1) (7 + 1) s₁ s₂ by unfold owe; rw [oweRing_x_last, oweRing_x_last]]
    iapply Hk
    iframe HO
    isplitl [HX]
    · iapply (last_x D true c) $$ HX
    · iapply (last_x D false c) $$ HY

/-- The sum sent on, or, in the last trip, still in hand. -/
def Ao (D : Data F) (b : Bool) (c : Dev nD) (t : ℕ) : sProp 𝕄 := if t = 7 then An D b c t else As D b c (t + 1)

/-- What every device knows of its neighbour in a ring. -/
theorem ctx_next (b : Bool) : Ctx D K c ⊢ iprop(recs D K ∗ levAts L lv ∗ opn c ∗ opn (next b c)) := by
  unfold Ctx
  iintro ⟨#HI, #Hl, #Hc, #Hr, #Hq⟩
  cases b
  · iframe HI Hl Hc Hq
  · iframe HI Hl Hc Hr

theorem wait_sum (b : Bool) {Q : α → sProp 𝕄} (hP : P ↔ t ≠ 0) (h8 : t < 8)
    {sp sp' : Space} {s s' : Shape} {e e' : EltTy}
    {src : P → Memref sig .tc sp s e} {dst : P → Memref sig .tc sp' s' e'} {sem : P → DmaSem sig}
    {h₁ : ∀ h, (src h).view.WordExact} {h₂ : ∀ h, (dst h).view.WordExact}
    (hs : ∀ h, sem h = dk (aIn b + t)) (hN : ∀ h, (dst h).view.dmaCredit = NN)
    (O : CellTallies nD τ sig Unit) (hab : Above (t + 1) O) :
    iprop(Ctx D K c ∗ As D b c t ∗ ow c O)
      ⊢ iprop(((Am D b c t ∗ ow c O) -∗ wp frame (wpE (defs₀ (F := F)) 𝒱₀ (c : Thread nD τ) none) Set.univ k Q)
        -∗ wp frame (wpE (defs₀ (F := F)) 𝒱₀ (c : Thread nD τ) none) Set.univ
          (dite P (fun h => .op (.waitDma2 (sem h) (src h) (dst h) (h₁ h) (h₂ h)) fun _ => k) (fun _ => k)) Q) := by
  refine .trans (sep_mono_left (ctx_next D K c b)) ?_
  iintro ⟨⟨#HI, #Hl, #Hc, #Hr⟩, HX, HO⟩ Hk
  by_cases h : P
  · have h0 := hP.mp h
    rw [dif_pos h]
    iapply (wait_a D K b c t (by omega) h8 (hs h) (hN h) O hab) $$ [HX HO]
    · iframe HI Hl HX HO
    iintro ⟨HX, HO⟩
    iapply Hk
    iframe HX HO
  · have h0 : t = 0 := by by_contra h'; exact h (hP.mpr h')
    rw [dif_neg h]
    subst h0
    iapply Hk
    iframe HO
    iapply (first_a D b c) $$ HX

theorem send_sum (b : Bool) {Q : α → sProp 𝕄} (hP : P ↔ t ≠ 7) (h8 : t < 8) (O₀ O₁ : CellTallies nD τ sig Unit)
    (hO : t < 7 → O₀ = O₁ + tallyAt (dcell (next b c) (aIn b + (t + 1))) () NN)
    {off off' : P → Fin 4 → ℕ}
    {inb : ∀ h, ∀ a, off h a + S1x1x128x512.size a ≤ S8x1x128x512.size a} {inb' : ∀ h, ∀ a, off' h a + S1x1x128x512.size a ≤ S8x1x128x512.size a}
    {c₁ : P → Dev nD} {sem₁ sem₁' : P → DmaSem sig}
    (hoff : ∀ h, off h = ![t, 0, 0, 0]) (hoff' : ∀ h, off' h = ![t + 1, 0, 0, 0])
    {hsc₁ : ∀ h, (slot (mem (.i b)) (off' h) (inb' h)).view.ref.isScScratch = false}
    {h₁ : ∀ h, (slot (mem (.o b)) (off h) (inb h)).view.WordExact} {h₂ : ∀ h, (slot (mem (.i b)) (off' h) (inb' h)).view.WordExact}
    {h₃ : ∀ h, DmaTarget.Typed .vmem (.dma (sem₁ h)) (.remote (Dev.tc (c₁ h) : Thread nD τ) (slot (mem (.i b)) (off' h) (inb' h)) (.dma (sem₁' h)) (hsc₁ h))}
    (hc₁ : ∀ h, c₁ h = next b c) (hs₁ : ∀ h, sem₁' h = dk (aOut b + t)) (hr₁ : ∀ h, sem₁ h = dk (aIn b + (t + 1))) :
    iprop(Ctx D K c ∗ An D b c t ∗ ow c O₀)
      ⊢ iprop(((Ao D b c t ∗ ow c (if t = 7 then O₀ else O₁)) -∗ wp frame (wpE (defs₀ (F := F)) 𝒱₀ (c : Thread nD τ) none) Set.univ k Q)
        -∗ wp frame (wpE (defs₀ (F := F)) 𝒱₀ (c : Thread nD τ) none) Set.univ
          (dite P (fun h => .op (.enqueueDma (slot (mem (.o b)) (off h) (inb h)) (.remote (Dev.tc (c₁ h) : Thread nD τ) (slot (mem (.i b)) (off' h) (inb' h)) (.dma (sem₁' h)) (hsc₁ h)) (.dma (sem₁ h)) (h₁ h) (h₂ h) (h₃ h)) fun _ => k) (fun _ => k)) Q) := by
  unfold Ao
  refine .trans (sep_mono_left (ctx_next D K c b)) ?_
  iintro ⟨⟨#HI, #Hl, #Hc, #Hr⟩, HX, HO⟩ Hk
  by_cases h : P
  · have h7 := hP.mp h
    rw [dif_pos h, if_neg h7, if_neg h7]
    iapply (send_a D K b c t (by omega) (hoff h) (hoff' h) (hc₁ h) (hs₁ h) (hr₁ h) O₀ O₁ (hO (by omega))) $$ [HX HO]
    · iframe HI Hc Hr HX HO
    iintro ⟨HX, HO⟩
    iapply Hk
    iframe HX HO
  · have h7 : t = 7 := by by_contra h'; exact h (hP.mpr h')
    rw [dif_neg h, if_pos h7, if_pos h7]
    iapply Hk
    iframe HX HO

theorem send_done (b : Bool) {Q : α → sProp 𝕄} (hP : P ↔ t = 7) (O₀ O₁ : CellTallies nD τ sig Unit)
    (hO : t = 7 → O₀ = O₁ + tallyAt (dcell (next b c) (fIn b)) () NN)
    {off : P → Fin 4 → ℕ} {inb : ∀ h, ∀ a, off h a + S1x1x128x512.size a ≤ S8x1x128x512.size a}
    {c₁ : P → Dev nD} {sem₁ sem₁' : P → DmaSem sig}
    (hoff : ∀ h, off h = ![7, 0, 0, 0])
    {hsc₁ : P → (last b).view.ref.isScScratch = false}
    {h₁ : ∀ h, (slot (mem (.o b)) (off h) (inb h)).view.WordExact} {h₂ : P → (last b).view.WordExact}
    {h₃ : ∀ h, DmaTarget.Typed .vmem (.dma (sem₁ h)) (.remote (Dev.tc (c₁ h) : Thread nD τ) (last b) (.dma (sem₁' h)) (hsc₁ h))}
    (hc₁ : ∀ h, c₁ h = next b c) (hs₁ : ∀ h, sem₁' h = dk (aOut b + 7)) (hr₁ : ∀ h, sem₁ h = dk (fIn b)) :
    iprop(Ctx D K c ∗ Ao D b c t ∗ ow c (if t = 7 then O₀ else O₁))
      ⊢ iprop(((As D b c (t + 1) ∗ ow c O₁) -∗ wp frame (wpE (defs₀ (F := F)) 𝒱₀ (c : Thread nD τ) none) Set.univ k Q)
        -∗ wp frame (wpE (defs₀ (F := F)) 𝒱₀ (c : Thread nD τ) none) Set.univ
          (dite P (fun h => .op (.enqueueDma (slot (mem (.o b)) (off h) (inb h)) (.remote (Dev.tc (c₁ h) : Thread nD τ) (last b) (.dma (sem₁' h)) (hsc₁ h)) (.dma (sem₁ h)) (h₁ h) (h₂ h) (h₃ h)) fun _ => k) (fun _ => k)) Q) := by
  unfold Ao
  refine .trans (sep_mono_left (ctx_next D K c b)) ?_
  by_cases h : P
  · have h7 := hP.mp h
    rw [dif_pos h, if_pos h7, if_pos h7]
    subst h7
    iintro ⟨⟨#HI, #Hl, #Hc, #Hr⟩, HX, HO⟩ Hk
    iapply (send_f D K b c (hoff h) (hc₁ h) (hs₁ h) (hr₁ h) O₀ O₁ (hO rfl)) $$ [HX HO]
    · iframe HI Hc Hr HX HO
    iintro ⟨HX, HO⟩
    iapply Hk
    iframe HX HO
  · have h7 : t ≠ 7 := fun h' => h (hP.mpr h')
    rw [dif_neg h, if_neg h7, if_neg h7]
    iintro ⟨⟨#HI, #Hl, #Hc, #Hr⟩, HX, HO⟩ Hk
    iapply Hk
    iframe HX HO

end Stages

end Cert.KernelIdeal.Ring

end
-- ==== Proof.Trip.lean ====
module

public import proofs.«01_k».proof.Proof.Stages

@[expose] public section

/-! One trip of the loop. -/

noncomputable section

namespace Cert.KernelIdeal.Ring

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F] [Named F]

local notation "𝕄" => MT nD τ sig Unit (Elt F) ℕ UU ℕ

section Parts

variable (a0 : Memref sig .tc .vmem S2x128x512 .f32) (h0 : a0.IsWhole) (a1 : Memref sig .tc .vmem S512x512 .f32) (h1 : a1.IsWhole)
  (a2 : Memref sig .tc .vmem S512x512 .f32) (h2 : a2.IsWhole) (a5 : Memref sig .tc .vmem S2x128x512 .f32) (h5 : a5.IsWhole)
  (E : Env F) (K : GSem nD τ sig → ℕ) (c : Dev nD) (t : Fin k0_t1_loop.trips)

theorem run_part1 {v2 v4 v7 u0 u1 : BitVec 32} {Q : _ → sProp 𝕄} :
    iprop(Ctx E.data K c ∗ Xs E.data true c t.val ∗ Xs E.data false c t.val ∗ ow c (owe c t.val t.val t.val t.val)
        ∗ owns (c : Thread nD τ) a1 fullShare (E.wq c) ∗ KV (E.work c t.val) c)
      ⊢ iprop((∀ v₁ v₂ v₃, (Xs E.data true c (t.val + 1) ∗ Xs E.data false c (t.val + 1) ∗ ow c (owe c (t.val + 1) (t.val + 1) t.val t.val)
          ∗ owns (c : Thread nD τ) a1 fullShare (E.wq c) ∗ KV (E.work c t.val) c)
          -∗ Q ⟨v₁, v₂, v₃, k0_pay1 (E.work c t.val).xr (E.work c t.val).wq, k0_pay3 (E.work c t.val).xr (E.work c t.val).wq (kt (E.work c t.val).K (E.work c t.val).a 0) (kt (E.work c t.val).V (E.work c t.val).a 0), k0_pay4 (E.work c t.val).xr (E.work c t.val).wq (kt (E.work c t.val).K (E.work c t.val).a 0)⟩)
        -∗ wp frame (wpE (defs₀ (F := F)) 𝒱₀ (c : Thread nD τ) none) Set.univ
          (k0_part1 a0 h0 a1 h1 a2 h2 (Memref.whole main_v15) (Memref.isWhole_whole _) (Memref.whole main_v16) (Memref.isWhole_whole _) a5 h5 cc0_scratch0 m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) cc0_scratch11 cc0_scratch12 cc0_scratch13 cc0_scratch14 cc0_scratch15 cc0_scratch16 cc0_scratch17 cc0_scratch18 cc0_scratch19 cc0_scratch20 m27 (Memref.isWhole_whole _) cc0_scoped0 c v2 v4 v7 u0 u1 t) Q) := by
  have h8 := work_t t
  have hW := E.work_at c t.val
  rw [k0_part1_eq_skeleton]
  unfold k0_part1_skel
  simp only [semSignalWord, semWaitWord, Prog.lift, Prog.bind_op, Prog.bind_ret, Prog.pure_eq_ret, Prog.bind_assoc]
  iintro ⟨#HC, HX, HY, HO, HW, HK⟩ Hk
  iapply (wait_rows E.data K c t.val (cond1_iff t) h8 (fun h => sem_slot 14 _ _ _ (k0_off1_eq t) (by have := (cond1_iff t).mp h; omega) _ _) (fun h => slot_credit m3 (k0_off2 t) (k0_off2_inb t h)) (fun h => sem_slot 30 _ _ _ (k0_off1_eq t) (by have := (cond1_iff t).mp h; omega) _ _) (fun h => slot_credit m4 (k0_off2 t) (k0_off2_inb t h))
    (owe c t.val t.val t.val t.val) (above_owe c _ _ _ _ _ (by omega) (by omega) (by omega) (by omega) (by omega))) $$ [HX HY HO]
  · unfold Ctx
    icases HC with ⟨#HI, #Hl, -, -, -⟩
    iframe HI Hl HX HY HO
  iintro ⟨HX, HY, HO⟩
  iapply (send_rows E.data K c t.val (cond2_iff t) h8 t.val t.val (fun _ => k0_off6_eq t) (fun _ => k0_off5_eq t) (fun _ => dev_right c _ (k0_dev3_eq c)) (fun _ => dev_left c _ (k0_dev4_eq c)) (fun h => sem_slot 6 _ _ _ (k0_off3_eq t) (by have := (cond2_iff t).mp h; omega) _ _) (fun h => sem_slot 14 _ _ _ (k0_off4_eq t) (by have := (cond2_iff t).mp h; omega) _ _) (fun h => sem_slot 22 _ _ _ (k0_off3_eq t) (by have := (cond2_iff t).mp h; omega) _ _) (fun h => sem_slot 30 _ _ _ (k0_off4_eq t) (by have := (cond2_iff t).mp h; omega) _ _)) $$ [HX HY HO]
  · iframe HC HX HY HO
  iintro ⟨HX, HY, HO⟩
  iapply (load_x E.data true c t.val h8 (k0_off7_eq t)) $$ HX
  iintro HX
  iapply (load_w c a1 (E.wq c)) $$ HW
  iintro HW
  iapply (load_k (E.work c t.val) c (E.work c t.val).a 0 (a_lt hW) (by decide) (by rw [k0_off8_eq, hW.a])) $$ HK
  iintro HK
  iapply (load_v (E.work c t.val) c (E.work c t.val).a 0 (a_lt hW) (by decide) (by rw [k0_off8_eq, hW.a])) $$ HK
  iintro HK
  rw [wp_ret, show E.data.x true (far true c t.val) = (E.work c t.val).xr from rfl, show E.wq c = (E.work c t.val).wq from rfl]
  imodintro
  iapply Hk
  iframe HX HY HO HW HK

theorem run_part9 {v4 arg28 : BitVec 32} {Q : _ → sProp 𝕄} :
    iprop(Ctx E.data K c ∗ Tn (E.work c t.val) c 15 ∗ owns (c : Thread nD τ) a2 fullShare (E.wo c) ∗ As E.data true c t.val
        ∗ ow c (owe c (t.val + 1) (t.val + 1) t.val t.val))
      ⊢ iprop(((Tn (E.work c t.val) c 16 ∗ owns (c : Thread nD τ) a2 fullShare (E.wo c) ∗ Ao E.data true c t.val
          ∗ ow c (if t.val = 7 then owe c (t.val + 1) (t.val + 1) t.val t.val else owe c (t.val + 1) (t.val + 1) (t.val + 1) t.val))
          -∗ Q (k0_pay33 (tiles (E.work c t.val)) (E.wo c)))
        -∗ wp frame (wpE (defs₀ (F := F)) 𝒱₀ (c : Thread nD τ) none) Set.univ
          (k0_part9 a0 h0 a1 h1 a2 h2 (Memref.whole main_v15) (Memref.isWhole_whole _) (Memref.whole main_v16) (Memref.isWhole_whole _) a5 h5 cc0_scratch0 m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) cc0_scratch11 cc0_scratch12 cc0_scratch13 cc0_scratch14 cc0_scratch15 cc0_scratch16 cc0_scratch17 cc0_scratch18 cc0_scratch19 cc0_scratch20 m27 (Memref.isWhole_whole _) cc0_scoped0 c v4 t arg28 (k0_pay29 (kt (E.work c t.val).V (E.work c t.val).b 7)) (k0_pay30 (k0_pay17 (E.work c t.val).xl (E.work c t.val).wq) (kt (E.work c t.val).K (E.work c t.val).b 7))) Q) := by
  have h8 := work_t t
  rw [k0_part9_eq_skeleton]
  unfold k0_part9_skel
  simp only [semSignalWord, semWaitWord, Prog.lift, Prog.bind_op, Prog.bind_ret, Prog.pure_eq_ret, Prog.bind_assoc]
  iintro ⟨#HC, HT, HW, HA, HO⟩ Hk
  iapply (do_tile (E.work c t.val) c 15 (by decide) rfl rfl) $$ HT
  iintro HT
  iapply (get_tiles (E.work c t.val) c) $$ HT
  iintro HT
  iapply (load_w c a2 (E.wo c)) $$ HW
  iintro HW
  iapply (wait_sum E.data K c t.val true (cond3_iff t) h8 (fun h => sem_slot 46 _ _ _ (k0_off24_eq t) (by have := (cond3_iff t).mp h; omega) _ _) (fun h => slot_credit m5 (k0_off25 t) (k0_off25_inb t h))
    (owe c (t.val + 1) (t.val + 1) t.val t.val) (above_owe c _ _ _ _ _ (by omega) (by omega) (by omega) (by omega) (by omega))) $$ [HA HO]
  · iframe HC HA HO
  iintro ⟨HA, HO⟩
  iapply (load_i E.data true c t.val h8 (k0_off7_eq t)) $$ HA
  iintro HA
  iapply (peek_o E.data true c t.val h8 (k0_off7_eq t)) $$ HA
  iintro %v HA
  iapply (store_o E.data true c t.val h8 (k0_off7_eq t) (by dsimp only [Data.out, Data.inn]; rw [Data.outR_eq]; rfl)) $$ HA
  iintro HA
  iapply (send_sum E.data K c t.val true (cond4_iff t) h8 (owe c (t.val + 1) (t.val + 1) t.val t.val) (owe c (t.val + 1) (t.val + 1) (t.val + 1) t.val)
    (fun h => by unfold owe; rw [oweRing_a true c _ _ h]; abel) (fun _ => k0_off29_eq t) (fun _ => k0_off28_eq t) (fun _ => dev_right c _ (k0_dev5_eq c)) (fun h => sem_slot 38 _ _ _ (k0_off26_eq t) (by have := (cond4_iff t).mp h; omega) _ _) (fun h => sem_slot 46 _ _ _ (k0_off27_eq t) (by have := (cond4_iff t).mp h; omega) _ _)) $$ [HA HO]
  · iframe HC HA HO
  iintro ⟨HA, HO⟩
  rw [wp_ret]
  imodintro
  iapply Hk
  iframe HT HW HA HO

/-- What a trip needs and leaves, apart from what is owed. -/
def Held (E : Env F) (a1 a2 : Memref sig .tc .vmem S512x512 .f32) (c : Dev nD) (t : ℕ) : sProp 𝕄 :=
  iprop(Xs E.data true c t ∗ Xs E.data false c t ∗ As E.data true c t ∗ As E.data false c t ∗ ow c (owe c t t t t)
    ∗ owns (c : Thread nD τ) a1 fullShare (E.wq c) ∗ owns (c : Thread nD τ) a2 fullShare (E.wo c)
    ∗ owns (c : Thread nD τ) m1 fullShare (E.K c) ∗ owns (c : Thread nD τ) m2 fullShare (E.V c)
    ∗ (∃ X, owns (c : Thread nD τ) m27 fullShare X))

theorem run_trip {v2 v4 v7 : BitVec 32} {v25 : FVec F S1x128x512 .bf16} {Q : _ → sProp 𝕄} :
    iprop(Ctx E.data K c ∗ Held E a1 a2 c t.val)
      ⊢ iprop((Held E a1 a2 c (t.val + 1) -∗ Q ⟨⟩)
        -∗ wp frame (wpE (defs₀ (F := F)) 𝒱₀ (c : Thread nD τ) none) Set.univ
          (k0_t1_body a0 h0 a1 h1 a2 h2 (Memref.whole main_v15) (Memref.isWhole_whole _) (Memref.whole main_v16) (Memref.isWhole_whole _) a5 h5 cc0_scratch0 m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) cc0_scratch11 cc0_scratch12 cc0_scratch13 cc0_scratch14 cc0_scratch15 cc0_scratch16 cc0_scratch17 cc0_scratch18 cc0_scratch19 cc0_scratch20 m27 (Memref.isWhole_whole _) cc0_scoped0 c v2 v4 v7 v25 t ⟨⟩) Q) := by
  have h8 := work_t t
  have hW := E.work_at c t.val
  unfold k0_t1_body Held
  dsimp only
  iintro ⟨#HC, HX, HY, HA, HB, HO, HW, HV, HK1, HK2, ⟨%X, HT⟩⟩ Hk
  ihave HT := (show (owns (c : Thread nD τ) m27 fullShare X : sProp 𝕄) ⊢ Tn (E.work c t.val) c 0 from by
    unfold Tn
    iintro H
    iexists X
    isplitr
    · ipureintro; exact fun i hi => absurd hi (Nat.not_lt_zero _)
    iexact H) $$ HT
  ihave HK := (show iprop(owns (c : Thread nD τ) m1 fullShare (E.K c) ∗ owns (c : Thread nD τ) m2 fullShare (E.V c)) ⊢ KV (E.work c t.val) c from .rfl) $$ [HK1 HK2]
  · iframe HK1 HK2
  rw [wp_bind]
  iapply (run_part1 a0 h0 a1 h1 a2 h2 a5 h5 E K c t) $$ [HX HY HO HW HK]
  · iframe HC HX HY HO HW HK
  iintro %v₁ %v₂ %v₃ ⟨HX, HY, HO, HW, HK⟩
  dsimp only
  rw [wp_bind]
  iapply (run_part2 a0 h0 a1 h1 a2 h2 a5 h5 (E.work c t.val) c t hW) $$ [HK HT]
  · iframe HK HT
  iintro ⟨HK, HT⟩
  rw [wp_bind]
  iapply (run_part3 a0 h0 a1 h1 a2 h2 a5 h5 (E.work c t.val) c t hW) $$ [HK HT]
  · iframe HK HT
  iintro ⟨HK, HT⟩
  dsimp only
  rw [wp_bind]
  iapply (run_part4 a0 h0 a1 h1 a2 h2 a5 h5 (E.work c t.val) c t hW) $$ [HK HT]
  · iframe HK HT
  iintro ⟨HK, HT⟩
  dsimp only
  rw [wp_bind]
  iapply (run_part5 a0 h0 a1 h1 a2 h2 a5 h5 (E.work c t.val) c t hW E.data rfl) $$ [HK HT HW HY]
  · iframe HK HT HW HY
  iintro ⟨HK, HT, HW, HY⟩
  dsimp only
  rw [wp_bind]
  iapply (run_part6 a0 h0 a1 h1 a2 h2 a5 h5 (E.work c t.val) c t hW) $$ [HK HT]
  · iframe HK HT
  iintro ⟨HK, HT⟩
  rw [wp_bind]
  iapply (run_part7 a0 h0 a1 h1 a2 h2 a5 h5 (E.work c t.val) c t hW) $$ [HK HT]
  · iframe HK HT
  iintro ⟨HK, HT⟩
  dsimp only
  rw [wp_bind]
  iapply (run_part8 a0 h0 a1 h1 a2 h2 a5 h5 (E.work c t.val) c t hW) $$ [HK HT]
  · iframe HK HT
  iintro ⟨HK, HT⟩
  dsimp only
  rw [wp_bind]
  iapply (run_part9 a0 h0 a1 h1 a2 h2 a5 h5 E K c t) $$ [HT HV HA HO]
  · iframe HC HT HV HA HO
  iintro ⟨HT, HV, HA, HO⟩
  simp only [semSignalWord, semWaitWord, Prog.lift, Prog.bind_op, Prog.bind_ret, Prog.pure_eq_ret, Prog.bind_assoc]
  iapply (send_done E.data K c t.val true (cond5_iff t) (owe c (t.val + 1) (t.val + 1) t.val t.val) (owe c (t.val + 1) (t.val + 1) (t.val + 1) t.val)
    (fun h => by rw [h]; unfold owe; rw [oweRing_a_last true]; abel) (fun _ => rfl) (fun _ => dev_right c _ (k0_dev6_eq c)) (fun _ => sem_slot 38 _ ![7] 7 rfl (by decide) _ _) (fun _ => sem_one 70 (by decide) _)) $$ [HA HO]
  · iframe HC HA HO
  iintro ⟨HA, HO⟩
  iapply (wait_sum E.data K c t.val false (cond6_iff t) h8 (fun h => sem_slot 62 _ _ _ (k0_off30_eq t) (by have := (cond6_iff t).mp h; omega) _ _) (fun h => slot_credit m6 (k0_off31 t) (k0_off31_inb t h))
    (owe c (t.val + 1) (t.val + 1) (t.val + 1) t.val) (above_owe c _ _ _ _ _ (by omega) (by omega) (by omega) (by omega) (by omega))) $$ [HB HO]
  · iframe HC HB HO
  iintro ⟨HB, HO⟩
  iapply (load_i E.data false c t.val h8 (k0_off7_eq t)) $$ HB
  iintro HB
  iapply (peek_o E.data false c t.val h8 (k0_off7_eq t)) $$ HB
  iintro %v HB
  iapply (store_o E.data false c t.val h8 (k0_off7_eq t) (by dsimp only [Data.out, Data.inn]; rw [Data.outL_eq]; rfl)) $$ HB
  iintro HB
  iapply (send_sum E.data K c t.val false (cond7_iff t) h8 (owe c (t.val + 1) (t.val + 1) (t.val + 1) t.val) (owe c (t.val + 1) (t.val + 1) (t.val + 1) (t.val + 1))
    (fun h => by unfold owe; rw [oweRing_a false c _ _ h]; abel) (fun _ => k0_off35_eq t) (fun _ => k0_off34_eq t) (fun _ => dev_left c _ (k0_dev7_eq c)) (fun h => sem_slot 54 _ _ _ (k0_off32_eq t) (by have := (cond7_iff t).mp h; omega) _ _) (fun h => sem_slot 62 _ _ _ (k0_off33_eq t) (by have := (cond7_iff t).mp h; omega) _ _)) $$ [HB HO]
  · iframe HC HB HO
  iintro ⟨HB, HO⟩
  iapply (send_done E.data K c t.val false (cond8_iff t) (owe c (t.val + 1) (t.val + 1) (t.val + 1) t.val) (owe c (t.val + 1) (t.val + 1) (t.val + 1) (t.val + 1))
    (fun h => by rw [h]; unfold owe; rw [oweRing_a_last false]; abel) (fun _ => rfl) (fun _ => dev_left c _ (k0_dev8_eq c)) (fun _ => sem_slot 54 _ ![7] 7 rfl (by decide) _ _) (fun _ => sem_one 71 (by decide) _)) $$ [HB HO]
  · iframe HC HB HO
  iintro ⟨HB, HO⟩
  rw [wp_ret]
  imodintro
  iapply Hk
  unfold KV Tn
  icases HK with ⟨HK1, HK2⟩
  icases HT with ⟨%X', -, HT⟩
  iframe HX HY HA HB HO HW HV
  isplitl [HK1]; · iexact HK1
  isplitl [HK2]; · iexact HK2
  iexists X'
  iexact HT

end Parts

end Cert.KernelIdeal.Ring

end
-- ==== Proof.Enter.lean ====
module

public import proofs.«01_k».proof.Proof.Trip

@[expose] public section

/-! The two barriers, the copies of the keys and values, and the first slots. -/

noncomputable section

namespace Cert.KernelIdeal.Ring

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F] [Named F]

local notation "𝕄" => MT nD τ sig Unit (Elt F) ℕ UU ℕ

section Barriers

variable (D : Data F) (K : GSem nD τ sig → ℕ) (c : Dev nD)
variable {α : Type} {k : PUnit → Prog (TpuEff nD τ sig (Elt F) Λ₀ .tc) α}

/-- A unit for a barrier of device `c'`. -/
theorem signal_reg {Q : α → sProp 𝕄} (c' : Dev nD) {c'' : Dev nD} (hc : c'' = c') (s : Sem sig) {s' : Sem sig} (hs : s' = s)
    (hm : (((c' : Thread nD τ), .reg s) : GSem nD τ sig) ∈ barCells ∪ scCells) (d : Bool)
    (hd : d ∈ (Rd D).duties ((c' : Thread nD τ), .reg s) 0) (O₀ O : CellTallies nD τ sig Unit)
    (hO : O₀ = O + tallyAt ((c' : Thread nD τ), .reg s) () 1) :
    iprop(recs D K ∗ dutyTok ER ((c' : Thread nD τ), .reg s) 0 d ∗ (Rd D).payload ((c' : Thread nD τ), .reg s) 0 d
        ∗ reached ER ((c' : Thread nD τ), .reg s) 0 ∗ ow c O₀)
      ⊢ iprop((ow c O -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (c'' : Thread nD τ) s' ((1#32 : BitVec 32).toInt)) k) Q) := by
  subst hc hs
  unfold ow
  iintro ⟨#HI, Ht, Hp, Hr, ⟨%W, HO⟩⟩ Hk
  iapply (Rounds.wp_signal 𝒱₀ ER (Rd D) (c : Thread nD τ) none (dst := (c'' : Thread nD τ)) (sem := s') (r := 0) (d := d) (k' := 1)
    (κ := K ((c'' : Thread nD τ), .reg s')) hd (amount_reg D c'' s' d) () O hO (W := W)) $$ [HO Ht Hp Hr]
  · isplitr; · iapply (inv_at D K hm); iexact HI
    isplitl [HO]; · iexact HO
    isplitl [Ht]; · iexact Ht
    isplitl [Hp]; · iexact Hp
    iexact Hr
  iintro HO
  iapply Hk
  iexists W
  iexact HO

/-- The wait for both neighbours' units. -/
theorem wait_reg {Q : α → sProp 𝕄} (s : Sem sig) {s' : Sem sig} (hs : s' = s)
    (hm : (((c : Thread nD τ), .reg s) : GSem nD τ sig) ∈ barCells ∪ scCells)
    (he : (Rd D).expect ((c : Thread nD τ), .reg s) 0 = 2) (b : ℕ) (hb : lv ((c : Thread nD τ), .reg s) () ≤ b)
    (O : CellTallies nD τ sig Unit) (hab : Above b O) :
    iprop(recs D K ∗ levAts L lv ∗ cred (tallyAt ((c : Thread nD τ), .reg s) () 2) ∗ atPos ER ((c : Thread nD τ), .reg s) 0 ∅ 0 ∗ ow c O)
      ⊢ iprop(((ow c O ∗ semVal ((c : Thread nD τ), .reg s) 0
          ∗ bigSep ((Rd D).duties ((c : Thread nD τ), .reg s) 0 \ ∅) (fun u => (Rd D).payload ((c : Thread nD τ), .reg s) 0 u)) -∗ wp frame (wpE (defs₀ (F := F)) 𝒱₀ (c : Thread nD τ) none) Set.univ (k ⟨⟩) Q)
        -∗ wp frame (wpE (defs₀ (F := F)) 𝒱₀ (c : Thread nD τ) none) Set.univ (.op (.semWait s' ((2#32 : BitVec 32).toInt)) k) Q) := by
  subst hs
  unfold ow
  iintro ⟨#HI, #Hlev, Hc, Hat, ⟨%W, HO⟩⟩ Hk
  iapply (Rounds.wp_wait_rest_token 𝒱₀ ER (Rd D) (c : Thread nD τ) none (κ := K ((c : Thread nD τ), .reg s'))
      (wpE_semWait_eq 𝒱₀ (c : Thread nD τ) none Set.univ) (Set.mem_univ _) () (O := O) (W := W) (R := 0) (m := 0) (T := ∅)
      ((Nat.zero_add 2).trans he.symm)) $$ [Hc HO Hat]
  · isplitr; · iapply (inv_at D K hm); iexact HI
    isplitl [Hc]; · iexact Hc
    isplitl [HO]; · iexact HO
    isplitr; · iapply (mayWait c (.reg s') b hb O hab); iexact Hlev
    iexact Hat
  iintro ⟨HO, Hat, -, Hpay⟩
  imod (close D (K ((c : Thread nD τ), .reg s')) ((c : Thread nD τ), .reg s')) $$ [Hat] with Hs
  · isplitr; · iapply (inv_at D K hm); iexact HI
    iexact Hat
  iapply Hk
  isplitl [HO]; · iexists _; iexact HO
  isplitl [Hs]; · iexact Hs
  iexact Hpay

end Barriers

/-! ## Copies within a device -/

section Copies

variable (c : Dev nD) {sp sp' : Space} {s : Shape} {e : EltTy} (src : Memref sig .tc sp s e) (dst : Memref sig .tc sp' s e)
variable {α : Type} {k : PUnit → Prog (TpuEff nD τ sig (Elt F) Λ₀ .tc) α}

theorem copy_start {Q : α → sProp 𝕄} {n : ℕ} {sem : DmaSem sig} (hs : sem = dk n) (X : s.Idx → Elt F e) (hN : 0 < dst.view.dmaCredit)
    {h₁ : src.view.WordExact} {h₂ : dst.view.WordExact} {h₃ : DmaTarget.Typed (nD := nD) sp (.dma sem) (DmaTarget.here (p := (Proc.tc : Proc τ)) dst)} :
    iprop(owns (c : Thread nD τ) src fullShare X ∗ (∃ Y, owns (c : Thread nD τ) dst fullShare Y) ∗ semVal (dcell c n) 0)
      ⊢ iprop((Transfers.Flight EC (c : Thread nD τ) (.dma (dk n)) () dst.view.dmaCredit
            iprop(owns (c : Thread nD τ) dst fullShare X ∗ owns (c : Thread nD τ) src fullShare X) -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma src (.here dst) (.dma sem) h₁ h₂ h₃) k) Q) := by
  subst hs
  unfold owns
  iintro ⟨⟨%fs, %hf, Hs⟩, ⟨%Y, %fd, -, Hd⟩, Hv⟩ Hk
  iapply (Transfers.wp_dmaLocal EC 𝒱₀ (c : Thread nD τ) none (src := src) (dst := dst) (sm := .dma (dk n)) (q := fullShare) (fs := fs) (fd := fd)
    (Sd := dst.view.set) () dst.view.dmaCredit rfl hN (Finset.Subset.refl _)) $$ [Hs Hd Hv]
  · isplitl [Hs]; · iexact Hs
    isplitl [Hd]; · iexact Hd
    iexact Hv
  iintro HF
  iapply Hk
  iapply (Transfers.Flight_mono EC (c : Thread nD τ) (show iprop((dst.view.loc (c : Thread nD τ) ↦[dst.view.set]{fullShare} (dst.view.write (Elt F) fd (src.view.read (Elt F) fs) Finset.univ))
      ∗ (src.view.loc (c : Thread nD τ) ↦[src.view.set]{fullShare} fs)) ⊢ (iprop((∃ f, ⌜dst.view.read (Elt F) f = X⌝ ∗ (dst.view.loc (c : Thread nD τ) ↦[dst.view.set]{fullShare} f))
        ∗ ∃ f, ⌜src.view.read (Elt F) f = X⌝ ∗ (src.view.loc (c : Thread nD τ) ↦[src.view.set]{fullShare} f)) : sProp 𝕄) from by
    iintro ⟨Hd, Hs⟩
    isplitl [Hd]
    · iexists _
      isplitr
      · ipureintro
        exact (View.read_write_univ (v := dst.view) fd _).trans hf
      iexact Hd
    iexists fs
    isplitr
    · ipureintro; exact hf
    iexact Hs)) $$ HF

theorem copy_wait {Q : α → sProp 𝕄} {n : ℕ} {sem : DmaSem sig} (hs : sem = dk n) (h : n < 6) (X : s.Idx → Elt F e)
    {h₁ : src.view.WordExact} {h₂ : dst.view.WordExact} (O : CellTallies nD τ sig Unit) (hab : Above 0 O) :
    iprop(levAts L lv ∗ Transfers.Flight EC (c : Thread nD τ) (.dma (dk n)) () dst.view.dmaCredit
        iprop(owns (c : Thread nD τ) dst fullShare X ∗ owns (c : Thread nD τ) src fullShare X) ∗ ow c O)
      ⊢ iprop(((owns (c : Thread nD τ) dst fullShare X ∗ owns (c : Thread nD τ) src fullShare X ∗ semVal (dcell c n) 0 ∗ ow c O) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sem src dst h₁ h₂) k) Q) := by
  subst hs
  unfold ow
  iintro ⟨#Hlev, HF, ⟨%W, HO⟩⟩ Hk
  iapply (Transfers.wp_waitLocalO EC 𝒱₀ (c : Thread nD τ) none (sem := dk n) (srcw := src) (dstw := dst) () rfl (O := O) (W := W)) $$ [HF HO]
  · isplitl [HF]; · iexact HF
    isplitl [HO]; · iexact HO
    iapply (mayWait c (.dma (dk n)) 0 (by rw [lv_dma c (by omega)]; unfold lvD; rw [if_pos (by omega)]) O hab)
    iexact Hlev
  iintro ⟨⟨Hd, Hs⟩, Hv, HO⟩
  iapply Hk
  iframe Hd Hs Hv
  iexists _
  iexact HO

end Copies

/-- The first slot of a ring buffer, read and then written. -/
theorem start_slot (w : Ring8) (c : Dev nD) {off off' : Fin 4 → ℕ} (hoff : off = ![0, 0, 0, 0]) (hoff' : off' = ![0, 0, 0, 0]) {inb inb'}
    {hl : (mem w).view.LoadsAt (Rect.unit (s := S8x1x128x512) off S1x1x128x512.size inb).toLoadRect}
    {v : (⟨S1x1x128x512, .bf16⟩ : BufTy).Contents (Elt F)} {hx : ((mem w).access (Rect.unit (s := S8x1x128x512) off' S1x1x128x512.size inb')).Stores Finset.univ} {hm}
    (G : (⟨S8x1x128x512, .bf16⟩ : BufTy).Contents (Elt F)) (hG : ∀ y : S1x1x128x512.Idx, G (at4 0 (by decide) (y 2) (y 3)) = v y)
    {α : Type} {k : PUnit → Prog (TpuEff nD τ sig (Elt F) Λ₀ .tc) α} {Q : α → sProp 𝕄} :
    iprop(∃ f, held w c 0 1 fullShare f)
      ⊢ iprop((held w c 0 1 fullShare G -∗ wp frame (wpE (defs₀ (F := F)) 𝒱₀ (c : Thread nD τ) none) Set.univ (k ⟨⟩) Q)
        -∗ wp frame (wpE (defs₀ (F := F)) 𝒱₀ (c : Thread nD τ) none) Set.univ (.op (.load (mem w) (Rect.unit (s := S8x1x128x512) off S1x1x128x512.size inb).toLoadRect hl) fun _ =>
            .op (.store (mem w) (Rect.unit (s := S8x1x128x512) off' S1x1x128x512.size inb') v Finset.univ hx hm) k) Q) := by
  rw [held_eq w c 0 1 fullShare G]
  iintro ⟨%f, H⟩ Hk
  ihave H := (Entails.of_eq (held_eq w c 0 1 fullShare f)) $$ H
  iapply (load_slot c (mem w) off 0 hoff (by decide) (rows 0 1) (fun i hi => hi) (cont w f c)
    (fun y => (mem w).view.read (Elt F) (cont w f c) (at4 0 (by decide) (y 2) (y 3))) (fun y => rfl)) $$ H
  iintro H
  iapply (store_slot c (mem w) off' 0 hoff' (by decide) (cont w f c) (cont w G c) (fun y => by rw [read_cont]; exact hG y)) $$ H
  iexact Hk

/-! ## The entry -/

/-- What crosses the entry barrier. -/
def Gate (c : Dev nD) : sProp 𝕄 :=
  iprop(dutyTok ER (barCell (left c)) 0 true ∗ dutyTok ER (barCell (right c)) 0 false ∗ reached ER (barCell (left c)) 0 ∗ reached ER (barCell (right c)) 0
    ∗ atPos ER (barCell c) 0 ∅ 0 ∗ cred (tallyAt (barCell c) () 2))
/-- What crosses the exit barrier. -/
def Leave (c : Dev nD) : sProp 𝕄 :=
  iprop(dutyTok ER (exitCell (left c)) 0 true ∗ dutyTok ER (exitCell (right c)) 0 false ∗ atPos ER (exitCell c) 0 ∅ 0 ∗ cred (tallyAt (exitCell c) () 2))

/-- Device `c'`'s slots for what arrives from its left; -/
def RoomR (c' : Dev nD) : sProp 𝕄 := iprop((∃ f, xRp c' 1 8 fullShare f) ∗ (∃ f, iRp c' 1 8 fullShare f) ∗ (∃ f, fRp c' f))
/-- and from its right. -/
def RoomL (c' : Dev nD) : sProp 𝕄 := iprop((∃ f, xLp c' 1 8 fullShare f) ∗ (∃ f, iLp c' 1 8 fullShare f) ∗ (∃ f, fLp c' f))

section Cross

variable (D : Data F) (K : GSem nD τ sig → ℕ) (c : Dev nD)
variable {α : Type} {k : PUnit → Prog (TpuEff nD τ sig (Elt F) Λ₀ .tc) α}

theorem barR_left : (barPayR (left c) : sProp 𝕄) = iprop((∃ f, xRp c 1 8 fullShare f) ∗ (∃ f, iRp c 1 8 fullShare f) ∗ (∃ f, fRp c f) ∗ opn c) := by
  unfold barPayR; rw [right_left]
theorem barL_right : (barPayL (right c) : sProp 𝕄) = iprop((∃ f, xLp c 1 8 fullShare f) ∗ (∃ f, iLp c 1 8 fullShare f) ∗ (∃ f, fLp c f) ∗ opn c) := by
  unfold barPayL; rw [left_right]

theorem cross {Q : α → sProp 𝕄} {c₁ c₂ : Dev nD} (h₁ : c₁ = left c) (h₂ : c₂ = right c) {s₁ s₂ s₃ : Sem sig} (e₁ : s₁ = barS) (e₂ : s₂ = barS) (e₃ : s₃ = barS)
    (O : CellTallies nD τ sig Unit) (hab : Above 1 O) :
    iprop(recs D K ∗ levAts L lv ∗ opn c ∗ Gate c ∗ RoomR c ∗ RoomL c ∗ ow c (O + tallyAt (barCell (right c)) () 1 + tallyAt (barCell (left c)) () 1))
      ⊢ iprop(((Ctx D K c ∗ RoomR (right c) ∗ RoomL (left c) ∗ semVal (barCell c) 0 ∗ ow c O) -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (c₁ : Thread nD τ) s₁ ((1#32 : BitVec 32).toInt)) fun _ =>
            .op (.semSignal (c₂ : Thread nD τ) s₂ ((1#32 : BitVec 32).toInt)) fun _ => .op (.semWait s₃ ((2#32 : BitVec 32).toInt)) k) Q) := by
  unfold Gate RoomR RoomL Ctx
  iintro ⟨#HI, #Hl, #Ho, ⟨Ht, Ht', Hr, Hr', Hat, Hc⟩, ⟨Hx, Hi, Hf⟩, ⟨Hx', Hi', Hf'⟩, HO⟩ Hk
  iapply (signal_reg D K c (left c) h₁ barS e₁ (bar_mem _) true (by rw [duties_bar]; decide) _ (O + tallyAt (barCell (right c)) () 1) rfl) $$ [Ht Hx Hi Hf Hr HO]
  · iframe HI Ht Hr HO
    rw [payload_barR, barR_left]
    iframe Hx Hi Hf Ho
  iintro HO
  iapply (signal_reg D K c (right c) h₂ barS e₂ (bar_mem _) false (by rw [duties_bar]; decide) _ O rfl) $$ [Ht' Hx' Hi' Hf' Hr' HO]
  · iframe HI Ht' Hr' HO
    rw [payload_barL, barL_right]
    iframe Hx' Hi' Hf' Ho
  iintro HO
  iapply (wait_reg D K c barS e₃ (bar_mem c) (expect_bar D c) 1 (le_of_eq (lv_bar c)) O hab) $$ [Hc Hat HO]
  · iframe HI Hl Hc Hat HO
  iintro ⟨HO, Hv, Hp⟩
  ihave Hp := (Entails.of_eq (rest_bar D c)) $$ Hp
  unfold barPayR barPayL
  icases Hp with ⟨⟨Hx', Hi', Hf', #Hq'⟩, ⟨Hx, Hi, Hf, #Hq⟩⟩
  iapply Hk
  iframe HI Hl Ho Hq Hq' Hx Hi Hf Hx' Hi' Hf' Hv HO

theorem depart {Q : α → sProp 𝕄} {c₁ c₂ : Dev nD} (h₁ : c₁ = left c) (h₂ : c₂ = right c) {s₁ s₂ s₃ : Sem sig} (e₁ : s₁ = exitS) (e₂ : s₂ = exitS) (e₃ : s₃ = exitS) :
    iprop(Ctx D K c ∗ Leave c ∗ ow c (oweExit c))
      ⊢ iprop(((semVal (exitCell c) 0 ∗ ow c 0) -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (c₁ : Thread nD τ) s₁ ((1#32 : BitVec 32).toInt)) fun _ =>
            .op (.semSignal (c₂ : Thread nD τ) s₂ ((1#32 : BitVec 32).toInt)) fun _ => .op (.semWait s₃ ((2#32 : BitVec 32).toInt)) k) Q) := by
  unfold Leave Ctx opn
  iintro ⟨⟨#HI, #Hl, -, ⟨-, #Hq⟩, ⟨-, #Hq'⟩⟩, ⟨Ht, Ht', Hat, Hc⟩, HO⟩ Hk
  iapply (signal_reg D K c (left c) h₁ exitS e₁ (exit_mem _) true (by rw [duties_exit]; decide) _ (tallyAt (exitCell (right c)) () 1) rfl) $$ [Ht HO]
  · iframe HI Ht Hq' HO
    rw [payload_exit]
    iempintro
  iintro HO
  iapply (signal_reg D K c (right c) h₂ exitS e₂ (exit_mem _) false (by rw [duties_exit]; decide) _ 0 (zero_add _).symm) $$ [Ht' HO]
  · iframe HI Ht' Hq HO
    rw [payload_exit]
    iempintro
  iintro HO
  iapply (wait_reg D K c exitS e₃ (exit_mem c) (expect_exit D c) 20 (le_of_eq (lv_exit c)) 0 (above_zero 20)) $$ [Hc Hat HO]
  · iframe HI Hl Hc Hat HO
  iintro ⟨HO, Hv, -⟩
  iapply Hk
  iframe Hv HO

end Cross

end Cert.KernelIdeal.Ring

end
-- ==== Proof.Ends.lean ====
module

public import proofs.«01_k».proof.Proof.Enter

@[expose] public section

/-! What the loop starts from and ends in, and the waits for the departures. -/

noncomputable section

namespace Cert.KernelIdeal.Ring

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F] [Named F]

local notation "𝕄" => MT nD τ sig Unit (Elt F) ℕ UU ℕ

theorem sep_shift (n lo hi : ℕ) (Φ : ℕ → sProp 𝕄) :
    bigSep (Finset.Ico lo hi) (fun j => Φ (n + j)) = bigSep (Finset.Ico (n + lo) (n + hi)) Φ := by
  rw [← Finset.map_add_left_Ico lo hi n, bigSep_map]; rfl

theorem sep_both (A : Finset ℕ) (Φ Ψ : ℕ → sProp 𝕄) : bigSep A (fun i => iprop(Φ i ∗ Ψ i)) = iprop(bigSep A Φ ∗ bigSep A Ψ) := bigSep_sep A Φ Ψ

/-- Pieces that follow each other make one. -/
theorem glue (P : ℕ → ℕ → sProp 𝕄) (h₀ : iprop(emp) ⊢ P 0 0) (hP : ∀ n, P 0 (n + 1) = iprop(P 0 n ∗ P n (n + 1))) (n : ℕ) :
    bigSep (Finset.Ico 0 n) (fun j => P j (j + 1)) ⊢ P 0 n := by
  induction n with
  | zero => rw [sep_none (le_refl 0)]; exact h₀
  | succ n ih =>
    rw [sep_last (Nat.zero_le n), hP n]
    iintro ⟨H, H'⟩
    isplitl [H']
    · iapply ih; iexact H'
    iexact H

/-- So do slots. -/
theorem glue_held (w : Ring8) (c : Dev nD) (q : PosShare TreeShare) (f : (⟨S8x1x128x512, .bf16⟩ : BufTy).Contents (Elt F)) (n : ℕ) :
    bigSep (Finset.Ico 0 n) (fun j => held w c j (j + 1) q f) ⊢ (held w c 0 n q f : sProp 𝕄) :=
  glue (fun a b => held w c a b q f) (Entails.of_eq (held_none w c 0 0 q f (le_refl 0)).symm)
    (fun n => cut_held w c 0 n (n + 1) (Nat.zero_le n) (Nat.le_succ n) q f) n

/-- Device `c`'s semaphores of the set `A` are at zero. -/
def Sems (c : Dev nD) (A : Finset ℕ) : sProp 𝕄 := bigSep A fun n => semVal (dcell c n) 0

theorem sems_union (c : Dev nD) {A B : Finset ℕ} (h : Disjoint A B) : (Sems c (A ∪ B) : sProp 𝕄) = iprop(Sems c A ∗ Sems c B) := bigSep_union h

/-- The semaphores no transfer uses. -/
def dead : Finset ℕ := {13, 14, 29, 30, 46, 62}
/-- The semaphores the ring's transfers use. -/
def used : Finset ℕ := Finset.Ico 6 72 \ dead

/-! ## The departures, in the order they are waited for -/

def order (i : ℕ) : ℕ := if i < 28 then 6 + 16 * (i % 4) + i / 4 else 45 + 16 * (i - 28)
theorem order_inj : Function.Injective order := by
  intro i j h
  unfold order at h
  split_ifs at h <;> omega

theorem order_sep (Φ : ℕ → sProp 𝕄) :
    bigSep (Finset.Ico 0 30) (fun i => Φ (order i))
      = iprop(bigSep (Finset.Ico 6 13) Φ ∗ bigSep (Finset.Ico 22 29) Φ ∗ bigSep (Finset.Ico 38 46) Φ ∗ bigSep (Finset.Ico 54 62) Φ) := by
  have h := bigSep_map (s := Finset.Ico 0 30) (⟨order, order_inj⟩ : ℕ ↪ ℕ) (Φ := Φ)
  rw [show (Finset.Ico 0 30).map (⟨order, order_inj⟩ : ℕ ↪ ℕ) = Finset.Ico 6 13 ∪ (Finset.Ico 22 29 ∪ (Finset.Ico 38 46 ∪ Finset.Ico 54 62)) from by decide,
    bigSep_union (by decide), bigSep_union (by decide), bigSep_union (by decide)] at h
  exact h.symm

section Drain

variable (D : Data F) (K : GSem nD τ sig → ℕ) (c : Dev nD)

/-- The first `i` departures are over. -/
def Out (i : ℕ) : sProp 𝕄 :=
  iprop(bigSep (Finset.Ico i 30) (fun j => rtk c (order j)) ∗ bigSep (Finset.Ico 0 i) (fun j => iprop(semVal (dcell c (order j)) 0 ∗ pay D c (order j))) ∗ ow c (oweExit c))

theorem drain (i : ℕ) (hi : i < 30) {sp sp' : Space} {s s' : Shape} {e e' : EltTy}
    {src : Memref sig .tc sp s e} {dst : Memref sig .tc sp' s' e'} {sem : DmaSem sig}
    {h₁ : src.view.WordExact} {h₂ : dst.view.WordExact} (hs : sem = dk (order i)) (hN : dst.view.dmaCredit = NN) {α : Type}
    {k : PUnit → Prog (TpuEff nD τ sig (Elt F) Λ₀ .tc) α} {Q : α → sProp 𝕄} :
    iprop(Ctx D K c ∗ Out D c i)
      ⊢ iprop((Out D c (i + 1) -∗ wp frame (wpE (defs₀ (F := F)) 𝒱₀ (c : Thread nD τ) none) Set.univ (k ⟨⟩) Q) -∗ wp frame (wpE (defs₀ (F := F)) 𝒱₀ (c : Thread nD τ) none) Set.univ (.op (.waitDma2 sem src dst h₁ h₂) k) Q) := by
  have hl : ∀ i : Fin 30, live (order i.val) = true := by decide
  have hv : ∀ i : Fin 30, lvD (order i.val) < 20 := by decide
  unfold Ctx Out
  rw [sep_head hi, sep_last (Nat.zero_le i)]
  iintro ⟨⟨#HI, #Hl, -⟩, ⟨Hr, HR⟩, HD, HO⟩ Hk
  iapply (wait_dma D K c (hl ⟨i, hi⟩) hs hN _ (above_exit c _ (hv ⟨i, hi⟩))) $$ [Hr HO]
  · iframe HI Hl Hr HO
  iintro ⟨HO, Hv, Hp⟩
  iapply Hk
  iframe HR HD HO Hv Hp

theorem out_start :
    iprop(bigSep (Finset.Ico 6 13) (fun n => rtk (F := F) c n) ∗ bigSep (Finset.Ico 22 29) (fun n => rtk c n) ∗ bigSep (Finset.Ico 38 46) (fun n => rtk c n)
        ∗ bigSep (Finset.Ico 54 62) (fun n => rtk c n) ∗ ow c (oweExit c)) ⊢ Out D c 0 := by
  unfold Out
  rw [order_sep (fun n => rtk c n), sep_none (le_refl 0)]
  iintro ⟨H₁, H₂, H₃, H₄, HO⟩
  iframe H₁ H₂ H₃ H₄ HO

theorem pays (k hi : ℕ) (hk : hi ≤ 8) :
    bigSep (Finset.Ico (6 + 8 * k) (6 + 8 * k + hi)) (fun n => pay D c n) = bigSep (Finset.Ico 0 hi) fun j => payAt D c k j := by
  rw [show Finset.Ico (6 + 8 * k) (6 + 8 * k + hi) = Finset.Ico (6 + 8 * k + 0) (6 + 8 * k + hi) from rfl, ← sep_shift]
  exact bigSep_congr fun j hj => pay_eq D c k j (by have := (Finset.mem_Ico.mp hj).2; omega)

theorem out_end :
    Out D c 30 ⊢ iprop((Sems c (Finset.Ico 6 13) ∗ Sems c (Finset.Ico 22 29) ∗ Sems c (Finset.Ico 38 46) ∗ Sems c (Finset.Ico 54 62))
        ∗ xRp c 0 7 hA (D.XR c) ∗ xLp c 0 7 hA (D.XL c) ∗ oRp c 0 8 fullShare (D.OR c) ∗ oLp c 0 8 fullShare (D.OL c) ∗ ow c (oweExit c)) := by
  unfold Out Sems
  rw [order_sep (fun n => iprop(semVal (dcell c n) 0 ∗ pay D c n)), sep_both, sep_both, sep_both, sep_both,
    show Finset.Ico 6 13 = Finset.Ico (6 + 8 * 0) (6 + 8 * 0 + 7) from rfl, show Finset.Ico 22 29 = Finset.Ico (6 + 8 * 2) (6 + 8 * 2 + 7) from rfl,
    show Finset.Ico 38 46 = Finset.Ico (6 + 8 * 4) (6 + 8 * 4 + 8) from rfl, show Finset.Ico 54 62 = Finset.Ico (6 + 8 * 6) (6 + 8 * 6 + 8) from rfl,
    pays D c 0 7 (by decide), pays D c 2 7 (by decide), pays D c 4 8 (by decide), pays D c 6 8 (by decide)]
  iintro ⟨-, ⟨⟨V₁, P₁⟩, ⟨V₂, P₂⟩, ⟨V₃, P₃⟩, ⟨V₄, P₄⟩⟩, HO⟩
  isplitl [V₁ V₂ V₃ V₄]
  · isplitl [V₁]; · iexact V₁
    isplitl [V₂]; · iexact V₂
    isplitl [V₃]; · iexact V₃
    iexact V₄
  isplitl [P₁]
  · iapply (glue_held (.x true) c hA (D.XR c) 7); iexact P₁
  isplitl [P₂]
  · iapply (glue_held (.x false) c hA (D.XL c) 7); iexact P₂
  isplitl [P₃]
  · iapply (glue_held (.o true) c fullShare (D.OR c) 8); iexact P₃
  isplitl [P₄]
  · iapply (glue_held (.o false) c fullShare (D.OL c) 8); iexact P₄
  iexact HO

end Drain

/-! ## The ends of the loop -/

section Ends

variable (D : Data F) (c : Dev nD)

/-- The arrivals on `n + 1, …, n + 7` from one neighbour, and the seven transfers on `m, …` to the other, `c'`. -/
def Tok (c' : Dev nD) (n m : ℕ) : sProp 𝕄 :=
  iprop(bigSep (Finset.Ico 1 8) (fun j => rtk c (n + j)) ∗ bigSep (Finset.Ico 0 7) (fun j => stk c c' (m + j) (n + (j + 1))))
/-- All the transfers of device `c`. -/
def Goods : sProp 𝕄 :=
  iprop(Tok c (right c) 14 6 ∗ Tok c (left c) 30 22 ∗ Tok c (right c) 46 38 ∗ Tok c (left c) 62 54
    ∗ stk c (right c) (38 + 7) 70 ∗ stk c (left c) (54 + 7) 71 ∗ rtk c 70 ∗ rtk c 71)

theorem Xs_start (b : Bool) :
    iprop(held (.x b) c 0 1 fullShare (D.X b c) ∗ (∃ f, held (.x b) (next b c) 1 8 fullShare f) ∗ Tok c (next b c) (xIn b) (xOut b)) ⊢ Xs D b c 0 := by
  unfold Xs Tok
  rw [if_pos rfl, if_neg (by decide), show max 0 1 = 1 from rfl, show min 0 7 = 0 from rfl, sep_none (le_refl 1), sep_none (le_refl 0), held_none _ _ 0 0 _ _ (le_refl 0)]
  iintro ⟨HX, HR, Hr, Hs⟩
  iframe HX HR Hr Hs

theorem Xs_end (b : Bool) : Xs D b c 8 ⊢ iprop(held (.x b) c 0 8 hB (D.X b c) ∗ held (.x b) c 7 8 hA (D.X b c)
    ∗ Sems c (Finset.Ico (xIn b + 1) (xIn b + 8)) ∗ bigSep (Finset.Ico (xOut b) (xOut b + 7)) (fun k => rtk c k)) := by
  unfold Xs Sems
  rw [if_neg (by decide), if_pos rfl, show max 8 1 = 8 from rfl, show min 8 7 = 7 from rfl, sep_shift (xIn b) 1 8 (fun k => semVal (dcell c k) 0), sep_shift (xOut b) 0 7 (fun k => rtk c k)]
  iintro ⟨HX, -, HX', -, -, Hv, -, Hr⟩
  iframe HX HX' Hv Hr

theorem As_start (b : Bool) :
    iprop(held (.i b) c 0 1 fullShare (D.I b c) ∗ (∃ f, held (.i b) (next b c) 1 8 fullShare f) ∗ (∃ f, done b (next b c) f) ∗ (∃ f, held (.o b) c 0 8 fullShare f)
      ∗ Tok c (next b c) (aIn b) (aOut b) ∗ stk c (next b c) (aOut b + 7) (fIn b)) ⊢ As D b c 0 := by
  unfold As Tok
  rw [if_pos (by decide), if_pos (by decide), show max 0 1 = 1 from rfl, sep_none (le_refl 1), sep_none (le_refl 0)]
  iintro ⟨HX, HR, HF, Ho, ⟨Hr, Hs⟩, Hs'⟩
  iframe HX HR HF Ho Hr Hs Hs'

theorem As_end (b : Bool) : As D b c 8 ⊢ iprop(held (.i b) c 0 8 fullShare (D.I b c) ∗ Sems c (Finset.Ico (aIn b + 1) (aIn b + 8)) ∗ bigSep (Finset.Ico (aOut b) (aOut b + 8)) (fun k => rtk c k)) := by
  unfold As Sems
  rw [if_neg (by decide), if_neg (by decide), show max 8 1 = 8 from rfl, sep_shift (aIn b) 1 8 (fun k => semVal (dcell c k) 0), sep_shift (aOut b) 0 8 (fun k => rtk c k)]
  iintro ⟨HX, -, -, -, -, Hv, -, -, Hr⟩
  iframe HX Hv Hr

end Ends

end Cert.KernelIdeal.Ring

end
-- ==== Proof.Body.lean ====
module

public import proofs.«01_k».proof.Proof.Ends

@[expose] public section

/-! The whole kernel on one device: in through the barrier, the eight trips, the rows out, and the departures. -/

noncomputable section

namespace Cert.KernelIdeal.Ring

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F] [Named F]

local notation "𝕄" => MT nD τ sig Unit (Elt F) ℕ UU ℕ

theorem sem_kv (j : ℕ) (hj : j < 2) (h : 4 + S2.numel ≤ 72) (off : Fin 1 → ℕ) (hoff : off = ![j]) (inb) (hq) :
    (((SemArray.consecutive 4 S2 h : DmaSems sig S2).slice (Rect.unit (s := S2) off S1.size inb)).squeeze S_ hq).sem = dk (4 + j) := by
  subst hoff
  apply Fin.ext
  have hS : S2.numel = 2 := by decide
  rw [dk_val (by omega)]
  show 4 + (S2.rowMajor ((Rect.unit (s := S2) ![j] S1.size inb).emb (Shape.reshapeEquiv _ _))).val = 4 + j
  rw [Shape.rowMajor_val_one, Rect.emb_apply]
  have h1 : ∀ y : S1.Idx, (y 0).val = 0 := fun y => by have : (y 0).val < 1 := (y 0).isLt; omega
  rw [h1]
  rfl

theorem back_zero (c : Dev nD) : back c 0 = c := Fin.ext (by have := lt8 c; simp only [back]; omega)
theorem fwd_zero (c : Dev nD) : fwd c 0 = c := Fin.ext (by have := lt8 c; simp only [fwd]; omega)

section Row

variable (c : Dev nD) (m : Memref sig .tc .vmem S2x128x512 .f32) (a : Fin 2)

theorem row_emb {off : Fin 3 → ℕ} (hoff : off = ![a.val, 0, 0]) (inb) (y : S1x128x512.Idx) :
    (Rect.unit (s := S2x128x512) off S1x128x512.size inb).emb y = ix3 a (y 1) (y 2) := by
  subst hoff
  funext i
  apply Fin.ext
  rw [Rect.emb_apply]
  have y0 : (y 0).val = 0 := by have : (y 0).val < 1 := (y 0).isLt; omega
  fin_cases i
  · show a.val + 1 * (y 0).val = a.val; omega
  · show 0 + 1 * (y 1).val = (y 1).val; omega
  · show 0 + 1 * (y 2).val = (y 2).val; omega

/-- The load of one of two rows. -/
theorem load_row (X : S2x128x512.Idx → Elt F .f32) {off : Fin 3 → ℕ} (hoff : off = ![a.val, 0, 0]) {inb}
    {hl : m.view.LoadsAt (Rect.unit (s := S2x128x512) off S1x128x512.size inb).toLoadRect}
    {α : Type} {k : (S1x128x512.Idx → Elt F .f32) → Prog (TpuEff nD τ sig (Elt F) Λ₀ .tc) α} {Q : α → sProp 𝕄} :
    (owns (c : Thread nD τ) m fullShare X : sProp 𝕄)
      ⊢ iprop((owns (c : Thread nD τ) m fullShare X -∗ wp frame (wpE (defs₀ (F := F)) 𝒱₀ (c : Thread nD τ) none) Set.univ (k (rowOf a X)) Q)
        -∗ wp frame (wpE (defs₀ (F := F)) 𝒱₀ (c : Thread nD τ) none) Set.univ (.op (.load m (Rect.unit (s := S2x128x512) off S1x128x512.size inb).toLoadRect hl) k) Q) :=
  owns_load m c (r := Rect.unit (s := S2x128x512) off S1x128x512.size inb) X (rowOf a X) (fun y => by rw [row_emb a hoff]; rfl)

/-- One of two rows set. -/
def setRow (w : S1x128x512.Idx → Elt F .f32) (X : S2x128x512.Idx → Elt F .f32) : S2x128x512.Idx → Elt F .f32 :=
  fun i => if (i 0).val = a.val then w (ix3 (0 : Fin 1) (i 1) (i 2)) else X i

/-- The store of one of two rows. -/
theorem store_row (X : S2x128x512.Idx → Elt F .f32) {w : S1x128x512.Idx → Elt F .f32} {off : Fin 3 → ℕ} (hoff : off = ![a.val, 0, 0]) {inb}
    {hx : (m.access (Rect.unit (s := S2x128x512) off S1x128x512.size inb)).Stores Finset.univ} {hm}
    {α : Type} {k : PUnit → Prog (TpuEff nD τ sig (Elt F) Λ₀ .tc) α} {Q : α → sProp 𝕄} :
    (owns (c : Thread nD τ) m fullShare X : sProp 𝕄)
      ⊢ iprop((owns (c : Thread nD τ) m fullShare (setRow a w X) -∗ wp frame (wpE (defs₀ (F := F)) 𝒱₀ (c : Thread nD τ) none) Set.univ (k ⟨⟩) Q)
        -∗ wp frame (wpE (defs₀ (F := F)) 𝒱₀ (c : Thread nD τ) none) Set.univ (.op (.store m (Rect.unit (s := S2x128x512) off S1x128x512.size inb) w Finset.univ hx hm) k) Q) :=
  owns_store m c (r := Rect.unit (s := S2x128x512) off S1x128x512.size inb) X (setRow a w X)
    (fun y => by
      rw [row_emb a hoff]
      unfold setRow
      rw [if_pos rfl]
      congr 1
      funext i
      apply Fin.ext
      have y0 : (y 0).val = 0 := by have : (y 0).val < 1 := (y 0).isLt; omega
      fin_cases i
      · exact y0.symm
      · rfl
      · rfl)
    (fun i hi => by
      unfold setRow
      rw [if_neg]
      intro e
      apply hi
      subst hoff
      rw [Rect.mem_set_unit]
      have i1 : (i 1).val < 128 := (i 1).isLt
      have i2 : (i 2).val < 512 := (i 2).isLt
      intro j
      fin_cases j
      · show a.val ≤ (i 0).val ∧ (i 0).val < a.val + 1; omega
      · show 0 ≤ (i 1).val ∧ (i 1).val < 0 + 128; omega
      · show 0 ≤ (i 2).val ∧ (i 2).val < 0 + 512; omega)

end Row

/-- The load of a landed row. -/
theorem load_landed (c : Dev nD) (b : Memref sig .tc .vmem S1x128x512 .bf16) (X : S1x128x512.Idx → Elt F .bf16) {inb}
    {hl : b.view.LoadsAt (Rect.unit (s := S1x128x512) ![0, 0, 0] S1x128x512.size inb).toLoadRect}
    {α : Type} {k : (S1x128x512.Idx → Elt F .bf16) → Prog (TpuEff nD τ sig (Elt F) Λ₀ .tc) α} {Q : α → sProp 𝕄} :
    (owns (c : Thread nD τ) b fullShare X : sProp 𝕄)
      ⊢ iprop((owns (c : Thread nD τ) b fullShare X -∗ wp frame (wpE (defs₀ (F := F)) 𝒱₀ (c : Thread nD τ) none) Set.univ (k X) Q)
        -∗ wp frame (wpE (defs₀ (F := F)) 𝒱₀ (c : Thread nD τ) none) Set.univ (.op (.load b (Rect.unit (s := S1x128x512) ![0, 0, 0] S1x128x512.size inb).toLoadRect hl) k) Q) :=
  owns_load b c (r := Rect.unit (s := S1x128x512) ![0, 0, 0] S1x128x512.size inb) X X (fun y => by
    congr 1
    funext a
    apply Fin.ext
    rw [Rect.emb_apply]
    fin_cases a
    · show 0 + 1 * (y 0).val = (y 0).val; omega
    · show 0 + 1 * (y 1).val = (y 1).val; omega
    · show 0 + 1 * (y 2).val = (y 2).val; omega)

/-- What device `c` has at the end. -/
def Env.out (E : Env F) (c : Dev nD) : Vec F S2x128x512 .f32 := fun i =>
  if (i 0).val = 0 then k0_pay41 (E.data.FR c) (ix3 (0 : Fin 1) (i 1) (i 2)) else k0_pay42 (E.data.FL c) (ix3 (0 : Fin 1) (i 1) (i 2))

theorem out_rows (E : Env F) (c : Dev nD) (X : Vec F S2x128x512 .f32) :
    setRow 1 (k0_pay42 (E.data.FL c)) (setRow 0 (k0_pay41 (E.data.FR c)) X) = E.out c := by
  funext i
  have h0 : (i 0).val < 2 := (i 0).isLt
  unfold setRow Env.out
  by_cases h : (i 0).val = 0
  · rw [if_neg (by rw [h]; decide), if_pos h]
    exact if_pos h
  · rw [if_pos (by show (i 0).val = 1; omega), if_neg h]

theorem land_credit (b : Memref sig .tc .vmem S1x128x512 .bf16) : b.view.dmaCredit = NN := rfl

/-- A wait with only the exit units still owed. -/
theorem wait_ctx (D : Data F) (K : GSem nD τ sig → ℕ) (c : Dev nD) {n : ℕ} (hl : live n = true) {sp sp' : Space} {s s' : Shape} {e e' : EltTy}
    {src : Memref sig .tc sp s e} {dst : Memref sig .tc sp' s' e'} {sem : DmaSem sig}
    {h₁ : src.view.WordExact} {h₂ : dst.view.WordExact} (hs : sem = dk n) (hN : dst.view.dmaCredit = NN) (hv : lvD n < 20) {α : Type}
    {k : PUnit → Prog (TpuEff nD τ sig (Elt F) Λ₀ .tc) α} {Q : α → sProp 𝕄} :
    iprop(Ctx D K c ∗ rtk c n ∗ ow c (oweExit c))
      ⊢ iprop(((ow c (oweExit c) ∗ semVal (dcell c n) 0 ∗ pay D c n) -∗ wp frame (wpE (defs₀ (F := F)) 𝒱₀ (c : Thread nD τ) none) Set.univ (k ⟨⟩) Q) -∗ wp frame (wpE (defs₀ (F := F)) 𝒱₀ (c : Thread nD τ) none) Set.univ (.op (.waitDma2 sem src dst h₁ h₂) k) Q) := by
  unfold Ctx
  iintro ⟨⟨#HI, #Hl, -⟩, HR, HO⟩
  iapply (wait_dma D K c hl hs hN _ (above_exit c _ hv)) $$ [HR HO]
  iframe HI Hl HR HO

section Body

variable (a0 : Memref sig .tc .vmem S2x128x512 .f32) (h0 : a0.IsWhole) (a1 : Memref sig .tc .vmem S512x512 .f32) (h1 : a1.IsWhole)
  (a2 : Memref sig .tc .vmem S512x512 .f32) (h2 : a2.IsWhole) (a5 : Memref sig .tc .vmem S2x128x512 .f32) (h5 : a5.IsWhole)
variable (E : Env F) (K : GSem nD τ sig → ℕ) (c : Dev nD)

/-- A copy under way on semaphore `n`. -/
abbrev Copying {sp sp' : Space} (c : Dev nD) (n : ℕ) (src : Memref sig .tc sp S16x128x512 .f32) (dst : Memref sig .tc sp' S16x128x512 .f32)
    (X : S16x128x512.Idx → Elt F .f32) : sProp 𝕄 :=
  Transfers.Flight EC (c : Thread nD τ) (.dma (dk n)) () dst.view.dmaCredit iprop(owns (c : Thread nD τ) dst fullShare X ∗ owns (c : Thread nD τ) src fullShare X)

theorem run_part10 {Q : _ → sProp 𝕄} :
    iprop((recs E.data K ∗ levAts L lv ∗ opn c) ∗ Gate c ∗ RoomR c ∗ RoomL c ∗ ow c (owe c 0 0 0 0 + tallyAt (barCell (right c)) () 1 + tallyAt (barCell (left c)) () 1)
        ∗ (owns (c : Thread nD τ) (Memref.whole main_v15) fullShare (E.K c) ∗ (∃ Y, owns (c : Thread nD τ) m1 fullShare Y) ∗ semVal (dcell c 4) 0)
        ∗ (owns (c : Thread nD τ) (Memref.whole main_v16) fullShare (E.V c) ∗ (∃ Y, owns (c : Thread nD τ) m2 fullShare Y) ∗ semVal (dcell c 5) 0)
        ∗ owns (c : Thread nD τ) a0 fullShare (E.x c) ∗ (∃ f, xRp c 0 1 fullShare f))
      ⊢ iprop((∀ v2 v4 v7, (Ctx E.data K c ∗ RoomR (right c) ∗ RoomL (left c) ∗ semVal (barCell c) 0 ∗ ow c (owe c 0 0 0 0)
            ∗ Copying c 4 (Memref.whole main_v15) m1 (E.K c) ∗ Copying c 5 (Memref.whole main_v16) m2 (E.V c)
            ∗ owns (c : Thread nD τ) a0 fullShare (E.x c) ∗ xRp c 0 1 fullShare (E.data.XR c)) -∗ Q ⟨c, v2, v4, v7, k0_pay36 (rowOf 1 (E.x c))⟩)
        -∗ wp frame (wpE (defs₀ (F := F)) 𝒱₀ (c : Thread nD τ) none) Set.univ
          (k0_part10 a0 h0 a1 h1 a2 h2 (Memref.whole main_v15) (Memref.isWhole_whole _) (Memref.whole main_v16) (Memref.isWhole_whole _) a5 h5 cc0_scratch0 m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) cc0_scratch11 cc0_scratch12 cc0_scratch13 cc0_scratch14 cc0_scratch15 cc0_scratch16 cc0_scratch17 cc0_scratch18 cc0_scratch19 cc0_scratch20 m27 (Memref.isWhole_whole _) cc0_scoped0) Q) := by
  rw [k0_part10_eq_skeleton]
  unfold k0_part10_skel
  simp only [semSignalWord, semWaitWord, Prog.lift, Prog.bind_op, Prog.bind_ret, Prog.pure_eq_ret, Prog.bind_assoc]
  rw [wp_deviceId]
  iintro ⟨⟨#HI, #Hl, #Ho⟩, HG, HR, HL, HO, HK, HV, H0, Hx⟩ Hk
  iapply (copy_start c (Memref.whole main_v15) m1 (sem_kv 0 (by decide) _ ![0] rfl _ _) (E.K c) (View.dmaCredit_pos _ (by decide))) $$ HK
  iintro HK
  iapply (copy_start c (Memref.whole main_v16) m2 (sem_kv 1 (by decide) _ ![1] rfl _ _) (E.V c) (View.dmaCredit_pos _ (by decide))) $$ HV
  iintro HV
  iapply (cross E.data K c (dev_left c _ (k0_dev1_eq c)) (dev_right c _ (k0_dev2_eq c)) rfl rfl rfl _
    (above_owe c 0 0 0 0 1 (by decide) (by decide) (by decide) (by decide) (by decide))) $$ [HG HR HL HO]
  · iframe HI Hl Ho HG HR HL HO
  iintro ⟨#HC, HR, HL, Hb, HO⟩
  iapply (load_row c a0 0 (E.x c) rfl) $$ H0
  iintro H0
  iapply (start_slot (.x true) c rfl rfl (E.data.XR c) (fun y => by
    show E.data.xR (back c 0) (in4 (y 2) (y 3)) = _
    rw [back_zero, in4_eq]; rfl)) $$ Hx
  iintro Hx
  iapply (load_row c a0 1 (E.x c) rfl) $$ H0
  iintro H0
  rw [wp_ret]
  imodintro
  iapply Hk
  iframe HC HR HL Hb HO HK HV H0 Hx

theorem run_part11 {v2 v4 v7 : BitVec 32} {Q : _ → sProp 𝕄} :
    iprop(Ctx E.data K c ∗ RoomR (right c) ∗ RoomL (left c) ∗ ow c (owe c 0 0 0 0)
            ∗ Copying c 4 (Memref.whole main_v15) m1 (E.K c) ∗ Copying c 5 (Memref.whole main_v16) m2 (E.V c)
            ∗ owns (c : Thread nD τ) a1 fullShare (E.wq c) ∗ owns (c : Thread nD τ) a2 fullShare (E.wo c) ∗ (∃ X, owns (c : Thread nD τ) m27 fullShare X)
            ∗ xRp c 0 1 fullShare (E.data.XR c) ∗ (∃ f, xLp c 0 1 fullShare f) ∗ (∃ f, iRp c 0 1 fullShare f) ∗ (∃ f, iLp c 0 1 fullShare f)
            ∗ (∃ f, oRp c 0 8 fullShare f) ∗ (∃ f, oLp c 0 8 fullShare f) ∗ Goods c)
      ⊢ iprop(((Xs E.data true c 8 ∗ Xs E.data false c 8 ∗ As E.data true c 8 ∗ As E.data false c 8 ∗ ow c (oweExit c)
            ∗ (owns (c : Thread nD τ) a1 fullShare (E.wq c) ∗ owns (c : Thread nD τ) a2 fullShare (E.wo c)
              ∗ owns (c : Thread nD τ) m1 fullShare (E.K c) ∗ owns (c : Thread nD τ) m2 fullShare (E.V c) ∗ (∃ X, owns (c : Thread nD τ) m27 fullShare X)
              ∗ owns (c : Thread nD τ) (Memref.whole main_v15) fullShare (E.K c) ∗ owns (c : Thread nD τ) (Memref.whole main_v16) fullShare (E.V c)
              ∗ semVal (dcell c 4) 0 ∗ semVal (dcell c 5) 0 ∗ semVal (dcell c 70) 0)
            ∗ fRp c (E.data.FR c) ∗ rtk c 71) -∗ Q ⟨⟩)
        -∗ wp frame (wpE (defs₀ (F := F)) 𝒱₀ (c : Thread nD τ) none) Set.univ
          (k0_part11 a0 h0 a1 h1 a2 h2 (Memref.whole main_v15) (Memref.isWhole_whole _) (Memref.whole main_v16) (Memref.isWhole_whole _) a5 h5 cc0_scratch0 m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) cc0_scratch11 cc0_scratch12 cc0_scratch13 cc0_scratch14 cc0_scratch15 cc0_scratch16 cc0_scratch17 cc0_scratch18 cc0_scratch19 cc0_scratch20 m27 (Memref.isWhole_whole _) cc0_scoped0 c v2 v4 v7 (k0_pay36 (rowOf 1 (E.x c)))) Q) := by
  rw [k0_part11_eq_skeleton]
  unfold k0_part11_skel RoomR RoomL Goods
  simp only [semSignalWord, semWaitWord, Prog.lift, Prog.bind_op, Prog.bind_ret, Prog.pure_eq_ret, Prog.bind_assoc]
  iintro ⟨#HC, ⟨HxR, HiR, HfR⟩, ⟨HxL, HiL, HfL⟩, HO, HK, HV, H1, H2, HT, Hx, Hy, Hi, Hj, Ho, Ho', ⟨T₁, T₂, T₃, T₄, S₁, S₂, R₁, R₂⟩⟩ Hk
  iapply (start_slot (.x false) c rfl rfl (E.data.XL c) (fun y => by
    show E.data.xL (fwd c 0) (in4 (y 2) (y 3)) = _
    rw [fwd_zero, in4_eq]; rfl)) $$ Hy
  iintro Hy
  iapply (start_slot (.i true) c rfl rfl (E.data.IR c) (fun y => by
    show E.data.inR 0 c (in4 (y 2) (y 3)) = _
    rw [in4_eq]; rfl)) $$ Hi
  iintro Hi
  iapply (start_slot (.i false) c rfl rfl (E.data.IL c) (fun y => by
    show E.data.inL 0 c (in4 (y 2) (y 3)) = _
    rw [in4_eq]; rfl)) $$ Hj
  iintro Hj
  unfold Ctx
  icases HC with ⟨#HI, #Hl, #Hq⟩
  iapply (copy_wait c (Memref.whole main_v15) m1 (sem_kv 0 (by decide) _ ![0] rfl _ _) (by decide) (E.K c) _
    (above_owe c 0 0 0 0 0 (by decide) (by decide) (by decide) (by decide) (by decide))) $$ [HK HO]
  · iframe Hl HK HO
  iintro ⟨HK, HK', Hs4, HO⟩
  iapply (copy_wait c (Memref.whole main_v16) m2 (sem_kv 1 (by decide) _ ![1] rfl _ _) (by decide) (E.V c) _
    (above_owe c 0 0 0 0 0 (by decide) (by decide) (by decide) (by decide) (by decide))) $$ [HV HO]
  · iframe Hl HV HO
  iintro ⟨HV, HV', Hs5, HO⟩
  iapply (Scf.wp_for_bind _ _ _ _ _ _ _ _ _ (fun n _ => iprop(Ctx E.data K c ∗ Held E a1 a2 c n)) (fun t acc => by
    iintro ⟨#HC, H⟩
    iapply (run_trip a0 h0 a1 h1 a2 h2 a5 h5 E K c t) $$ [H]
    · iframe HC H
    iintro H
    iframe HC H)) $$ [HxR HiR HfR HxL HiL HfL HO HK HV H1 H2 HT Hx Hy Hi Hj Ho Ho' T₁ T₂ T₃ T₄ S₁ S₂]
  · unfold Ctx Held
    iframe HI Hl Hq HO H1 H2 HK HV HT
    isplitl [Hx HxR T₁]
    · iapply (Xs_start E.data c true); iframe Hx HxR T₁
    isplitl [Hy HxL T₂]
    · iapply (Xs_start E.data c false); iframe Hy HxL T₂
    isplitl [Hi HiR HfR Ho T₃ S₁]
    · iapply (As_start E.data c true); iframe Hi HiR HfR Ho T₃ S₁
    iapply (As_start E.data c false); iframe Hj HiL HfL Ho' T₄ S₂
  iintro %acc ⟨-, HH⟩
  rw [show Scf.trips k0_t1_loop.lb k0_t1_loop.ub k0_t1_loop.st = 8 from by decide]
  unfold Held
  rw [owe_end]
  icases HH with ⟨HX, HY, HA, HB, HO, H1, H2, HK, HV, HT⟩
  iapply (wait_dma E.data K c (n := 70) (by decide) (sem_one 70 (by decide) _) rfl _ (above_exit c _ (by decide))) $$ [R₁ HO]
  · iframe HI Hl R₁ HO
  iintro ⟨HO, Hs70, Hf⟩
  rw [wp_ret]
  imodintro
  iapply Hk
  iframe HX HY HA HB HO H1 H2 HK HV HT HK' HV' Hs4 Hs5 Hs70 R₂
  iapply (show (pay E.data c 70 : sProp 𝕄) ⊢ fRp c (E.data.FR c) from Entails.of_eq (pay_eq E.data c 8 0 (by decide)))
  iexact Hf

theorem run_part12 {Q : _ → sProp 𝕄} :
    iprop(Ctx E.data K c ∗ Out E.data c 0 ∗ rtk c 71 ∗ fRp c (E.data.FR c) ∗ (∃ X, owns (c : Thread nD τ) a5 fullShare X))
      ⊢ iprop(((Out E.data c 1 ∗ semVal (dcell c 71) 0 ∗ fRp c (E.data.FR c) ∗ fLp c (E.data.FL c) ∗ owns (c : Thread nD τ) a5 fullShare (E.out c)) -∗ Q ⟨⟩)
        -∗ wp frame (wpE (defs₀ (F := F)) 𝒱₀ (c : Thread nD τ) none) Set.univ
          (k0_part12 a0 h0 a1 h1 a2 h2 (Memref.whole main_v15) (Memref.isWhole_whole _) (Memref.whole main_v16) (Memref.isWhole_whole _) a5 h5 cc0_scratch0 m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) cc0_scratch11 cc0_scratch12 cc0_scratch13 cc0_scratch14 cc0_scratch15 cc0_scratch16 cc0_scratch17 cc0_scratch18 cc0_scratch19 cc0_scratch20 m27 (Memref.isWhole_whole _) cc0_scoped0) Q) := by
  rw [k0_part12_eq_skeleton]
  unfold k0_part12_skel
  simp only [semSignalWord, semWaitWord, Prog.lift, Prog.bind_op, Prog.bind_ret, Prog.pure_eq_ret, Prog.bind_assoc]
  iintro ⟨#HC, HD, HR, Hf, ⟨%X, H5⟩⟩ Hk
  unfold Out
  icases HD with ⟨HD, HD', HO⟩
  iapply (wait_ctx E.data K c (n := 71) (by decide) (sem_one 71 (by decide) _) (land_credit m10) (by decide)) $$ [HR HO]
  · iframe HC HR HO
  iintro ⟨HO, Hs, Hg⟩
  ihave Hf := (show (fRp c (E.data.FR c) : sProp 𝕄) ⊢ owns (c : Thread nD τ) m9 fullShare (E.data.FR c) from Entails.of_eq (owns_whole (c : Thread nD τ) cc0_scratch9 fullShare (E.data.FR c)).symm) $$ Hf
  iapply (load_landed c m9 (E.data.FR c)) $$ Hf
  iintro Hf
  iapply (load_row c a5 0 X rfl) $$ H5
  iintro H5
  iapply (store_row c a5 0 X rfl) $$ H5
  iintro H5
  ihave Hg := (show (pay E.data c 71 : sProp 𝕄) ⊢ owns (c : Thread nD τ) m10 fullShare (E.data.FL c) from Entails.of_eq ((pay_eq E.data c 8 1 (by decide)).trans (owns_whole (c : Thread nD τ) cc0_scratch10 fullShare (E.data.FL c)).symm)) $$ Hg
  iapply (load_landed c m10 (E.data.FL c)) $$ Hg
  iintro Hg
  iapply (load_row c a5 1 _ rfl) $$ H5
  iintro H5
  iapply (store_row c a5 1 _ rfl) $$ H5
  iintro H5
  rw [out_rows]
  iapply (drain E.data K c 0 (by decide) (sem_slot 6 _ ![0] 0 rfl (by decide) _ _) (slot_credit m3 _ _)) $$ [HD HD' HO]
  · unfold Out; iframe HC HD HD' HO
  iintro HD
  rw [wp_ret]
  imodintro
  iapply Hk
  unfold Out
  iframe HD Hs H5
  isplitl [Hf]
  · iapply (show (owns (c : Thread nD τ) m9 fullShare (E.data.FR c) : sProp 𝕄) ⊢ fRp c (E.data.FR c) from Entails.of_eq (owns_whole (c : Thread nD τ) cc0_scratch9 fullShare (E.data.FR c))); iexact Hf
  iapply (show (owns (c : Thread nD τ) m10 fullShare (E.data.FL c) : sProp 𝕄) ⊢ fLp c (E.data.FL c) from Entails.of_eq (owns_whole (c : Thread nD τ) cc0_scratch10 fullShare (E.data.FL c))); iexact Hg

theorem run_part13 {Q : _ → sProp 𝕄} :
    iprop(Ctx E.data K c ∗ Out E.data c 1) ⊢ iprop((Out E.data c 5 -∗ Q ⟨⟩) -∗ wp frame (wpE (defs₀ (F := F)) 𝒱₀ (c : Thread nD τ) none) Set.univ
          (k0_part13 a0 h0 a1 h1 a2 h2 (Memref.whole main_v15) (Memref.isWhole_whole _) (Memref.whole main_v16) (Memref.isWhole_whole _) a5 h5 cc0_scratch0 m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) cc0_scratch11 cc0_scratch12 cc0_scratch13 cc0_scratch14 cc0_scratch15 cc0_scratch16 cc0_scratch17 cc0_scratch18 cc0_scratch19 cc0_scratch20 m27 (Memref.isWhole_whole _) cc0_scoped0) Q) := by
  unfold k0_part13
  simp only [semSignalWord, semWaitWord, Prog.lift, Prog.bind_op, Prog.bind_ret, Prog.pure_eq_ret, Prog.bind_assoc]
  iintro ⟨#HC, H⟩ Hk
  iapply (drain E.data K c 1 (by decide) (sem_slot 22 _ ![0] 0 rfl (by decide) _ _) (slot_credit m4 _ _)) $$ [H]
  · iframe HC H
  iintro H
  iapply (drain E.data K c 2 (by decide) (sem_slot 38 _ ![0] 0 rfl (by decide) _ _) (slot_credit m7 _ _)) $$ [H]
  · iframe HC H
  iintro H
  iapply (drain E.data K c 3 (by decide) (sem_slot 54 _ ![0] 0 rfl (by decide) _ _) (slot_credit m8 _ _)) $$ [H]
  · iframe HC H
  iintro H
  iapply (drain E.data K c 4 (by decide) (sem_slot 6 _ ![1] 1 rfl (by decide) _ _) (slot_credit m3 _ _)) $$ [H]
  · iframe HC H
  iintro H
  rw [wp_ret]
  imodintro
  iapply Hk
  iexact H

theorem run_part14 {Q : _ → sProp 𝕄} :
    iprop(Ctx E.data K c ∗ Out E.data c 5) ⊢ iprop((Out E.data c 8 -∗ Q ⟨⟩) -∗ wp frame (wpE (defs₀ (F := F)) 𝒱₀ (c : Thread nD τ) none) Set.univ
          (k0_part14 a0 h0 a1 h1 a2 h2 (Memref.whole main_v15) (Memref.isWhole_whole _) (Memref.whole main_v16) (Memref.isWhole_whole _) a5 h5 cc0_scratch0 m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) cc0_scratch11 cc0_scratch12 cc0_scratch13 cc0_scratch14 cc0_scratch15 cc0_scratch16 cc0_scratch17 cc0_scratch18 cc0_scratch19 cc0_scratch20 m27 (Memref.isWhole_whole _) cc0_scoped0) Q) := by
  unfold k0_part14
  simp only [semSignalWord, semWaitWord, Prog.lift, Prog.bind_op, Prog.bind_ret, Prog.pure_eq_ret, Prog.bind_assoc]
  iintro ⟨#HC, H⟩ Hk
  iapply (drain E.data K c 5 (by decide) (sem_slot 22 _ ![1] 1 rfl (by decide) _ _) (slot_credit m4 _ _)) $$ [H]
  · iframe HC H
  iintro H
  iapply (drain E.data K c 6 (by decide) (sem_slot 38 _ ![1] 1 rfl (by decide) _ _) (slot_credit m7 _ _)) $$ [H]
  · iframe HC H
  iintro H
  iapply (drain E.data K c 7 (by decide) (sem_slot 54 _ ![1] 1 rfl (by decide) _ _) (slot_credit m8 _ _)) $$ [H]
  · iframe HC H
  iintro H
  rw [wp_ret]
  imodintro
  iapply Hk
  iexact H

theorem run_part15 {Q : _ → sProp 𝕄} :
    iprop(Ctx E.data K c ∗ Out E.data c 8) ⊢ iprop((Out E.data c 11 -∗ Q ⟨⟩) -∗ wp frame (wpE (defs₀ (F := F)) 𝒱₀ (c : Thread nD τ) none) Set.univ
          (k0_part15 a0 h0 a1 h1 a2 h2 (Memref.whole main_v15) (Memref.isWhole_whole _) (Memref.whole main_v16) (Memref.isWhole_whole _) a5 h5 cc0_scratch0 m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) cc0_scratch11 cc0_scratch12 cc0_scratch13 cc0_scratch14 cc0_scratch15 cc0_scratch16 cc0_scratch17 cc0_scratch18 cc0_scratch19 cc0_scratch20 m27 (Memref.isWhole_whole _) cc0_scoped0) Q) := by
  unfold k0_part15
  simp only [semSignalWord, semWaitWord, Prog.lift, Prog.bind_op, Prog.bind_ret, Prog.pure_eq_ret, Prog.bind_assoc]
  iintro ⟨#HC, H⟩ Hk
  iapply (drain E.data K c 8 (by decide) (sem_slot 6 _ ![2] 2 rfl (by decide) _ _) (slot_credit m3 _ _)) $$ [H]
  · iframe HC H
  iintro H
  iapply (drain E.data K c 9 (by decide) (sem_slot 22 _ ![2] 2 rfl (by decide) _ _) (slot_credit m4 _ _)) $$ [H]
  · iframe HC H
  iintro H
  iapply (drain E.data K c 10 (by decide) (sem_slot 38 _ ![2] 2 rfl (by decide) _ _) (slot_credit m7 _ _)) $$ [H]
  · iframe HC H
  iintro H
  rw [wp_ret]
  imodintro
  iapply Hk
  iexact H

theorem run_part16 {Q : _ → sProp 𝕄} :
    iprop(Ctx E.data K c ∗ Out E.data c 11) ⊢ iprop((Out E.data c 15 -∗ Q ⟨⟩) -∗ wp frame (wpE (defs₀ (F := F)) 𝒱₀ (c : Thread nD τ) none) Set.univ
          (k0_part16 a0 h0 a1 h1 a2 h2 (Memref.whole main_v15) (Memref.isWhole_whole _) (Memref.whole main_v16) (Memref.isWhole_whole _) a5 h5 cc0_scratch0 m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) cc0_scratch11 cc0_scratch12 cc0_scratch13 cc0_scratch14 cc0_scratch15 cc0_scratch16 cc0_scratch17 cc0_scratch18 cc0_scratch19 cc0_scratch20 m27 (Memref.isWhole_whole _) cc0_scoped0) Q) := by
  unfold k0_part16
  simp only [semSignalWord, semWaitWord, Prog.lift, Prog.bind_op, Prog.bind_ret, Prog.pure_eq_ret, Prog.bind_assoc]
  iintro ⟨#HC, H⟩ Hk
  iapply (drain E.data K c 11 (by decide) (sem_slot 54 _ ![2] 2 rfl (by decide) _ _) (slot_credit m8 _ _)) $$ [H]
  · iframe HC H
  iintro H
  iapply (drain E.data K c 12 (by decide) (sem_slot 6 _ ![3] 3 rfl (by decide) _ _) (slot_credit m3 _ _)) $$ [H]
  · iframe HC H
  iintro H
  iapply (drain E.data K c 13 (by decide) (sem_slot 22 _ ![3] 3 rfl (by decide) _ _) (slot_credit m4 _ _)) $$ [H]
  · iframe HC H
  iintro H
  iapply (drain E.data K c 14 (by decide) (sem_slot 38 _ ![3] 3 rfl (by decide) _ _) (slot_credit m7 _ _)) $$ [H]
  · iframe HC H
  iintro H
  rw [wp_ret]
  imodintro
  iapply Hk
  iexact H

theorem run_part17 {Q : _ → sProp 𝕄} :
    iprop(Ctx E.data K c ∗ Out E.data c 15) ⊢ iprop((Out E.data c 18 -∗ Q ⟨⟩) -∗ wp frame (wpE (defs₀ (F := F)) 𝒱₀ (c : Thread nD τ) none) Set.univ
          (k0_part17 a0 h0 a1 h1 a2 h2 (Memref.whole main_v15) (Memref.isWhole_whole _) (Memref.whole main_v16) (Memref.isWhole_whole _) a5 h5 cc0_scratch0 m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) cc0_scratch11 cc0_scratch12 cc0_scratch13 cc0_scratch14 cc0_scratch15 cc0_scratch16 cc0_scratch17 cc0_scratch18 cc0_scratch19 cc0_scratch20 m27 (Memref.isWhole_whole _) cc0_scoped0) Q) := by
  unfold k0_part17
  simp only [semSignalWord, semWaitWord, Prog.lift, Prog.bind_op, Prog.bind_ret, Prog.pure_eq_ret, Prog.bind_assoc]
  iintro ⟨#HC, H⟩ Hk
  iapply (drain E.data K c 15 (by decide) (sem_slot 54 _ ![3] 3 rfl (by decide) _ _) (slot_credit m8 _ _)) $$ [H]
  · iframe HC H
  iintro H
  iapply (drain E.data K c 16 (by decide) (sem_slot 6 _ ![4] 4 rfl (by decide) _ _) (slot_credit m3 _ _)) $$ [H]
  · iframe HC H
  iintro H
  iapply (drain E.data K c 17 (by decide) (sem_slot 22 _ ![4] 4 rfl (by decide) _ _) (slot_credit m4 _ _)) $$ [H]
  · iframe HC H
  iintro H
  rw [wp_ret]
  imodintro
  iapply Hk
  iexact H

theorem run_part18 {Q : _ → sProp 𝕄} :
    iprop(Ctx E.data K c ∗ Out E.data c 18) ⊢ iprop((Out E.data c 21 -∗ Q ⟨⟩) -∗ wp frame (wpE (defs₀ (F := F)) 𝒱₀ (c : Thread nD τ) none) Set.univ
          (k0_part18 a0 h0 a1 h1 a2 h2 (Memref.whole main_v15) (Memref.isWhole_whole _) (Memref.whole main_v16) (Memref.isWhole_whole _) a5 h5 cc0_scratch0 m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) cc0_scratch11 cc0_scratch12 cc0_scratch13 cc0_scratch14 cc0_scratch15 cc0_scratch16 cc0_scratch17 cc0_scratch18 cc0_scratch19 cc0_scratch20 m27 (Memref.isWhole_whole _) cc0_scoped0) Q) := by
  unfold k0_part18
  simp only [semSignalWord, semWaitWord, Prog.lift, Prog.bind_op, Prog.bind_ret, Prog.pure_eq_ret, Prog.bind_assoc]
  iintro ⟨#HC, H⟩ Hk
  iapply (drain E.data K c 18 (by decide) (sem_slot 38 _ ![4] 4 rfl (by decide) _ _) (slot_credit m7 _ _)) $$ [H]
  · iframe HC H
  iintro H
  iapply (drain E.data K c 19 (by decide) (sem_slot 54 _ ![4] 4 rfl (by decide) _ _) (slot_credit m8 _ _)) $$ [H]
  · iframe HC H
  iintro H
  iapply (drain E.data K c 20 (by decide) (sem_slot 6 _ ![5] 5 rfl (by decide) _ _) (slot_credit m3 _ _)) $$ [H]
  · iframe HC H
  iintro H
  rw [wp_ret]
  imodintro
  iapply Hk
  iexact H

theorem run_part19 {Q : _ → sProp 𝕄} :
    iprop(Ctx E.data K c ∗ Out E.data c 21) ⊢ iprop((Out E.data c 25 -∗ Q ⟨⟩) -∗ wp frame (wpE (defs₀ (F := F)) 𝒱₀ (c : Thread nD τ) none) Set.univ
          (k0_part19 a0 h0 a1 h1 a2 h2 (Memref.whole main_v15) (Memref.isWhole_whole _) (Memref.whole main_v16) (Memref.isWhole_whole _) a5 h5 cc0_scratch0 m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) cc0_scratch11 cc0_scratch12 cc0_scratch13 cc0_scratch14 cc0_scratch15 cc0_scratch16 cc0_scratch17 cc0_scratch18 cc0_scratch19 cc0_scratch20 m27 (Memref.isWhole_whole _) cc0_scoped0) Q) := by
  unfold k0_part19
  simp only [semSignalWord, semWaitWord, Prog.lift, Prog.bind_op, Prog.bind_ret, Prog.pure_eq_ret, Prog.bind_assoc]
  iintro ⟨#HC, H⟩ Hk
  iapply (drain E.data K c 21 (by decide) (sem_slot 22 _ ![5] 5 rfl (by decide) _ _) (slot_credit m4 _ _)) $$ [H]
  · iframe HC H
  iintro H
  iapply (drain E.data K c 22 (by decide) (sem_slot 38 _ ![5] 5 rfl (by decide) _ _) (slot_credit m7 _ _)) $$ [H]
  · iframe HC H
  iintro H
  iapply (drain E.data K c 23 (by decide) (sem_slot 54 _ ![5] 5 rfl (by decide) _ _) (slot_credit m8 _ _)) $$ [H]
  · iframe HC H
  iintro H
  iapply (drain E.data K c 24 (by decide) (sem_slot 6 _ ![6] 6 rfl (by decide) _ _) (slot_credit m3 _ _)) $$ [H]
  · iframe HC H
  iintro H
  rw [wp_ret]
  imodintro
  iapply Hk
  iexact H

theorem run_part20 {Q : _ → sProp 𝕄} :
    iprop(Ctx E.data K c ∗ Out E.data c 25) ⊢ iprop((Out E.data c 28 -∗ Q ⟨⟩) -∗ wp frame (wpE (defs₀ (F := F)) 𝒱₀ (c : Thread nD τ) none) Set.univ
          (k0_part20 a0 h0 a1 h1 a2 h2 (Memref.whole main_v15) (Memref.isWhole_whole _) (Memref.whole main_v16) (Memref.isWhole_whole _) a5 h5 cc0_scratch0 m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) cc0_scratch11 cc0_scratch12 cc0_scratch13 cc0_scratch14 cc0_scratch15 cc0_scratch16 cc0_scratch17 cc0_scratch18 cc0_scratch19 cc0_scratch20 m27 (Memref.isWhole_whole _) cc0_scoped0) Q) := by
  unfold k0_part20
  simp only [semSignalWord, semWaitWord, Prog.lift, Prog.bind_op, Prog.bind_ret, Prog.pure_eq_ret, Prog.bind_assoc]
  iintro ⟨#HC, H⟩ Hk
  iapply (drain E.data K c 25 (by decide) (sem_slot 22 _ ![6] 6 rfl (by decide) _ _) (slot_credit m4 _ _)) $$ [H]
  · iframe HC H
  iintro H
  iapply (drain E.data K c 26 (by decide) (sem_slot 38 _ ![6] 6 rfl (by decide) _ _) (slot_credit m7 _ _)) $$ [H]
  · iframe HC H
  iintro H
  iapply (drain E.data K c 27 (by decide) (sem_slot 54 _ ![6] 6 rfl (by decide) _ _) (slot_credit m8 _ _)) $$ [H]
  · iframe HC H
  iintro H
  rw [wp_ret]
  imodintro
  iapply Hk
  iexact H

end Body

end Cert.KernelIdeal.Ring

end
-- ==== Proof.Whole.lean ====
module

public import proofs.«01_k».proof.Proof.Body

@[expose] public section

/-! The kernel on one device, from what it is given to what it gives back. -/

noncomputable section

namespace Cert.KernelIdeal.Ring

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F] [Named F]

local notation "𝕄" => MT nD τ sig Unit (Elt F) ℕ UU ℕ

/-- The eight buffers of the ring, whole. -/
def Bufs (c : Dev nD) : sProp 𝕄 :=
  iprop((∃ f, xRp c 0 8 fullShare f) ∗ (∃ f, xLp c 0 8 fullShare f) ∗ (∃ f, iRp c 0 8 fullShare f) ∗ (∃ f, iLp c 0 8 fullShare f)
    ∗ (∃ f, oRp c 0 8 fullShare f) ∗ (∃ f, oLp c 0 8 fullShare f) ∗ (∃ f, fRp c f) ∗ (∃ f, fLp c f))

theorem bufs_cut (c : Dev nD) :
    Bufs c ⊢ (iprop(RoomR c ∗ RoomL c ∗ (∃ f, xRp c 0 1 fullShare f) ∗ (∃ f, xLp c 0 1 fullShare f) ∗ (∃ f, iRp c 0 1 fullShare f) ∗ (∃ f, iLp c 0 1 fullShare f)
      ∗ (∃ f, oRp c 0 8 fullShare f) ∗ (∃ f, oLp c 0 8 fullShare f)) : sProp 𝕄) := by
  unfold Bufs RoomR RoomL
  iintro ⟨⟨%f₁, H₁⟩, ⟨%f₂, H₂⟩, ⟨%f₃, H₃⟩, ⟨%f₄, H₄⟩, H₅, H₆, H₇, H₈⟩
  ihave H₁ := (Entails.of_eq (cut_held (.x true) c 0 1 8 (by decide) (by decide) fullShare f₁)) $$ H₁
  ihave H₂ := (Entails.of_eq (cut_held (.x false) c 0 1 8 (by decide) (by decide) fullShare f₂)) $$ H₂
  ihave H₃ := (Entails.of_eq (cut_held (.i true) c 0 1 8 (by decide) (by decide) fullShare f₃)) $$ H₃
  ihave H₄ := (Entails.of_eq (cut_held (.i false) c 0 1 8 (by decide) (by decide) fullShare f₄)) $$ H₄
  icases H₁ with ⟨A₁, B₁⟩
  icases H₂ with ⟨A₂, B₂⟩
  icases H₃ with ⟨A₃, B₃⟩
  icases H₄ with ⟨A₄, B₄⟩
  iframe H₅ H₆ H₇ H₈
  isplitl [B₁ B₃]
  · isplitl [B₁]
    · iexists f₁; iexact B₁
    iexists f₃; iexact B₃
  isplitl [B₂ B₄]
  · isplitl [B₂]
    · iexists f₂; iexact B₂
    iexists f₄; iexact B₄
  isplitl [A₁]
  · iexists f₁; iexact A₁
  isplitl [A₂]
  · iexists f₂; iexact A₂
  isplitl [A₃]
  · iexists f₃; iexact A₃
  iexists f₄; iexact A₄

/-- A row buffer, put together again. -/
theorem whole_x (b : Bool) (c : Dev nD) (f : (⟨S8x1x128x512, .bf16⟩ : BufTy).Contents (Elt F)) :
    iprop(held (.x b) c 0 8 hB f ∗ held (.x b) c 7 8 hA f ∗ held (.x b) c 0 7 hA f) ⊢ (iprop(∃ f, held (.x b) c 0 8 fullShare f) : sProp 𝕄) := by
  iintro ⟨HB, H', H⟩
  iexists f
  iapply (Entails.of_eq (halve_held (.x b) c 0 8 f).symm)
  isplitr [HB]
  · iapply (Entails.of_eq (cut_held (.x b) c 0 7 8 (by decide) (by decide) hA f).symm)
    iframe H H'
  iexact HB

/-- All the live semaphores, gathered. -/
theorem sems_all (c : Dev nD) :
    iprop(Sems c (Finset.Ico 15 22) ∗ Sems c (Finset.Ico 31 38) ∗ Sems c (Finset.Ico 47 54) ∗ Sems c (Finset.Ico 63 70)
        ∗ (Sems c (Finset.Ico 6 13) ∗ Sems c (Finset.Ico 22 29) ∗ Sems c (Finset.Ico 38 46) ∗ Sems c (Finset.Ico 54 62))
        ∗ semVal (dcell c 4) 0 ∗ semVal (dcell c 5) 0 ∗ semVal (dcell c 70) 0 ∗ semVal (dcell c 71) 0)
      ⊢ (Sems c (Finset.Ico 4 72 \ dead) : sProp 𝕄) := by
  have one : ∀ n, (semVal (dcell c n) 0 : sProp 𝕄) = Sems c {n} := fun n => (bigSep_singleton (Φ := fun n => semVal (dcell c n) 0)).symm
  rw [show Finset.Ico 4 72 \ dead = Finset.Ico 15 22 ∪ (Finset.Ico 31 38 ∪ (Finset.Ico 47 54 ∪ (Finset.Ico 63 70
      ∪ ((Finset.Ico 6 13 ∪ (Finset.Ico 22 29 ∪ (Finset.Ico 38 46 ∪ Finset.Ico 54 62))) ∪ ({4} ∪ ({5} ∪ ({70} ∪ {71}))))))) from by decide,
    sems_union c (by decide), sems_union c (by decide), sems_union c (by decide), sems_union c (by decide), sems_union c (by decide), sems_union c (by decide),
    sems_union c (by decide), sems_union c (by decide), sems_union c (by decide), sems_union c (by decide), sems_union c (by decide), one, one, one, one]

section Whole

variable (a0 : Memref sig .tc .vmem S2x128x512 .f32) (h0 : a0.IsWhole) (a1 : Memref sig .tc .vmem S512x512 .f32) (h1 : a1.IsWhole)
  (a2 : Memref sig .tc .vmem S512x512 .f32) (h2 : a2.IsWhole) (a5 : Memref sig .tc .vmem S2x128x512 .f32) (h5 : a5.IsWhole)
variable (E : Env F) (K : GSem nD τ sig → ℕ) (c : Dev nD)

/-- The local buffers whose contents do not matter. -/
def Local (c : Dev nD) : sProp 𝕄 :=
  iprop((∃ Y, owns (c : Thread nD τ) m1 fullShare Y) ∗ (∃ Y, owns (c : Thread nD τ) m2 fullShare Y) ∗ (∃ Y, owns (c : Thread nD τ) m27 fullShare Y))
/-- The keys and values of device `c`'s heads. -/
def Cache : sProp 𝕄 :=
  iprop(owns (c : Thread nD τ) (Memref.whole main_v15) fullShare (E.K c) ∗ owns (c : Thread nD τ) (Memref.whole main_v16) fullShare (E.V c))
/-- What device `c` owes before it starts. -/
def oweAll (c : Dev nD) : CellTallies nD τ sig Unit := owe c 0 0 0 0 + tallyAt (barCell (right c)) () 1 + tallyAt (barCell (left c)) () 1

theorem run_body {Q : _ → sProp 𝕄} :
    iprop((recs E.data K ∗ levAts L lv ∗ opn c) ∗ (Gate c ∗ Leave c ∗ Goods c) ∗ Bufs c ∗ Local c ∗ (semVal (dcell c 4) 0 ∗ semVal (dcell c 5) 0) ∗ Cache E c ∗ ow c (oweAll c)
        ∗ owns (c : Thread nD τ) a0 fullShare (E.x c) ∗ owns (c : Thread nD τ) a1 fullShare (E.wq c) ∗ owns (c : Thread nD τ) a2 fullShare (E.wo c)
        ∗ (∃ X, owns (c : Thread nD τ) a5 fullShare X))
      ⊢ iprop(((Bufs c ∗ Local c ∗ (Sems c (Finset.Ico 4 72 \ dead) ∗ semVal (barCell c) 0 ∗ semVal (exitCell c) 0) ∗ Cache E c ∗ ow c 0
            ∗ owns (c : Thread nD τ) a0 fullShare (E.x c) ∗ owns (c : Thread nD τ) a1 fullShare (E.wq c) ∗ owns (c : Thread nD τ) a2 fullShare (E.wo c)
            ∗ owns (c : Thread nD τ) a5 fullShare (E.out c)) -∗ Q ⟨⟩)
        -∗ wp frame (wpE (defs₀ (F := F)) 𝒱₀ (c : Thread nD τ) none) Set.univ
          (cc0_body a0 h0 a1 h1 a2 h2 (Memref.whole main_v15) (Memref.isWhole_whole _) (Memref.whole main_v16) (Memref.isWhole_whole _) a5 h5 cc0_scratch0 m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) cc0_scratch11 cc0_scratch12 cc0_scratch13 cc0_scratch14 cc0_scratch15 cc0_scratch16 cc0_scratch17 cc0_scratch18 cc0_scratch19 cc0_scratch20 m27 (Memref.isWhole_whole _) cc0_scoped0) Q) := by
  unfold cc0_body Local Cache oweAll
  iintro ⟨#HC, ⟨HG, HL, HD⟩, HB, ⟨M1, M2, M27⟩, ⟨S4, S5⟩, ⟨HK, HV⟩, HO, H0, H1, H2, H5⟩ Hk
  ihave HB := (bufs_cut c) $$ HB
  icases HB with ⟨RR, RL, Hx, Hy, Hi, Hj, Ho, Ho'⟩
  rw [wp_bind]
  iapply (run_part10 a0 h0 a1 h1 a2 h2 a5 h5 E K c) $$ [HG RR RL HO HK M1 S4 HV M2 S5 H0 Hx]
  · iframe HC HG RR RL HO HK M1 S4 HV M2 S5 H0 Hx
  iintro %v2 %v4 %v7 ⟨#HC', RR, RL, Hbar, HO, HK, HV, H0, Hx⟩
  dsimp only
  rw [wp_bind]
  iapply (run_part11 a0 h0 a1 h1 a2 h2 a5 h5 E K c) $$ [RR RL HO HK HV H1 H2 M27 Hx Hy Hi Hj Ho Ho' HD]
  · iframe HC' RR RL HO HK HV H1 H2 M27 Hx Hy Hi Hj Ho Ho' HD
  iintro ⟨HX, HY, HA, HB, HO, ⟨H1, H2, M1, M2, M27, HK, HV, S4, S5, S70⟩, HF, R71⟩
  ihave HX := (Xs_end E.data c true) $$ HX
  ihave HY := (Xs_end E.data c false) $$ HY
  ihave HA := (As_end E.data c true) $$ HA
  ihave HB := (As_end E.data c false) $$ HB
  icases HX with ⟨X₁, X₂, X₃, X₄⟩
  icases HY with ⟨Y₁, Y₂, Y₃, Y₄⟩
  icases HA with ⟨A₁, A₃, A₄⟩
  icases HB with ⟨B₁, B₃, B₄⟩
  rw [wp_bind]
  iapply (run_part12 a0 h0 a1 h1 a2 h2 a5 h5 E K c) $$ [X₄ Y₄ A₄ B₄ HO R71 HF H5]
  · iframe HC' R71 HF H5
    iapply (out_start E.data c)
    iframe X₄ Y₄ A₄ B₄ HO
  iintro ⟨H, S71, HF, HF', H5⟩
  rw [wp_bind]
  iapply (run_part13 a0 h0 a1 h1 a2 h2 a5 h5 E K c) $$ [H]
  · iframe HC' H
  iintro H
  rw [wp_bind]
  iapply (run_part14 a0 h0 a1 h1 a2 h2 a5 h5 E K c) $$ [H]
  · iframe HC' H
  iintro H
  rw [wp_bind]
  iapply (run_part15 a0 h0 a1 h1 a2 h2 a5 h5 E K c) $$ [H]
  · iframe HC' H
  iintro H
  rw [wp_bind]
  iapply (run_part16 a0 h0 a1 h1 a2 h2 a5 h5 E K c) $$ [H]
  · iframe HC' H
  iintro H
  rw [wp_bind]
  iapply (run_part17 a0 h0 a1 h1 a2 h2 a5 h5 E K c) $$ [H]
  · iframe HC' H
  iintro H
  rw [wp_bind]
  iapply (run_part18 a0 h0 a1 h1 a2 h2 a5 h5 E K c) $$ [H]
  · iframe HC' H
  iintro H
  rw [wp_bind]
  iapply (run_part19 a0 h0 a1 h1 a2 h2 a5 h5 E K c) $$ [H]
  · iframe HC' H
  iintro H
  rw [wp_bind]
  iapply (run_part20 a0 h0 a1 h1 a2 h2 a5 h5 E K c) $$ [H]
  · iframe HC' H
  iintro H
  simp only [semSignalWord, semWaitWord, Prog.lift, Prog.bind_op, Prog.bind_ret, Prog.pure_eq_ret, Prog.bind_assoc]
  iapply (drain E.data K c 28 (by decide) (sem_slot 38 _ ![7] 7 rfl (by decide) _ _) (slot_credit m7 _ _)) $$ [H]
  · iframe HC' H
  iintro H
  iapply (drain E.data K c 29 (by decide) (sem_slot 54 _ ![7] 7 rfl (by decide) _ _) (slot_credit m8 _ _)) $$ [H]
  · iframe HC' H
  iintro H
  ihave H := (out_end E.data c) $$ H
  icases H with ⟨HS, P₁, P₂, P₃, P₄, HO⟩
  iapply (depart E.data K c (dev_left c _ (k0_dev9_eq c)) (dev_right c _ (k0_dev10_eq c)) rfl rfl rfl) $$ [HL HO]
  · iframe HC' HL HO
  iintro ⟨Hex, HO⟩
  rw [wp_ret]
  imodintro
  iapply Hk
  iframe HK HV HO H0 H1 H2 H5 Hbar Hex M27
  isplitl [X₁ X₂ P₁ Y₁ Y₂ P₂ A₁ B₁ P₃ P₄ HF HF']
  · unfold Bufs
    isplitl [X₁ X₂ P₁]
    · iapply (whole_x true c (E.data.XR c)); iframe X₁ X₂ P₁
    isplitl [Y₁ Y₂ P₂]
    · iapply (whole_x false c (E.data.XL c)); iframe Y₁ Y₂ P₂
    isplitl [A₁]
    · iexists (E.data.IR c); iexact A₁
    isplitl [B₁]
    · iexists (E.data.IL c); iexact B₁
    isplitl [P₃]
    · iexists (E.data.OR c); iexact P₃
    isplitl [P₄]
    · iexists (E.data.OL c); iexact P₄
    isplitl [HF]
    · iexists (E.data.FR c); iexact HF
    iexists (E.data.FL c); iexact HF'
  isplitl [M1 M2]
  · isplitl [M1]
    · iexists (E.K c); iexact M1
    iexists (E.V c); iexact M2
  iapply (sems_all c)
  iframe X₃ Y₃ A₃ B₃ HS S4 S5 S70 S71

end Whole

end Cert.KernelIdeal.Ring

end
-- ==== Proof.Fund.lean ====
module

public import proofs.«01_k».proof.Proof.Whole

@[expose] public section

/-! What the launch gives a device: the right to pay its neighbours, and what it will be paid. -/

noncomputable section

namespace Cert.KernelIdeal.Ring

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F] [Named F]

local notation "𝕄" => MT nD τ sig Unit (Elt F) ℕ UU ℕ

/-- Fifteen of a family: seven, seven and one. -/
def fam (P : ℕ → sProp 𝕄) (a b e : ℕ) : sProp 𝕄 := iprop(bigSep (Finset.Ico a (a + 7)) P ∗ bigSep (Finset.Ico b (b + 7)) P ∗ P e)

/-- The right to pay device `c`'s semaphore `n`; -/
abbrev dt (c : Dev nD) (n : ℕ) : sProp 𝕄 := dutyTok ER (dcell c n) 0 false
/-- its credit; -/
abbrev cr (c : Dev nD) (n : ℕ) : sProp 𝕄 := cred (tallyAt (dcell c n) () NN)
/-- its position. -/
abbrev ps (c : Dev nD) (n : ℕ) : sProp 𝕄 := atPos ER (dcell c n) 0 ∅ 0

/-- The semaphores in use: what arrives from either side, what departs to either side. -/
theorem used_sep (Φ : ℕ → sProp 𝕄) :
    bigSep used Φ = iprop(fam Φ 15 47 70 ∗ fam Φ 31 63 71 ∗ fam Φ 6 38 45 ∗ fam Φ 22 54 61) := by
  have one : ∀ n, Φ n = bigSep {n} Φ := fun n => (bigSep_singleton (Φ := Φ)).symm
  unfold fam
  rw [one 70, one 71, one 45, one 61]
  rw [show used = (Finset.Ico 15 (15 + 7) ∪ (Finset.Ico 47 (47 + 7) ∪ {70})) ∪ ((Finset.Ico 31 (31 + 7) ∪ (Finset.Ico 63 (63 + 7) ∪ {71}))
      ∪ ((Finset.Ico 6 (6 + 7) ∪ (Finset.Ico 38 (38 + 7) ∪ {45})) ∪ (Finset.Ico 22 (22 + 7) ∪ (Finset.Ico 54 (54 + 7) ∪ {61})))) from by decide,
    bigSep_union (by decide), bigSep_union (by decide), bigSep_union (by decide), bigSep_union (by decide), bigSep_union (by decide), bigSep_union (by decide),
    bigSep_union (by decide), bigSep_union (by decide), bigSep_union (by decide), bigSep_union (by decide), bigSep_union (by decide)]
  rfl

theorem sc_sep (Φ : SemLoc sig → sProp 𝕄) :
    bigSep Finset.univ (fun k : Fin 67 => Φ (scLoc k)) = iprop((bigSep (Finset.Ico 6 72) fun n => Φ (.dma (dk n))) ∗ Φ (.reg exitS)) := by
  rw [show (Finset.univ : Finset (Fin 67)) = (Finset.univ.map (Fin.castSuccEmb (n := 66))) ∪ {Fin.last 66} from by decide +kernel,
    bigSep_union (by decide +kernel), bigSep_singleton, bigSep_map, ← sep_shift 6 0 66 (fun n => Φ (.dma (dk n)))]
  have e := bigSep_map (s := (Finset.univ : Finset (Fin 66))) (⟨fun k : Fin 66 => k.val, Fin.val_injective⟩ : Fin 66 ↪ ℕ) (Φ := fun j => Φ (.dma (dk (6 + j))))
  rw [show (Finset.univ : Finset (Fin 66)).map (⟨fun k : Fin 66 => k.val, Fin.val_injective⟩ : Fin 66 ↪ ℕ) = Finset.Ico 0 66 from by decide +kernel] at e
  rw [e]
  have h1 : (bigSep Finset.univ fun k : Fin 66 => Φ (scLoc (Fin.castSuccEmb k))) = bigSep Finset.univ fun k : Fin 66 => Φ (.dma (dk (6 + k.val))) :=
    bigSep_congr fun k _ => by
      show Φ (scLoc (Fin.castSucc k)) = _
      unfold scLoc
      rw [if_pos (show (Fin.castSucc k).val < 66 from k.isLt)]
      rfl
  have h2 : Φ (scLoc (Fin.last 66)) = Φ (.reg exitS) := rfl
  exact (congrArg₂ (fun A B : sProp 𝕄 => iprop(A ∗ B)) h1 h2)

/-! ## The transfers of one lane -/

theorem tok_intro (c c' : Dev nD) (n m : ℕ) :
    iprop(bigSep (Finset.Ico (n + 1) (n + 8)) (cr c) ∗ bigSep (Finset.Ico (n + 1) (n + 8)) (ps c)
        ∗ bigSep (Finset.Ico m (m + 7)) (dt c) ∗ bigSep (Finset.Ico (n + 1) (n + 8)) (dt c') ∗ bigSep (Finset.Ico m (m + 7)) (ps c))
      ⊢ (Tok c c' n m : sProp 𝕄) := by
  have e1 : bigSep (Finset.Ico 1 8) (fun j => (rtk c (n + j) : sProp 𝕄)) = iprop(bigSep (Finset.Ico (n + 1) (n + 8)) (cr c) ∗ bigSep (Finset.Ico (n + 1) (n + 8)) (ps c)) :=
    (sep_shift n 1 8 (fun k => (rtk c k : sProp 𝕄))).trans (sep_both _ _ _)
  have e2 : bigSep (Finset.Ico 0 7) (fun j => (dt c' (n + (j + 1)) : sProp 𝕄)) = bigSep (Finset.Ico (n + 1) (n + 8)) (dt c') := by
    rw [show Finset.Ico (n + 1) (n + 8) = Finset.Ico (n + 1 + 0) (n + 1 + 7) from rfl, ← sep_shift (n + 1) 0 7 (dt (F := F) c')]
    exact bigSep_congr fun j _ => by rw [show n + (j + 1) = n + 1 + j by omega]
  have e3 : bigSep (Finset.Ico 0 7) (fun j => (stk c c' (m + j) (n + (j + 1)) : sProp 𝕄))
      = iprop(bigSep (Finset.Ico m (m + 7)) (dt c) ∗ bigSep (Finset.Ico (n + 1) (n + 8)) (dt c') ∗ bigSep (Finset.Ico m (m + 7)) (ps c)) := by
    refine (sep_both _ (fun j => dt c (m + j)) (fun j => iprop(dt c' (n + (j + 1)) ∗ ps c (m + j)))).trans ?_
    rw [sep_both _ (fun j => (dt c' (n + (j + 1)) : sProp 𝕄)) (fun j => (ps c (m + j) : sProp 𝕄)), sep_shift m 0 7 (dt (F := F) c), sep_shift m 0 7 (ps (F := F) c), e2]
    rfl
  unfold Tok
  rw [e1, e3]
  iintro ⟨A, B, C, D, E⟩
  iframe A B C D E

theorem goods_intro (c : Dev nD) :
    iprop((fam (cr c) 15 47 70 ∗ fam (cr c) 31 63 71) ∗ bigSep used (ps c)
        ∗ (fam (dt c) 6 38 45 ∗ fam (dt c) 22 54 61 ∗ fam (dt (right c)) 15 47 70 ∗ fam (dt (left c)) 31 63 71))
      ⊢ (Goods c : sProp 𝕄) := by
  rw [used_sep]
  unfold Goods fam
  iintro ⟨⟨⟨c₁, c₂, c₃⟩, ⟨d₁, d₂, d₃⟩⟩, ⟨⟨p₁, p₂, p₃⟩, ⟨q₁, q₂, q₃⟩, ⟨r₁, r₂, r₃⟩, ⟨s₁, s₂, s₃⟩⟩, ⟨e₁, e₂, e₃⟩, ⟨f₁, f₂, f₃⟩, ⟨g₁, g₂, g₃⟩, ⟨h₁, h₂, h₃⟩⟩
  isplitl [c₁ p₁ e₁ g₁ r₁]
  · iapply (tok_intro c (right c) 14 6); iframe c₁ p₁ e₁ g₁ r₁
  isplitl [d₁ q₁ f₁ h₁ s₁]
  · iapply (tok_intro c (left c) 30 22); iframe d₁ q₁ f₁ h₁ s₁
  isplitl [c₂ p₂ e₂ g₂ r₂]
  · iapply (tok_intro c (right c) 46 38); iframe c₂ p₂ e₂ g₂ r₂
  isplitl [d₂ q₂ f₂ h₂ s₂]
  · iapply (tok_intro c (left c) 62 54); iframe d₂ q₂ f₂ h₂ s₂
  unfold stk rtk
  isplitl [e₃ g₃ r₃]
  · iframe e₃ g₃ r₃
  isplitl [f₃ h₃ s₃]
  · iframe f₃ h₃ s₃
  iframe c₃ p₃ d₃ q₃

/-! ## The launch credit -/

/-- What device `c` is owed, landing by landing and signal by signal. -/
def Creds (c : Dev nD) : sProp 𝕄 :=
  iprop((fam (cr c) 15 47 70 ∗ fam (cr c) 31 63 71) ∗ cred (tallyAt (barCell c) () 2) ∗ cred (tallyAt (exitCell c) () 2))

theorem cred_next (b : Bool) (sm : SemLoc sig) (n : ℕ) (c : Dev nD) :
    (Pipeline.launchCred (fun d => tallyAt ((next b d : Thread nD τ), sm) () n) c : sProp 𝕄) ⊢ cred (tallyAt ((c : Thread nD τ), sm) () n) := by
  cases b
  · exact Pipeline.launchCred_tallyAt sm left right left_right right_left () n c
  · exact Pipeline.launchCred_tallyAt sm right left right_left left_right () n c

theorem cred_row (b : Bool) (n : ℕ) (c : Dev nD) :
    (Pipeline.launchCred (fun d => oweD (next b d) n (0 + 1)) c : sProp 𝕄) ⊢ bigSep (Finset.Ico (n + 1) (n + 8)) (cr c) := by
  refine (Entails.of_eq (Pipeline.launchCred_sum (Finset.Ico 1 8) (fun j d => tallyAt (dcell (next b d) (n + j)) () NN) c)).trans ?_
  rw [← sep_shift n 1 8 (cr (F := F) c)]
  exact bigSep_mono fun j _ => cred_next b _ _ c

theorem cred_two (g : GSem nD τ sig) : iprop(cred (tallyAt g () 1) ∗ cred (tallyAt g () 1)) ⊢ (cred (tallyAt g () 2) : sProp 𝕄) := by
  rw [show (tallyAt g () 2 : CellTallies nD τ sig Unit) = tallyAt g () 1 + tallyAt g () 1 from (tallyAt_add g () 1 1).symm]
  exact (cred_add _ _).2

theorem cred_split (O D : Dev nD → CellTallies nD τ sig Unit) (c : Dev nD) {A B : sProp 𝕄}
    (hA : Pipeline.launchCred O c ⊢ A) (hB : Pipeline.launchCred D c ⊢ B) : Pipeline.launchCred (fun d => O d + D d) c ⊢ iprop(A ∗ B) :=
  (Entails.of_eq (Pipeline.launchCred_add O D c)).trans (BIClass.sep_mono hA hB)

theorem cred_side (b : Bool) (c : Dev nD) :
    (Pipeline.launchCred (fun d => oweRing b d 0 0) c : sProp 𝕄) ⊢ fam (cr c) (xIn b + 1) (aIn b + 1) (fIn b) :=
  cred_split _ _ c (cred_row b (xIn b) c) (cred_split _ _ c (cred_row b (aIn b) c) (cred_next b (.dma (dk (fIn b))) NN c))

theorem creds (c : Dev nD) : (Pipeline.launchCred oweAll c : sProp 𝕄) ⊢ Creds c := by
  have h := cred_split (F := F) _ _ c (cred_split _ _ c
    (cred_split _ _ c (cred_split _ _ c (cred_side true c) (cred_side false c))
      (cred_split _ _ c (cred_next true (.reg exitS) 1 c) (cred_next false (.reg exitS) 1 c)))
    (cred_next true (.reg barS) 1 c)) (cred_next false (.reg barS) 1 c)
  refine (show (Pipeline.launchCred oweAll c : sProp 𝕄) ⊢ _ from h).trans ?_
  unfold Creds
  iintro ⟨⟨⟨⟨a, b⟩, ⟨i, j⟩⟩, k⟩, l⟩
  isplitl [a b]
  · isplitl [a]; · iexact a
    iexact b
  isplitl [k l]
  · iapply (cred_two (barCell c)); iframe k l
  iapply (cred_two (exitCell c)); iframe i j

/-! ## The rights to pay -/

/-- A device's own cells' rights, cut by who pays; -/
def toks (c : Dev nD) : sProp 𝕄 :=
  iprop((fam (dt c) 15 47 70 ∗ fam (dt c) 31 63 71 ∗ fam (dt c) 6 38 45 ∗ fam (dt c) 22 54 61)
    ∗ (dutyTok ER (barCell c) 0 false ∗ dutyTok ER (barCell c) 0 true) ∗ (dutyTok ER (exitCell c) 0 false ∗ dutyTok ER (exitCell c) 0 true))
/-- the rights a device uses. -/
def Dues (c : Dev nD) : sProp 𝕄 :=
  iprop((fam (dt (right c)) 15 47 70 ∗ fam (dt (left c)) 31 63 71 ∗ fam (dt c) 6 38 45 ∗ fam (dt c) 22 54 61)
    ∗ (dutyTok ER (barCell (right c)) 0 false ∗ dutyTok ER (barCell (left c)) 0 true) ∗ (dutyTok ER (exitCell (right c)) 0 false ∗ dutyTok ER (exitCell (left c)) 0 true))

/-- The devices, each named by its left neighbour; -/
def turn : Dev nD ≃ Dev nD := ⟨right, left, left_right, right_left⟩

theorem toks_around : (bigSep Finset.univ fun c : Dev nD => (toks c : sProp 𝕄)) ⊢ bigSep Finset.univ fun c : Dev nD => Dues c := by
  unfold toks Dues
  simp only [bigSep_sep']
  have r (Φ : Dev nD → sProp 𝕄) : bigSep Finset.univ (fun c : Dev nD => Φ c) = bigSep Finset.univ fun c : Dev nD => Φ (right c) := bigSep_univ_equiv turn Φ
  have l (Φ : Dev nD → sProp 𝕄) : bigSep Finset.univ (fun c : Dev nD => Φ c) = bigSep Finset.univ fun c : Dev nD => Φ (left c) := bigSep_univ_equiv turn.symm Φ
  rw [r (fun c => fam (dt c) 15 47 70), l (fun c => fam (dt c) 31 63 71), r (fun c => dutyTok ER (barCell c) 0 false), l (fun c => dutyTok ER (barCell c) 0 true),
    r (fun c => dutyTok ER (exitCell c) 0 false), l (fun c => dutyTok ER (exitCell c) 0 true)]

/-- The semaphore of each right of a device. -/
def tkLoc : ℕ ⊕ Bool ⊕ Bool → SemLoc sig × Bool := fun
  | .inl n => (.dma (dk n), false)
  | .inr (.inl b) => (.reg barS, b)
  | .inr (.inr b) => (.reg exitS, b)

/-- The indices of a device's rights. -/
def tkSet : Finset (ℕ ⊕ Bool ⊕ Bool) := used.disjSum Finset.univ

theorem dk_inj {n n' : ℕ} (h : n < 72) (h' : n' < 72) (e : dk n = dk n') : n = n' := by
  have := congrArg Fin.val e
  rwa [dk_val h, dk_val h'] at this

theorem tk_inj : Set.InjOn (fun x : Dev nD × (ℕ ⊕ Bool ⊕ Bool) => ((((x.1 : Thread nD τ), (tkLoc x.2).1), 0, (tkLoc x.2).2) : GSem nD τ sig × ℕ × Bool))
    ↑((Finset.univ : Finset (Dev nD)) ×ˢ tkSet) := by
  rintro ⟨c, x⟩ hx ⟨c', x'⟩ hx' h
  have hu : ∀ n ∈ used, n < 72 := by decide
  have hm : ∀ {c : Dev nD} {x}, (c, x) ∈ (↑((Finset.univ : Finset (Dev nD)) ×ˢ tkSet) : Set _) → x ∈ tkSet := fun h => (Finset.mem_product.mp (Finset.mem_coe.mp h)).2
  have hc : c = c' := congrArg (fun t : GSem nD τ sig × ℕ × Bool => t.1.1.1) h
  have hl : (tkLoc x).1 = (tkLoc x').1 := congrArg (fun t : GSem nD τ sig × ℕ × Bool => t.1.2) h
  have hb : (tkLoc x).2 = (tkLoc x').2 := congrArg (fun t : GSem nD τ sig × ℕ × Bool => t.2.2) h
  have h1 := hm hx
  have h2 := hm hx'
  refine Prod.ext hc ?_
  rcases x with n | b | b <;> rcases x' with n' | b' | b'
  · have e : dk n = dk n' := SemLoc.dma.inj hl
    rw [dk_inj (hu n (Finset.inl_mem_disjSum.mp h1)) (hu n' (Finset.inl_mem_disjSum.mp h2)) e]
  · exact absurd hl (by intro h; cases h)
  · exact absurd hl (by intro h; cases h)
  · exact absurd hl (by intro h; cases h)
  · exact congrArg (fun b => Sum.inr (Sum.inl b)) hb
  · exact absurd (SemLoc.reg.inj hl) (by decide)
  · exact absurd hl (by intro h; cases h)
  · exact absurd (SemLoc.reg.inj hl) (by decide)
  · exact congrArg (fun b => Sum.inr (Sum.inr b)) hb

def talkToks : Finset (GSem nD τ sig × ℕ × Bool) :=
  ((Finset.univ : Finset (Dev nD)) ×ˢ tkSet).image fun x => (((x.1 : Thread nD τ), (tkLoc x.2).1), 0, (tkLoc x.2).2)

theorem sep_prod {J : Type} [DecidableEq J] (s : Finset (Dev nD)) (t : Finset J) (Φ : Dev nD × J → sProp 𝕄) :
    bigSep (s ×ˢ t) Φ = bigSep s fun i => bigSep t fun j => Φ (i, j) := by
  induction s using Finset.induction_on with
  | empty => rw [Finset.empty_product]; rfl
  | insert a s ha ih =>
    have hd : Disjoint (t.image (Prod.mk a)) (s ×ˢ t) := by
      rw [Finset.disjoint_left]
      intro x hx hx'
      obtain ⟨j, -, rfl⟩ := Finset.mem_image.mp hx
      exact ha (Finset.mem_product.mp hx').1
    have hi : insert a s ×ˢ t = t.image (Prod.mk a) ∪ s ×ˢ t := by
      ext ⟨i, j⟩
      simp only [Finset.mem_product, Finset.mem_insert, Finset.mem_union, Finset.mem_image, Prod.mk.injEq]
      constructor
      · rintro ⟨rfl | h, hj⟩
        · exact .inl ⟨j, hj, rfl, rfl⟩
        · exact .inr ⟨h, hj⟩
      · rintro (⟨k, hk, rfl, rfl⟩ | ⟨h, hj⟩)
        · exact ⟨.inl rfl, hk⟩
        · exact ⟨.inr h, hj⟩
    rw [hi, bigSep_union hd, bigSep_insert ha, ih, bigSep_image_of_injOn (fun _ _ _ _ h => congrArg Prod.snd h)]

theorem toks_eq : bigSep talkToks (fun x => (dutyTok ER x.1 x.2.1 x.2.2 : sProp 𝕄)) = bigSep Finset.univ fun c : Dev nD => toks c := by
  unfold talkToks
  rw [bigSep_image_of_injOn tk_inj, sep_prod]
  refine bigSep_congr fun c _ => ?_
  have bool (Φ : Bool → sProp 𝕄) : bigSep Finset.univ Φ = iprop(Φ false ∗ Φ true) := by
    rw [show (Finset.univ : Finset Bool) = {false} ∪ {true} from by decide, bigSep_union (by decide), bigSep_singleton, bigSep_singleton]
    rfl
  unfold toks tkSet
  rw [← used_sep, show used.disjSum (Finset.univ : Finset (Bool ⊕ Bool)) = used.map Function.Embedding.inl ∪ Finset.univ.map Function.Embedding.inr from by
      ext x; rw [Finset.mem_disjSum, Finset.mem_union, Finset.mem_map, Finset.mem_map]; rfl,
    bigSep_union (Finset.disjoint_map_inl_map_inr _ _), bigSep_map, bigSep_map, bigSep_univ_sum, bool, bool]
  rfl

end Cert.KernelIdeal.Ring

end
-- ==== Proof.Region.lean ====
module

public import proofs.«01_k».proof.Proof.Fund
public import proofs.«01_k».proof.Proof.Gen.KernelIdeal.Regions
public import proofs.«01_k».proof.Proof.Gen.KernelIdeal.Points
public import Idealize.ShloMosaic.Harness.Basic
public import Idealize.ShloMosaic.Lib.Pipeline.RegionTalk

@[expose] public section

/-! The kernel as the one region of the program. -/

noncomputable section

namespace Cert.KernelIdeal.Ring

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Gen
open Idealize.ShloMosaic.Pipeline (Dat BodyObligation)

variable {F : FTy → Type} [FloatOps F] [Named F]

local notation "𝕄" => MT nD τ sig Unit (Elt F) ℕ UU ℕ

variable (m : (ℓ : Loc nD τ sig) → Buf (Elt F) ℓ)

/-- What each device's kernel reads: its rows and weights, and its heads' keys and values. -/
def env : Env F where
  x c := V1 m c main_arg0
  wq c := V1 m c main_arg1
  wo c := V1 m c main_arg4
  K c := V1 m c main_v15
  V c := V1 m c main_v16

/-- The buffers after the kernel: the result's holds `out`. -/
def W2 (c : Dev nD) : Valuation τ sig (Elt F) := Function.update (V1 m c) main_v17 ((env m).out c)

theorem W2_of (c : Dev nD) (r : Ref sig .tc) (h : r ≠ main_v17) : W2 m c r = V1 m c r := by
  unfold W2
  rw [Function.update_of_ne (StableHlo.devRef_ne_of_ne h : (Proc.devRef .tc r : DevRef τ sig) ≠ Proc.devRef .tc main_v17)]
theorem W2_out (c : Dev nD) : W2 m c main_v17 = (env m).out c := by
  unfold W2; exact Function.update_self ..

/-! ## Between the region and the kernel -/

/-- The region's own semaphores: the two local copies', the transfers' and the exit barrier. -/
def osem : Fin 2 ⊕ Fin 67 → SemLoc sig := Sum.elim (fun k => .dma (dk (4 + k.val))) scLoc

theorem osem_facts : Pipeline.OwnSemFacts spec0 osem where
  isScoped := by decide +kernel
  inj := by decide +kernel
  disj := by decide +kernel

theorem ownSems_eq (c : Dev nD) : (Pipeline.ownSems0 osem c : sProp 𝕄)
    = iprop((semVal (dcell c 4) 0 ∗ semVal (dcell c 5) 0) ∗ Sems c (Finset.Ico 6 72) ∗ semVal (exitCell c) 0) := by
  unfold Pipeline.ownSems0
  rw [bigSep_univ_sum]
  exact congrArg₂ (fun A B : sProp 𝕄 => iprop(A ∗ B)) (BI.bigSep_fin_two (fun k : Fin 2 => (semVal ((c : Thread nD τ), osem (.inl k)) 0 : sProp 𝕄)))
    (sc_sep (fun sm => (semVal ((c : Thread nD τ), sm) 0 : sProp 𝕄)))

theorem sems_used (c : Dev nD) : (Sems c (Finset.Ico 6 72) : sProp 𝕄) = iprop(Sems c used ∗ Sems c dead) := by
  rw [show Finset.Ico 6 72 = used ∪ dead from by decide]
  exact sems_union c (by decide)
theorem sems_two (c : Dev nD) : (Sems c (Finset.Ico 4 72 \ dead) : sProp 𝕄) = iprop((semVal (dcell c 4) 0 ∗ semVal (dcell c 5) 0) ∗ Sems c used) := by
  have one : ∀ n, (semVal (dcell c n) 0 : sProp 𝕄) = Sems c {n} := fun n => (bigSep_singleton (Φ := fun n => semVal (dcell c n) 0)).symm
  rw [one, one, ← sems_union c (by decide), ← sems_union c (by decide)]
  rw [show Finset.Ico 4 72 \ dead = ({4} ∪ {5}) ∪ used from by decide]

/-- A cell per scoped semaphore: opened. -/
theorem open_all (D : Data F) (K : GSem nD τ sig → ℕ) (c : Dev nD) :
    iprop(recs D K ∗ (bigSep Finset.univ fun k : Fin 67 => iprop(openTok ER ((c : Thread nD τ), scLoc k) ∗ semVal ((c : Thread nD τ), scLoc k) 0)))
      ⊢ (|={Set.univ}=> bigSep Finset.univ fun k : Fin 67 => iprop(atPos ER ((c : Thread nD τ), scLoc k) 0 ∅ 0 ∗ reached ER ((c : Thread nD τ), scLoc k) 0) : sProp 𝕄) := by
  refine (bigSep_with_persistent (R := recs D K) (Ψ := fun k : Fin 67 =>
    iprop(|={Set.univ}=> (atPos ER ((c : Thread nD τ), scLoc k) 0 ∅ 0 ∗ reached ER ((c : Thread nD τ), scLoc k) 0 : sProp 𝕄))) fun k _ => ?_).trans (bigSep_fupd _ _)
  iintro ⟨#HI, Ho, Hs⟩
  imod (Rounds.cell_open ER (Rd D) (g := ((c : Thread nD τ), scLoc k)) (Set.mem_univ (K ((c : Thread nD τ), scLoc k)))) $$ [Ho Hs] with ⟨Hat, Hr⟩
  · isplitr
    · iapply (inv_at D K (Finset.mem_union_right _ (Finset.mem_map_of_mem scEmb (Finset.mem_univ (c, k)))))
      iexact HI
    iframe Ho Hs
  imodintro
  iframe Hat Hr

/-- The cells no transfer uses, closed again. -/
theorem close_dead (D : Data F) (K : GSem nD τ sig → ℕ) (c : Dev nD) :
    iprop(recs D K ∗ bigSep dead (ps c)) ⊢ (|={Set.univ}=> Sems c dead : sProp 𝕄) := by
  refine (bigSep_with_persistent (R := recs D K) (Ψ := fun n => iprop(|={Set.univ}=> (semVal (dcell c n) 0 : sProp 𝕄))) fun n hn => ?_).trans (bigSep_fupd _ _)
  have h : ∀ n ∈ dead, 6 ≤ n ∧ n < 72 ∧ live n = false := by decide
  iintro ⟨#HI, Hp⟩
  iapply (Rounds.cell_close ER (Rd D) (g := dcell c n) (κ := K (dcell c n)) (Set.mem_univ _) id (R := 0) fun r _ => duties_dead D c (h n hn).2.1 (h n hn).2.2 r)
  isplitr
  · iapply (inv_at D K (dma_mem c (h n hn).1 (h n hn).2.1)); iexact HI
  iexact Hp

/-- What the launch keeps for the kernel: all the cells' records, the barrier's position, the right to open the scoped cells, the dues and the credit. -/
def Tk (c : Dev nD) : sProp 𝕄 :=
  iprop(∃ K, recs (env m).data K ∗ (bigSep barCells fun g => reached ER g 0) ∗ atPos ER (barCell c) 0 ∅ 0
    ∗ (bigSep Finset.univ fun k : Fin 67 => openTok ER ((c : Thread nD τ), scLoc k)) ∗ Dues c ∗ Creds c)
/-- What the kernel starts with; -/
def Xk (c : Dev nD) : sProp 𝕄 :=
  iprop((∃ K, recs (env m).data K ∗ levAts L lv ∗ opn c) ∗ (Gate c ∗ Leave c ∗ Goods c) ∗ (semVal (dcell c 4) 0 ∗ semVal (dcell c 5) 0) ∗ Sems c dead)

theorem hopen (c : Dev nD) : iprop(Tk m c ∗ Pipeline.ownSems0 osem c ∗ levAts L lv) ⊢ (|={Set.univ}=> Xk m c : sProp 𝕄) := by
  rw [ownSems_eq]
  unfold Tk Xk Dues Creds
  iintro ⟨⟨%K, #HI, #HB, Hb, Ho, ⟨⟨d₁, d₂, d₃, d₄⟩, ⟨b₁, b₂⟩, ⟨e₁, e₂⟩⟩, Hc, Hcb, Hce⟩, ⟨H45, Hs, He⟩, #Hlev⟩
  imod (open_all (env m).data K c) $$ [Ho Hs He] with H
  · isplitr; · iexact HI
    iapply Smoke.bigSep_pair
    isplitl [Ho]; · iexact Ho
    iapply (Entails.of_eq (sc_sep (fun sm => (semVal ((c : Thread nD τ), sm) 0 : sProp 𝕄))).symm)
    unfold Sems
    iframe Hs He
  ihave H := Smoke.bigSep_unpair $$ H
  icases H with ⟨Hp, Hr⟩
  ihave Hp := (Entails.of_eq (sc_sep (fun sm => (atPos ER ((c : Thread nD τ), sm) 0 ∅ 0 : sProp 𝕄)))) $$ Hp
  ihave Hr := (Entails.of_eq (sc_sep (fun sm => (reached ER ((c : Thread nD τ), sm) 0 : sProp 𝕄)))) $$ Hr
  icases Hp with ⟨Hp, Hx⟩
  ihave Hp := (show bigSep (Finset.Ico 6 72) (ps c) ⊢ (iprop(bigSep used (ps c) ∗ bigSep dead (ps c)) : sProp 𝕄) from Entails.of_eq (by
    rw [show Finset.Ico 6 72 = used ∪ dead from by decide]; exact bigSep_union (by decide))) $$ Hp
  icases Hp with ⟨Hp, Hd⟩
  imod (close_dead (env m).data K c) $$ [Hd] with Hd
  · isplitr; · iexact HI
    iexact Hd
  imodintro
  iframe H45 Hd
  isplitl [Hr]
  · iexists K
    isplitr; · iexact HI
    isplitr; · iexact Hlev
    unfold opn; iexact Hr
  isplitl [Hb b₁ b₂ Hcb]
  · unfold Gate
    isplitl [b₂]; · iexact b₂
    isplitl [b₁]; · iexact b₁
    isplitr; · iapply (show bigSep barCells (fun g => (reached ER g 0 : sProp 𝕄)) ⊢ reached ER (barCell (left c)) 0 from bigSep_elim (Finset.mem_map_of_mem barEmb (Finset.mem_univ (left c)))); iexact HB
    isplitr; · iapply (show bigSep barCells (fun g => (reached ER g 0 : sProp 𝕄)) ⊢ reached ER (barCell (right c)) 0 from bigSep_elim (Finset.mem_map_of_mem barEmb (Finset.mem_univ (right c)))); iexact HB
    isplitl [Hb] <;> iassumption
  isplitl [Hx e₁ e₂ Hce]
  · unfold Leave
    isplitl [e₂]; · iexact e₂
    isplitl [e₁]; · iexact e₁
    isplitl [Hx] <;> iassumption
  iapply (goods_intro c)
  iframe Hc Hp d₁ d₂ d₃ d₄

/-! ## The region's data -/

omit [FloatOps F] [Named F] in
theorem own_in (c : Dev nD) (b : Ref sig .tc) :
    (iprop(∃ f : Buf (Elt F) ((c : Thread nD τ).loc b), ((c : Thread nD τ).loc b) ↦{fullShare} f) : sProp 𝕄) ⊢ iprop(∃ Y : b.ty.Contents (Elt F), owns (c : Thread nD τ) (Memref.whole b) fullShare Y) := by
  iintro ⟨%f, H⟩
  iexists f
  iapply (show (((c : Thread nD τ).loc b) ↦{fullShare} f : sProp 𝕄) ⊢ owns (c : Thread nD τ) (Memref.whole b) fullShare f from Entails.of_eq (owns_whole (c : Thread nD τ) b fullShare f).symm)
  iexact H
omit [FloatOps F] [Named F] in
theorem own_out (c : Dev nD) (b : Ref sig .tc) :
    (iprop(∃ Y : b.ty.Contents (Elt F), owns (c : Thread nD τ) (Memref.whole b) fullShare Y) : sProp 𝕄) ⊢ iprop(∃ f : Buf (Elt F) ((c : Thread nD τ).loc b), ((c : Thread nD τ).loc b) ↦{fullShare} f) := by
  iintro ⟨%f, H⟩
  iexists f
  iapply (show (owns (c : Thread nD τ) (Memref.whole b) fullShare f : sProp 𝕄) ⊢ ((c : Thread nD τ).loc b) ↦{fullShare} f from Entails.of_eq (owns_whole (c : Thread nD τ) b fullShare f))
  iexact H

/-- The heads' keys and values, which no window moves. -/
def cacheRefs : Finset (DevRef τ sig) := {Proc.devRef .tc main_v15, Proc.devRef .tc main_v16}

theorem cache_eq (c : Dev nD) (W : Valuation τ sig (Elt F)) (h : W main_v15 = V1 m c main_v15) (h' : W main_v16 = V1 m c main_v16) :
    (StableHlo.held (c : Thread nD τ) cacheRefs W : sProp 𝕄) = Cache (env m) c := by
  unfold StableHlo.held cacheRefs Cache
  rw [bigSep_insert (by decide), bigSep_singleton, owns_whole, owns_whole]
  exact congrArg₂ (fun A B : sProp 𝕄 => iprop(A ∗ B))
    (congrArg (fun f => (((c : Thread nD τ).loc main_v15) ↦{fullShare} f : sProp 𝕄)) h) (congrArg (fun f => (((c : Thread nD τ).loc main_v16) ↦{fullShare} f : sProp 𝕄)) h')

/-- The kernel's state beside the windows: before it, -/
def Φ₀ (c : Dev nD) : sProp 𝕄 := iprop(Xk m c ∗ Bufs c ∗ Local c ∗ Cache (env m) c ∗ ∃ r, prngReg c r)
/-- and after it. -/
def Φ₁ (c : Dev nD) : sProp 𝕄 :=
  iprop(semVal (barCell c) 0 ∗ (Sems c (Finset.Ico 4 72 \ dead) ∗ Sems c dead ∗ semVal (exitCell c) 0) ∗ Bufs c ∗ Local c ∗ Cache (env m) c ∗ ∃ r, prngReg c r)

def dat0 (c : Dev nD) : Dat τ (Elt F) Unit ℕ UU ℕ cfg0 c where
  A w := V1 m c (Proc.devRef .tc (Pipeline.arrRef spec0 w))
  after w _ := match w with
    | ⟨0, _⟩ => (env m).x c
    | ⟨1, _⟩ => (env m).wq c
    | ⟨2, _⟩ => (env m).wo c
    | ⟨3, _⟩ => (env m).out c
  Φ t := if t.val = 0 then Φ₀ m c else Φ₁ m c
  q _ := fullShare
  owed t := if t.val = 0 then oweAll c else 0

def pdats : (p : Fin 1) → (c : Dev nD) → Dat τ (Elt F) Unit ℕ UU ℕ (Pipeline.pin (pcfgs (F := F)) adm p) c
  | 0 => dat0 m

theorem Φ_first (c : Dev nD) : (dat0 m c).Φ t0_0.castSucc = Φ₀ m c := by
  show (if (t0_0.castSucc : Fin (cfg0.N + 1)).val = 0 then Φ₀ m c else Φ₁ m c) = _
  exact if_pos rfl
theorem Φ_second (c : Dev nD) : (dat0 m c).Φ t0_0.succ = Φ₁ m c := by
  show (if (t0_0.succ : Fin (cfg0.N + 1)).val = 0 then Φ₀ m c else Φ₁ m c) = _
  exact if_neg (by decide)
theorem owed_first (c : Dev nD) : (dat0 m c).owed t0_0.castSucc = oweAll c := by
  show (if (t0_0.castSucc : Fin (cfg0.N + 1)).val = 0 then oweAll c else 0) = _
  exact if_pos rfl
theorem owed_second (c : Dev nD) : (dat0 m c).owed t0_0.succ = 0 := by
  show (if (t0_0.succ : Fin (cfg0.N + 1)).val = 0 then oweAll c else 0) = _
  exact if_neg (by decide)
theorem owed_zero (c : Dev nD) : (pdats m 0 c).owed 0 = oweAll c := by
  show (if (0 : Fin (cfg0.N + 1)).val = 0 then oweAll c else 0) = _
  exact if_pos rfl
theorem owed_last (c : Dev nD) : (pdats m 0 c).owed (Fin.last _) = 0 := by
  show (if (Fin.last cfg0.N).val = 0 then oweAll c else 0) = _
  exact if_neg (by decide)

omit [FloatOps F] [Named F] in
/-- A window of a whole array reads the array. -/
theorem whole_read (b : Ref sig .tc) {off : Fin b.ty.shape.rank → ℕ} (h : ∀ a, off a = 0) (hin) (f : b.ty.Contents (Elt F)) :
    ((Memref.whole b).access (Rect.unit (s := b.ty.shape) off b.ty.shape.size hin) : View sig _ _ _ _).read (Elt F) f = f :=
  Memref.read_access_unit_zero (Elt F) b (funext h) hin f

theorem before_x (c : Dev nD) (d) : (dat0 m c).before 0 t0_0 d = (env m).x c := by
  unfold Dat.before
  rw [if_pos (fetch0_0 _)]
  show ((cfg0.win 0).blk t0_0).view.read (Elt F) (V1 m c main_arg0 : main_arg0.ty.Contents (Elt F)) = V1 m c main_arg0
  exact whole_read main_arg0 (off := fun a => win0_0.index t0_0 a * main_arg0.ty.shape.size a) (fun a => Nat.zero_mul _) (fun a => by rw [show win0_0.index t0_0 a = 0 from rfl]; omega) _
theorem before_wq (c : Dev nD) (d) : (dat0 m c).before 1 t0_0 d = (env m).wq c := by
  unfold Dat.before
  rw [if_pos (fetch0_1 _)]
  show ((cfg0.win 1).blk t0_0).view.read (Elt F) (V1 m c main_arg1 : main_arg1.ty.Contents (Elt F)) = V1 m c main_arg1
  exact whole_read main_arg1 (off := fun a => win0_1.index t0_0 a * main_arg1.ty.shape.size a) (fun a => Nat.zero_mul _) (fun a => by rw [show win0_1.index t0_0 a = 0 from rfl]; omega) _
theorem before_wo (c : Dev nD) (d) : (dat0 m c).before 2 t0_0 d = (env m).wo c := by
  unfold Dat.before
  rw [if_pos (fetch0_2 _)]
  show ((cfg0.win 2).blk t0_0).view.read (Elt F) (V1 m c main_arg4 : main_arg4.ty.Contents (Elt F)) = V1 m c main_arg4
  exact whole_read main_arg4 (off := fun a => win0_2.index t0_0 a * main_arg4.ty.shape.size a) (fun a => Nat.zero_mul _) (fun a => by rw [show win0_2.index t0_0 a = 0 from rfl]; omega) _

theorem owes_in {cfg : Pipeline.Cfg sig Λ₀} {c : Dev nD} (dat : Dat τ (Elt F) Unit ℕ UU ℕ cfg c) (t : Fin (cfg.N + 1)) (O : CellTallies nD τ sig Unit)
    (h0 : dat.owed t = O) (hr : dat.recorded t = Set.univ) : ow c O ⊢ (dat.owesAt () t : sProp 𝕄) := by
  unfold ow Dat.owesAt Pipeline.owesWithin Dat.bound
  rw [h0, hr]
  iintro ⟨%W, HO⟩
  iexists W
  isplitr; · ipureintro; exact fun _ _ => Or.inl trivial
  iexact HO
theorem owes_out {cfg : Pipeline.Cfg sig Λ₀} {c : Dev nD} (dat : Dat τ (Elt F) Unit ℕ UU ℕ cfg c) (t : Fin (cfg.N + 1)) (O : CellTallies nD τ sig Unit)
    (h0 : dat.owed t = O) : (dat.owesAt () t : sProp 𝕄) ⊢ ow c O := by
  unfold ow Dat.owesAt Pipeline.owesWithin
  rw [h0]
  iintro ⟨%W, -, HO⟩
  iexists W; iexact HO

theorem body0 (c : Dev nD) : BodyObligation (dat0 m c) (defs₀ (F := F)) 𝒱₀ () Set.univ := fun t => by
  obtain rfl := fin_N0 t
  rw [bigSep_W0, bigSep_W0, Φ_first, Φ_second]
  have hx : iprop(∃ d, owns (c : Thread nD τ) ((cfg0.win 0).stage (cfg0.slots t0_0 0)) fullShare ((dat0 m c).before 0 t0_0 d))
      ⊢ (owns (c : Thread nD τ) ((cfg0.win 0).stage (cfg0.slots t0_0 0)) fullShare ((env m).x c) : sProp 𝕄) := by
    iintro ⟨%d, H⟩; rw [before_x]; iexact H
  have hq : iprop(∃ d, owns (c : Thread nD τ) ((cfg0.win 1).stage (cfg0.slots t0_0 1)) fullShare ((dat0 m c).before 1 t0_0 d))
      ⊢ (owns (c : Thread nD τ) ((cfg0.win 1).stage (cfg0.slots t0_0 1)) fullShare ((env m).wq c) : sProp 𝕄) := by
    iintro ⟨%d, H⟩; rw [before_wq]; iexact H
  have ho : iprop(∃ d, owns (c : Thread nD τ) ((cfg0.win 2).stage (cfg0.slots t0_0 2)) fullShare ((dat0 m c).before 2 t0_0 d))
      ⊢ (owns (c : Thread nD τ) ((cfg0.win 2).stage (cfg0.slots t0_0 2)) fullShare ((env m).wo c) : sProp 𝕄) := by
    iintro ⟨%d, H⟩; rw [before_wo]; iexact H
  unfold Φ₀ Φ₁ Xk
  iintro ⟨⟨⟨⟨%K, #HC⟩, HG, H45, Hdead⟩, HB, HL, HK, Hreg⟩, HO, H0, H1, H2, ⟨%d3, H3⟩⟩
  ihave H0 := hx $$ H0
  ihave H1 := hq $$ H1
  ihave H2 := ho $$ H2
  ihave HO := (owes_out (dat0 m c) _ (oweAll c) (owed_first m c)) $$ HO
  iapply (run_body (win0_0.stage (cfg0.slots t0_0 0)) (hstage0_0 0) (win0_1.stage (cfg0.slots t0_0 1)) (hstage0_1 0) (win0_2.stage (cfg0.slots t0_0 2)) (hstage0_2 0)
    (win0_3.stage (cfg0.slots t0_0 3)) (hstage0_3 0) (env m) K c) $$ [HG H45 HB HL HK HO H0 H1 H2 H3]
  · iframe HC HG HB HL H45 HK HO H0 H1 H2
    iexists _; iexact H3
  iintro ⟨HB, HL, ⟨Hs, Hb, He⟩, HK, HO, H0, H1, H2, H3⟩
  isplitr [HO H0 H1 H2 H3]
  · iframe Hb Hs Hdead He HB HL HK Hreg
  isplitl [HO]
  · iapply (owes_in (dat0 m c) t0_0.succ 0 (owed_second m c) rfl); iexact HO
  isplitl [H0]; · iexact H0
  isplitl [H1]; · iexact H1
  isplitl [H2]; · iexact H2
  iexact H3

/-! ## The buffers of the region -/

theorem rest_in (c : Dev nD) : (Pipeline.scopedRest spec0 c : sProp 𝕄) ⊢ iprop(Bufs c ∗ Local c) := by
  rw [scopedRest0_eq]
  unfold Bufs Local xRp xLp iRp iLp oRp oLp fRp fLp pts
  rw [rows_all]
  iintro ⟨H1, H2, H3, H4, H5, H6, H7, H8, H9, H10, H21⟩
  ihave H1 := (own_in c cc0_scratch1) $$ H1
  ihave H2 := (own_in c cc0_scratch2) $$ H2
  ihave H21 := (own_in c cc0_scratch21) $$ H21
  iframe H1 H2 H3 H4 H5 H6 H7 H8 H9 H10 H21
theorem rest_out (c : Dev nD) : iprop(Bufs c ∗ Local c) ⊢ (Pipeline.scopedRest spec0 c : sProp 𝕄) := by
  rw [scopedRest0_eq]
  unfold Bufs Local xRp xLp iRp iLp oRp oLp fRp fLp pts
  rw [rows_all]
  iintro ⟨⟨H3, H4, H5, H6, H7, H8, H9, H10⟩, H1, H2, H21⟩
  ihave H1 := (own_out c cc0_scratch1) $$ H1
  ihave H2 := (own_out c cc0_scratch2) $$ H2
  ihave H21 := (own_out c cc0_scratch21) $$ H21
  iframe H1 H2 H3 H4 H5 H6 H7 H8 H9 H10 H21

theorem hin (c : Dev nD) : iprop(Pipeline.scopedRest (Pipeline.pin (pcfgs (F := F)) adm 0).spec c ∗ (∃ r, prngReg c r)
    ∗ StableHlo.held (c.tc : Thread nD τ) cacheRefs (V1 m c) ∗ Xk m c) ⊢ (pdats m 0 c).Φ 0 := by
  have h : (pdats m 0 c).Φ 0 = Φ₀ m c := by
    show (if (0 : Fin (cfg0.N + 1)).val = 0 then Φ₀ m c else Φ₁ m c) = _
    exact if_pos rfl
  rw [h, show (StableHlo.held (c.tc : Thread nD τ) cacheRefs (V1 m c) : sProp 𝕄) = Cache (env m) c from cache_eq m c _ rfl rfl]
  unfold Φ₀
  iintro ⟨HR, Hp, HC, HX⟩
  ihave HR := (rest_in c) $$ HR
  icases HR with ⟨HB, HL⟩
  iframe HX HB HL HC Hp

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) cacheRefs (W2 m c)
      ∗ Pipeline.ownSems0 osem c ∗ semVal (barCell c) 0) := by
  have h : (pdats m 0 c).Φ (Fin.last (Pipeline.pin (pcfgs (F := F)) adm 0).N) = Φ₁ m c := by
    show (if (Fin.last cfg0.N).val = 0 then Φ₀ m c else Φ₁ m c) = _
    exact if_neg (by decide)
  rw [h, show (StableHlo.held (c.tc : Thread nD τ) cacheRefs (W2 m c) : sProp 𝕄) = Cache (env m) c from
      cache_eq m c _ (W2_of m c main_v15 (by decide)) (W2_of m c main_v16 (by decide)), ownSems_eq, sems_used]
  unfold Φ₁
  rw [sems_two]
  iintro ⟨Hb, ⟨⟨H45, Hu⟩, Hd, He⟩, HB, HL, HC, Hp⟩
  isplitl [HB HL]
  · iapply (rest_out c); iframe HB HL
  iframe Hp HC H45 Hu Hd He Hb

theorem arr_out (c : Dev nD) : (dat0 m c).arrAt 3 cfg0.N = (env m).out c := by
  rw [show cfg0.N = (t0_0 : Fin cfg0.N).val + 1 from rfl, (dat0 m c).arrAt_succ 3 t0_0, flush0_3 t0_0, if_pos rfl]
  refine (whole_read main_v17 (off := fun a => win0_3.index t0_0 a * main_v17.ty.shape.size a) (fun a => Nat.zero_mul _) (fun a => by rw [show win0_3.index t0_0 a = 0 from rfl]; omega) _).symm.trans ?_
  exact View.read_write_univ _ _

theorem arr_end (c : Dev nD) (w : Fin 4) : (dat0 m c).arrAt w cfg0.N = W2 m c (Proc.devRef .tc (Pipeline.arrRef spec0 w)) := by
  match w with
  | ⟨0, _⟩ => exact ((dat0 m c).arrAt_in 0 rfl _).trans (W2_of m c main_arg0 (by decide)).symm
  | ⟨1, _⟩ => exact ((dat0 m c).arrAt_in 1 rfl _).trans (W2_of m c main_arg1 (by decide)).symm
  | ⟨2, _⟩ => exact ((dat0 m c).arrAt_in 2 rfl _).trans (W2_of m c main_arg4 (by decide)).symm
  | ⟨3, _⟩ => exact (arr_out m c).trans (W2_out m c).symm

theorem kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem above_all (c : Dev nD) : Above 0 (oweAll c) := by
  unfold oweAll
  exact above_add (above_add (above_owe c (x₁ := 0) (x₂ := 0) (s₁ := 0) (s₂ := 0) 0 (by omega) (by omega) (by omega) (by omega) (by omega)) (above_tally _ _ _ (by rw [lv_bar]; omega))) (above_tally _ _ _ (by rw [lv_bar]; omega))

theorem owed_above (c : Dev nD) (t : Fin (cfg0.N + 1)) : Above 0 ((dat0 m c).owed t) := by
  show Above 0 (if t.val = 0 then oweAll c else 0)
  split
  · exact above_all c
  · exact above_zero 0

theorem cutD (c : Dev nD) (t) (g : GSem nD τ sig) (i : Unit) (h : 0 < (pdats m 0 c).owed t g i) : i ∈ L g ∧ (0 : ℕ) < lv g i := by
  have h' := owed_above m c t g i h
  refine ⟨?_, h'.2⟩
  rw [show L g = {()} from if_pos h'.1]
  exact Finset.mem_singleton_self _

/-- The buffers no window stages. -/
def restRefs : Finset (DevRef τ sig) := Pipeline.ucRefs τ sig \ Pipeline.arrRefs (τ := τ) spec0

theorem cache_rest : cacheRefs ⊆ restRefs := by unfold restRefs cacheRefs; decide +kernel
theorem arr_uc : Pipeline.arrRefs (τ := τ) spec0 ⊆ Pipeline.ucRefs τ sig := by decide +kernel
theorem out_arr : (Proc.devRef .tc main_v17 : DevRef τ sig) ∈ Pipeline.arrRefs (τ := τ) spec0 := by decide +kernel

set_option backward.isDefEq.respectTransparency.types false in
/-- The region, from what the host leaves to the result written. -/
def reg : Pipeline.RegionSeg (pcfgs (F := F)) adm (pdats m) () defs₀ 𝒱₀ L lv 0 :=
  Pipeline.RegionSeg.ofTalk (pcfgs (F := F)) adm (pdats m) () defs₀ 𝒱₀ L lv 0 osem osem_facts
    cacheRefs restRefs cache_rest kit0 rfl (fun c => (body0 m c).loose)
    (fun _ => 0) oweAll (fun c => (owed_zero m c).trans (zero_add _).symm) (owed_last m) (fun _ => rfl) (fun _ w => by fin_cases w <;> rfl)
    (V1 m) (W2 m) (fun c b hb => by
      unfold W2
      refine Function.update_of_ne (fun h => ?_) _ _
      rw [h] at hb
      exact (Finset.mem_sdiff.mp (Finset.mem_sdiff.mp hb).1).2 out_arr)
    (Tk m) (fun c => semVal (barCell c) 0) (Xk m) (fun c => semVal (barCell c) 0) (hopen m) (hin m) (hout m)
    (fun c => by iintro H; imodintro; iexact H)
    (fun _ => 0)
    ⟨fun c w s => by rw [L_tc]; exact Finset.mem_singleton_self _, fun c w s => by fin_cases w <;> exact Nat.le_of_eq rfl, fun c t g i h => cutD m c t g i h⟩
    (fun _ => iprop(emp))
    (fun c w => rfl) (fun c w => arr_end m c w)

end Cert.KernelIdeal.Ring

end
-- ==== Proof.Launch.lean ====
module

public import proofs.«01_k».proof.Proof.Region

@[expose] public section

/-! The run of the program: what it computes, from any memory. -/

noncomputable section

namespace Cert.KernelIdeal.Ring

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Gen
open Idealize.ShloMosaic.Pipeline (Dat Seg HostSeg RegionSeg)

variable {F : FTy → Type} [FloatOps F] [Named F]

local notation "𝕄" => MT nD τ sig Unit (Elt F) ℕ UU ℕ

variable (m : (ℓ : Loc nD τ sig) → Buf (Elt F) ℓ) (ρ : Dev nD → PrngReg)

theorem disjoint_cells : Disjoint barCells scCells := by
  unfold barCells scCells
  rw [Finset.disjoint_left]
  rintro g h₁ h₂
  obtain ⟨c, -, rfl⟩ := Finset.mem_map.mp h₁
  obtain ⟨ck, -, h⟩ := Finset.mem_map.mp h₂
  exact scLoc_ne_bar ck.2 (congrArg Prod.snd h)

/-- The ghost state the launch makes. -/
def u₀ : UU :=
  (initOf (Pipeline.cells (Pipeline.pin (pcfgs (F := F)) adm) cellOf_inj) (Pipeline.launchToks (Pipeline.pin (pcfgs (F := F)) adm) cellOf_inj),
    (launchOf barCells scCells talkToks, 1))

/-- All of a resource with device 0. -/
def first (X : sProp 𝕄) (c : Dev nD) : sProp 𝕄 := if c = 0 then X else iprop(emp)
theorem all_first (X : sProp 𝕄) : bigSep Finset.univ (first X) = X := by
  rw [bigSep_univ_at _ (0 : Dev nD), bigSep_congr (s := Finset.univ.erase (0 : Dev nD)) (Ψ := fun _ => (BI.emp : sProp 𝕄))
      fun c hc => by unfold first; rw [if_neg (Finset.ne_of_mem_erase hc)]; rfl, BI.bigSep_emp_const]
  unfold first; rw [if_pos rfl]
  exact BI.equiv_iff.mp sep_emp

/-- The ring's ghost state, made whole. -/
def ringStart : Dev nD → sProp 𝕄 := first (BI.own (ER (launchOf barCells scCells talkToks)))

/-- What every device may consult. -/
def known (κ : GSem nD τ sig → ℕ) : sProp 𝕄 := iprop(recs (env m).data κ ∗ bigSep barCells fun g => reached ER g 0)
instance known_persistent (κ : GSem nD τ sig → ℕ) : BI.Persistent (known m κ) := by unfold known; infer_instance

/-- What one device alone holds. -/
def own₁ (c : Dev nD) : sProp 𝕄 :=
  iprop((atPos ER (barCell c) 0 ∅ 0 ∗ (bigSep Finset.univ fun k : Fin 67 => openTok ER ((c : Thread nD τ), scLoc k)) ∗ Dues c)
    ∗ ((∃ r, prngReg c r) ∗ Creds c ∗ ow c (oweAll c)))

/-- Beside the buffers, before the region; -/
def rest₀ (c : Dev nD) : sProp 𝕄 := iprop((∃ r, prngReg c r) ∗ Tk m c ∗ ow c (oweAll c))
/-- and after it. -/
def rest₁ (c : Dev nD) : sProp 𝕄 := iprop(semVal (barCell c) 0 ∗ ow c 0)

theorem rest_intro (κ : GSem nD τ sig → ℕ) (c : Dev nD) : iprop(known m κ ∗ own₁ c) ⊢ rest₀ m c := by
  unfold known own₁ rest₀ Tk
  iintro ⟨⟨#HI, #HB⟩, ⟨Hb, Ho, HD⟩, Hp, HC, HO⟩
  iframe Hp HO
  iexists κ
  isplitr; · iexact HI
  isplitr; · iexact HB
  iframe Hb Ho HD HC

theorem region_pre (c : Dev nD) : iprop(StableHlo.held (c : Thread nD τ) (Pipeline.ucRefs τ sig) (V1 m c) ∗ rest₀ m c) ⊢ (reg m).pre c := by
  show _ ⊢ iprop(StableHlo.held (c.tc : Thread nD τ) (Pipeline.arrRefs (τ := τ) spec0) (V1 m c) ∗ (∃ r, prngReg c r)
    ∗ (StableHlo.held (c.tc : Thread nD τ) restRefs (V1 m c) ∗ emp) ∗ Tk m c ∗ ∃ Wd, owes (c : Thread nD τ) (0 + oweAll c) Wd)
  rw [zero_add, StableHlo.held_sub_split (c : Thread nD τ) arr_uc (V1 m c)]
  unfold rest₀ ow restRefs
  iintro ⟨⟨Ha, Hr⟩, Hp, HT, HO⟩
  iframe Ha Hp Hr HT HO

theorem region_post (c : Dev nD) : (reg m).post c ⊢ iprop(StableHlo.held (c : Thread nD τ) (Pipeline.ucRefs τ sig) (W2 m c) ∗ rest₁ c) := by
  show iprop(StableHlo.held (c.tc : Thread nD τ) (Pipeline.arrRefs (τ := τ) spec0) (W2 m c) ∗ (∃ r, prngReg c r)
    ∗ (StableHlo.held (c.tc : Thread nD τ) restRefs (W2 m c) ∗ emp) ∗ semVal (barCell c) 0 ∗ ∃ Wd, owes (c : Thread nD τ) (0 : CellTallies nD τ sig Unit) Wd) ⊢ _
  rw [StableHlo.held_sub_split (c : Thread nD τ) arr_uc (W2 m c)]
  unfold rest₁ ow restRefs
  iintro ⟨Ha, -, ⟨Hr, -⟩, Hb, HO⟩
  iframe Ha Hr Hb HO

theorem unscoped_sem (c : Dev nD) : (unscopedSems0 c : sProp 𝕄) = semVal (barCell c) 0 := by
  unfold unscopedSems0
  rw [show (Finset.univ.filter fun sm : SemLoc sig => ¬ sm.isScoped .tc) = {SemLoc.reg barS} from by decide +kernel, BI.bigSep_singleton]

theorem unscoped_only : ∀ sm : SemLoc sig, sm.isScoped .tc = false → sm = .reg barS := by decide +kernel

theorem init_rest :
    iprop((bigSep Finset.univ fun c : Dev nD => iprop(unscopedSems0 c ∗ owes (c : Thread nD τ) (oweAll c) ∅ ∗ Pipeline.launchCred oweAll c ∗ prngReg c (ρ c) ∗ ringStart c)) ∗ levAts L lv)
      ⊢ (|={Set.univ}=> bigSep Finset.univ (rest₀ m) : sProp 𝕄) := by
  have hcore (c : Dev nD) : iprop(unscopedSems0 c ∗ owes (c : Thread nD τ) (oweAll c) ∅ ∗ Pipeline.launchCred oweAll c ∗ prngReg c (ρ c) ∗ ringStart c)
      ⊢ (iprop(((∃ r, prngReg c r) ∗ Creds c ∗ ow c (oweAll c)) ∗ (semVal (barCell c) 0 ∗ ringStart c)) : sProp 𝕄) := by
    rw [unscoped_sem]
    unfold ow
    iintro ⟨Hb, HO, Hc, Hp, HG⟩
    ihave Hc := (creds c) $$ Hc
    iframe Hc Hb HG
    isplitl [Hp]; · iexists _; iexact Hp
    iexists ∅; iexact HO
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopn : bigSep scCells (fun g => (openTok ER g : sProp 𝕄))
      ⊢ bigSep Finset.univ (fun c : Dev nD => bigSep Finset.univ fun k : Fin 67 => (openTok ER ((c : Thread nD τ), scLoc k) : sProp 𝕄)) :=
    Entails.of_eq (by unfold scCells; rw [bigSep_map, bigSep_univ_prod]; rfl)
  iintro ⟨H, -⟩
  ihave H := (show (bigSep Finset.univ fun c : Dev nD => iprop(unscopedSems0 c ∗ owes (c : Thread nD τ) (oweAll c) ∅ ∗ Pipeline.launchCred oweAll c ∗ prngReg c (ρ c) ∗ ringStart c))
      ⊢ (bigSep Finset.univ fun c : Dev nD => iprop(((∃ r, prngReg c r) ∗ Creds c ∗ ow c (oweAll c)) ∗ (semVal (barCell c) 0 ∗ ringStart c)) : sProp 𝕄) from bigSep_mono fun c _ => hcore c) $$ H
  ihave H := Smoke.bigSep_unpair $$ H; icases H with ⟨HB, H⟩
  ihave H := Smoke.bigSep_unpair $$ H; icases H with ⟨Hv, HG⟩
  ihave Hu := (show bigSep Finset.univ (ringStart (F := F)) ⊢ BI.own (ER (launchOf barCells scCells talkToks)) from
    Entails.of_eq (all_first (BI.own (ER (launchOf barCells scCells talkToks))))) $$ HG
  imod (Rounds.fund_launch ER (Rd (env m).data) disjoint_cells (fun g _ h => h) talkToks) $$ [Hv Hu] with ⟨%κ, -, #Hinv, #Hr, Hat, Hopen, Htok⟩
  · isplitl [Hv]
    · iapply hv $$ Hv
    · iexact Hu
  imodintro
  iapply (bigSep_with_persistent (R := known m κ) (Φ := fun c => own₁ c) fun c _ => rest_intro m κ c)
  isplitr
  · unfold known recs
    isplitr; · iexact Hinv
    iexact Hr
  unfold own₁
  iapply Smoke.bigSep_pair
  isplitr [HB]
  · iapply Smoke.bigSep_pair; isplitl [Hat]; · iapply hat $$ Hat
    iapply Smoke.bigSep_pair; isplitl [Hopen]; · iapply hopn $$ Hopen
    iapply toks_around
    iapply (Entails.of_eq toks_eq) $$ Htok
  · iexact HB

theorem W2_arg (c : Dev nD) (r : Ref sig .tc) (h : r ≠ main_v17) (h' : r ∉ hostOps0_W) : W2 m c r = m ((c : Thread nD τ).loc r) :=
  (W2_of m c r h).trans (V1_of m c r h')

set_option backward.isDefEq.respectTransparency.types false in
/-- From any memory with the counters at zero every run ends, each device's result `out` of what the devices held, the arguments as they
were and every counter at zero again. -/
theorem run_main : θ_run defs (onTc (τ := τ) (main (F := F))) ⟨m, fun _ => 0, ρ⟩ (fun r => (∀ c : Dev nD,
      r.2.mem ((c.tc : Thread nD τ).loc main_v17) = (env m).out c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) := by
  refine Pipeline.θ_run_regions_kit_dev_sems (pcfgs (F := F)) adm (pdats m) () cellOf_inj EP defs₀ 𝒱₀ L lv m ρ main
    (segs m 𝒱₀ L lv (fun _ => rest₀ m) () (pdats m) (reg m))
    (fun c Q => by
      rewrite [main_chain c, Seg.run_eq_chain,
        show (segs m 𝒱₀ L lv (fun _ => rest₀ m) () (pdats m) (reg m) c).map Seg.prog = [
          StableHlo.seq (hostOps0 c),
          Prog.lift (.customCall (Pipeline.entry 0) ()) ] from rfl]
      dsimp (config := { failIfUnchanged := false }) only
      exact .rfl)
    (fun c => by simp only [segs, Seg.pipes_host, Seg.pipes_region, Seg.pipes_nil]; decide) oweAll L_of_ne ringStart u₀
    (by
      unfold u₀ ringStart
      iintro Hu
      ihave H := (ownU_pair _ _) $$ Hu
      icases H with ⟨HP, HX⟩
      imodintro
      isplitl [HP]; · iexact HP
      rw [all_first]
      ihave H := (own_pair_emb embR _ _) $$ HX
      icases H with ⟨HX, -⟩
      iexact HX)
    (T₀ := fun c => iprop(StableHlo.held (c : Thread nD τ) (Pipeline.ucRefs τ sig) (V0 m c) ∗ rest₀ m c))
    (Tₙ := fun c => iprop(StableHlo.held (c : Thread nD τ) (Pipeline.ucRefs τ sig) (W2 m c) ∗ semVal (barCell c) 0))
    (hch := fun c => ⟨.rfl, region_pre m c, (region_post m c).trans (by
      unfold rest₁ ow
      iintro ⟨Hh, Hb, HO⟩
      isplitr [HO]
      · isplitl [Hh] <;> iassumption
      · iexact HO)⟩)
    (hinit := ?_)
    (QY := fun c s => (∀ b ∈ Pipeline.ucRefs τ sig, s.mem ((c : Thread nD τ).1, b) = W2 m c b) ∧ s.sem (barCell c) = 0)
    (hfin := fun c s' => ?_)
    (hQ := fun s h hs => ⟨fun c => ?_, sem_eq_zero hs fun c sm hsm => by
        obtain rfl := unscoped_only sm hsm
        exact (h c).2⟩)
  · have hsplit : (bigSep Finset.univ fun c : Dev nD => iprop(unscopedBufs c (fun b => m ((c.tc : Thread nD τ).loc b)) ∗ unscopedSems0 c
          ∗ owes (c.tc : Thread nD τ) (oweAll c) ∅ ∗ Pipeline.launchCred oweAll c ∗ prngReg c (ρ c) ∗ ringStart c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (oweAll c) ∅ ∗ Pipeline.launchCred oweAll c ∗ prngReg c (ρ c) ∗ ringStart c))
            : sProp 𝕄) := by
      rw [← bigSep_sep']
      exact bigSep_mono fun c _ => by rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (init_rest m ρ) $$ [Hr Hla] with HE
    · isplitl [Hr]; · iexact Hr
      iexact Hla
    imodintro
    rw [bigSep_sep']
    isplitl [Hh]; · iexact Hh
    iexact HE
  · unfold StableHlo.held
    iintro ⟨⟨Hh, Hb⟩, HSI⟩
    icombine HSI Hb gives %hb
    ihave Hr := (pointsTo_read_all (Pipeline.ucRefs τ sig) (fun b => ((c : Thread nD τ).1, b)) (W2 m c) s') $$ [Hh HSI]
    · isplitl [Hh] <;> iassumption
    icases Hr with ⟨%h, HSI⟩
    imodintro
    isplitr
    · ipureintro
      exact ⟨h, by simpa using hb⟩
    · iexact HSI
  · have uc (r : Ref sig .tc) (hr : r.isScoped = false) : Proc.devRef .tc r ∈ Pipeline.ucRefs τ sig := Finset.mem_filter.mpr ⟨StableHlo.devRef_mem_tcRefs r, by simpa using hr⟩
    exact ⟨((h c).1 _ (uc main_v17 (by decide))).trans (W2_out m c),
      ((h c).1 _ (uc main_arg0 (by decide))).trans (W2_arg m c main_arg0 (by decide) (by decide)),
      ((h c).1 _ (uc main_arg1 (by decide))).trans (W2_arg m c main_arg1 (by decide) (by decide)),
      ((h c).1 _ (uc main_arg2 (by decide))).trans (W2_arg m c main_arg2 (by decide) (by decide)),
      ((h c).1 _ (uc main_arg3 (by decide))).trans (W2_arg m c main_arg3 (by decide) (by decide)),
      ((h c).1 _ (uc main_arg4 (by decide))).trans (W2_arg m c main_arg4 (by decide) (by decide))⟩

end Cert.KernelIdeal.Ring

end
-- ==== Proof.Printed.lean ====
/- The kernel as printed, at the bits: it is the same program as its idealization read at the bits, so it runs by the
   same theorem. The one constant the idealization names has at the bits the pattern the kernel was printed with. -/
module

public import proofs.«01_k».proof.Defs
public import proofs.«01_k».proof.Proof.Gen.Kernel
public import proofs.«01_k».proof.Proof.Launch
public import Idealize.ShloMosaic.Lib.Claim

@[expose] public section

set_option maxRecDepth 100000
set_option maxHeartbeats 400000
set_option backward.isDefEq.respectTransparency false

noncomputable section

namespace Cert.Printed

open Idealize.ShloMosaic Idealize.SL.Sem

/-- A named constant, read at the bits, is its pattern. -/
local instance bitsNamed : Named Bits where
  named _ _ {φ} bits := FloatOps.ofBits φ bits

/-- The two programs' bodies, before the pipelines are put in, agree. -/
theorem defs₀_eq : (Cert.Kernel.defs₀ (F := Bits)) = (Cert.KernelIdeal.defs₀ (F := Bits)) := by
  refine congrArg Defs.onTc (funext fun l => funext fun a => ?_)
  match l, a with
  | ⟨0, _⟩, (_, _) => rfl

/-- The two programs' bodies agree. -/
theorem defs_eq : (Cert.Kernel.defs (F := Bits)) = (Cert.KernelIdeal.defs (F := Bits)) :=
  congrArg (Pipeline.defs (Cert.KernelIdeal.pcfgs (F := Bits))) defs₀_eq

/-- A run of the one is a run of the other. -/
theorem run_same (m : (ℓ : Loc Cert.Kernel.nD Cert.Kernel.τ Cert.Kernel.sig) → Buf (Elt Bits) ℓ) (g : Dev Cert.Kernel.nD → PrngReg) (Q) :
    (θ_run (Cert.Kernel.defs (F := Bits)) (onTc (τ := Cert.Kernel.τ) (Cert.Kernel.main (F := Bits))) ⟨m, fun _ => 0, g⟩ Q)
     = (θ_run (Cert.KernelIdeal.defs (F := Bits)) (onTc (τ := Cert.KernelIdeal.τ) (Cert.KernelIdeal.main (F := Bits))) ⟨m, fun _ => 0, g⟩ Q) :=
  congrArg (fun D : Defs _ _ _ _ _ => θ_run D (onTc (τ := Cert.KernelIdeal.τ) (Cert.KernelIdeal.main (F := Bits))) ⟨m, fun _ => 0, g⟩ Q) defs_eq

/-- The printed kernel runs, keeps its arguments and ends quiescent. -/
theorem frame : Cert.quiescent_Kernel := by
  intro m g _
  refine cast (run_same m g _).symm ?_
  exact Idealize.ShloMosaic.θ_run_mono (Cert.KernelIdeal.Ring.run_main (F := Bits) m g) fun r h => ⟨fun c => (h.1 c).2, h.2⟩

end Cert.Printed

end
-- ==== Proof.Reference.lean ====
/- The reference's run: a straight line of whole-array operations on one device. -/
module

public import proofs.«01_k».proof.Defs
public import proofs.«01_k».proof.Proof.Gen.ReferenceIdeal
public import Idealize.ShloMosaic.Lib.Claim
public import Idealize.ShloMosaic.Lib.Quiescent

@[expose] public section

set_option maxRecDepth 100000
set_option maxHeartbeats 4000000

noncomputable section

namespace Cert.ReferenceIdeal.Plain

open Idealize.ShloMosaic Idealize.SL.Sem
open Cert.ReferenceIdeal Cert.ReferenceIdeal.Facts₀

/-- The queries, by head. -/
def query (x : FVec Ideal S16x128x512 .f32) (wq : FVec Ideal S512x4096 .f32) : FVec Ideal S16x128x64x64 .f32 :=
  shapeCast S16x128x64x64 (Host.dotGeneral dot_S16x128x512_S512x4096_S16x128x4096_2_0_01_1_n_n none x wq) shapeCasts_S16x128x4096_S16x128x64x64

/-- The scaled scores. -/
def scores (q k : FVec Ideal S16x128x64x64 .f32) : FVec Ideal S16x64x128x128 .f32 :=
  mulf (Host.dotGeneral dot_S16x128x64x64_S16x128x64x64_S16x64x128x128_3_3_1_1_02_02 none q k)
    (broadcastInDim S16x64x128x128 ![] bcast_S_S16x64x128x128 (constant S_ .f32 0x3E000000#32))

/-- Minus infinity, one per row. -/
def low : FVec Ideal S16x64x128x1 .f32 := broadcastInDim S16x64x128x1 ![] bcast_S_S16x64x128x1 (constant S_ .f32 0xFF800000#32)

/-- Each row's largest score. -/
def top (s : FVec Ideal S16x64x128x128 .f32) : FVec Ideal S16x64x128x1 .f32 :=
  maximumf low (broadcastInDim S16x64x128x1 ![0, 1, 2] bcast_S16x64x128_S16x64x128x1_0_1_2
    (Host.reduce FloatOps.maximumf s (constant S_ .f32 0xFF800000#32) reducesTo_S16x64x128x128_S16x64x128_d3 h_S_))

/-- What the sums carried in are scaled by. -/
def scale (t : FVec Ideal S16x64x128x1 .f32) : FVec Ideal S16x64x128x1 .f32 := Host.exp (subf low t)

/-- The weights, before they are divided by their sum. -/
def weights (s : FVec Ideal S16x64x128x128 .f32) : FVec Ideal S16x64x128x128 .f32 :=
  Host.exp (subf s (broadcastInDim S16x64x128x128 ![0, 1, 2, 3] bcast_S16x64x128x1_S16x64x128x128_0_1_2_3 (top s)))

/-- The weights' sum. -/
def total (s : FVec Ideal S16x64x128x128 .f32) : FVec Ideal S16x64x128x1 .f32 :=
  addf (mulf (broadcastInDim S16x64x128x1 ![] bcast_S_S16x64x128x1 (constant S_ .f32 0x00000000#32)) (scale (top s)))
    (broadcastInDim S16x64x128x1 ![0, 1, 2] bcast_S16x64x128_S16x64x128x1_0_1_2
      (Host.reduceAdd (weights s) (constant S_ .f32 0x00000000#32) reducesTo_S16x64x128x128_S16x64x128_d3 h_S_))

/-- The weighted sum of the values. -/
def weighted (s : FVec Ideal S16x64x128x128 .f32) (v : FVec Ideal S16x128x64x64 .f32) : FVec Ideal S16x128x64x64 .f32 :=
  addf (mulf (broadcastInDim S16x128x64x64 ![] bcast_S_S16x128x64x64 (constant S_ .f32 0x00000000#32))
      (broadcastInDim S16x128x64x64 ![0, 1, 2, 3] bcast_S16x128x64x1_S16x128x64x64_0_1_2_3
        (transpose S16x128x64x1 [0, 2, 1, 3] (scale (top s)) transposes_S16x64x128x1_S16x128x64x1_0_2_1_3)))
    (transpose S16x128x64x64 [0, 3, 1, 2]
      (Host.dotGeneral dot_S16x128x64x64_S16x64x128x128_S16x64x64x128_1_3_3_2_02_01 none v (weights s))
      transposes_S16x64x64x128_S16x128x64x64_0_3_1_2)

/-- The attention of each head. -/
def heads (s : FVec Ideal S16x64x128x128 .f32) (v : FVec Ideal S16x128x64x64 .f32) : FVec Ideal S16x128x64x64 .f32 :=
  Host.divf (weighted s v)
    (broadcastInDim S16x128x64x64 ![0, 1, 2, 3] bcast_S16x128x64x1_S16x128x64x64_0_1_2_3
      (transpose S16x128x64x1 [0, 2, 1, 3] (total s) transposes_S16x64x128x1_S16x128x64x1_0_2_1_3))

/-- The reference's result, of its arguments. -/
def result (x : FVec Ideal S16x128x512 .f32) (wq : FVec Ideal S512x4096 .f32) (k v : FVec Ideal S16x128x64x64 .f32)
    (wo : FVec Ideal S4096x512 .f32) : FVec Ideal S16x128x512 .f32 :=
  Host.dotGeneral dot_S16x128x4096_S4096x512_S16x128x512_2_0_01_1_n_n none
    (shapeCast S16x128x4096 (heads (scores (query x wq) k) v) shapeCasts_S16x128x64x64_S16x128x4096) wo

variable (m : (ℓ : Loc nD τ sig) → Buf (Elt Ideal) ℓ) (g : Dev nD → PrngReg)

/-- The reference runs: its result is `result` of its arguments, which it keeps. -/
theorem run : θ_run (defs (F := Ideal)) (onTc (τ := τ) (main (F := Ideal))) ⟨m, fun _ => 0, g⟩ (fun r => ∀ c : Dev nD,
      r.2.mem ((c.tc : Thread nD τ).loc main_v30)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  hlo_run
  rfl

/-- The reference runs, keeps its arguments and ends quiescent. -/
theorem frame : Cert.quiescent_ReferenceIdeal := by
  intro m g _
  exact Idealize.ShloMosaic.θ_run_mono (run m g) fun r h => ⟨fun c => (h c).2, sem_eq_zero_of_no_sems (by decide) r.2⟩

end Cert.ReferenceIdeal.Plain

end
-- ==== Proof.Soft.lean ====
module

public import Idealize.ShloMosaic.Lib.Pointwise

@[expose] public section

/-! Attention over the extended reals, of one query and the keys and values of one head: weights as powers of two of scores whose
query was scaled beforehand, and weights as exponentials of scores less their largest, give one result when the scores are real. -/

noncomputable section

namespace Cert.Attn

open Idealize.ShloMosaic

/-- An eighth of the base-two logarithm of e. -/
def factor : EReal := (((1 / 8) * (Real.log 2)⁻¹ : ℝ) : EReal)

/-- A weight as a power of two: the query is projected, scaled, and multiplied with the key. -/
def expo (X : Fin 512 → EReal) (W : Fin 512 → Fin 64 → EReal) (K : Fin 64 → EReal) : EReal :=
  Ideal.exp2 (∑ d, ((∑ k, X k * W k d) * factor) * K d)

/-- The weighted mean of the values. -/
def attn (X : Fin 512 → EReal) (W : Fin 512 → Fin 64 → EReal) (K : Fin 128 → Fin 64 → EReal) (v : Fin 128 → EReal) : EReal :=
  Ideal.div (∑ j, expo X W (K j) * v j) (∑ j, expo X W (K j))

/-- The score of a key: an eighth of its product with the projected query. -/
def score (X : Fin 512 → EReal) (W : Fin 512 → Fin 64 → EReal) (K : Fin 64 → EReal) : EReal :=
  (∑ d, (∑ k, X k * W k d) * K d) * ((1 / 8 : ℝ) : EReal)

/-- An extended real that is a real. -/
def Finite (x : EReal) : Prop := ∃ r : ℝ, x = r

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem mul_sum {ι : Type} (s : Finset ι) (c : ℝ) (hc : 0 ≤ c) (f : ι → EReal) : (c : EReal) * ∑ i ∈ s, f i = ∑ i ∈ s, (c : EReal) * f i := by
  classical
  induction s using Finset.induction_on with
  | empty => simp
  | insert a s ha ih =>
    rw [Finset.sum_insert ha, Finset.sum_insert ha, ← ih]
    exact EReal.left_distrib_of_nonneg_of_ne_top (EReal.coe_nonneg.mpr hc) (EReal.coe_ne_top c) _ _

/-- With all it is made of real, a score is real, and the weight is its exponential. -/
theorem score_real (X : Fin 512 → EReal) (W : Fin 512 → Fin 64 → EReal) (K : Fin 64 → EReal)
    (hX : ∀ k, Finite (X k)) (hW : ∀ k d, Finite (W k d)) (hK : ∀ d, Finite (K d)) :
    ∃ t : ℝ, score X W K = t ∧ expo X W K = (Real.exp t : ℝ) := by
  choose x hx using hX
  choose w hw using hW
  choose κ hκ using hK
  refine ⟨(∑ d, (∑ k, x k * w k d) * κ d) * (1 / 8), ?_, ?_⟩
  · unfold score
    simp only [hx, hw, hκ, ← EReal.coe_mul, ← coe_sum]
  · unfold expo factor
    simp only [hx, hw, hκ, ← EReal.coe_mul, ← coe_sum, Ideal.exp2_coe]
    congr 1
    have hl : Real.log 2 ≠ 0 := (Real.log_pos (by norm_num)).ne'
    have e : ∑ d, (∑ k, x k * w k d) * (1 / 8 * (Real.log 2)⁻¹) * κ d
        = (∑ d, (∑ k, x k * w k d) * κ d) * (1 / 8) * (Real.log 2)⁻¹ := by
      rw [Finset.sum_mul, Finset.sum_mul]
      exact Finset.sum_congr rfl fun d _ => by ring
    rw [e]
    rw [Real.rpow_eq_pow, Real.rpow_def_of_pos (by norm_num)]
    congr 1
    field_simp

/-- Weights less their largest, or any real, give the same mean: the factor cancels, whatever the values are. -/
theorem mean_eq (t : Fin 128 → ℝ) (v : Fin 128 → EReal) (M : ℝ) :
    Ideal.div (∑ j, v j * Ideal.exp ((t j : EReal) - (M : EReal))) (∑ j, Ideal.exp ((t j : EReal) - (M : EReal)))
      = Ideal.div (∑ j, ((Real.exp (t j) : ℝ) : EReal) * v j) (∑ j, ((Real.exp (t j) : ℝ) : EReal)) := by
  have e : ∀ j, Ideal.exp ((t j : EReal) - (M : EReal)) = ((Real.exp (-M) * Real.exp (t j) : ℝ) : EReal) := fun j => by
    rw [← EReal.coe_sub, Ideal.exp_coe, ← Real.exp_add, neg_add_eq_sub]
  have hL : 0 < ∑ j, Real.exp (t j) := Finset.sum_pos (fun j _ => Real.exp_pos _) ⟨0, Finset.mem_univ _⟩
  have hc : 0 < Real.exp (-M) := Real.exp_pos _
  simp only [e]
  rw [← coe_sum, ← coe_sum, ← Finset.mul_sum]
  have en : ∑ j, v j * ((Real.exp (-M) * Real.exp (t j) : ℝ) : EReal) = ((Real.exp (-M) : ℝ) : EReal) * ∑ j, ((Real.exp (t j) : ℝ) : EReal) * v j := by
    rw [mul_sum _ _ hc.le]
    exact Finset.sum_congr rfl fun j _ => by rw [EReal.coe_mul, mul_comm, mul_assoc]
  rw [en, Ideal.div_coe (mul_pos hc hL).ne', Ideal.div_coe hL.ne', mul_comm ((Real.exp (-M) : ℝ) : EReal), mul_assoc, ← EReal.coe_mul]
  congr 2
  field_simp

/-- The largest of finitely many reals is real. -/
theorem fold_max_real (t : Fin 128 → ℝ) : Finite (max ⊥ (Finset.fold max ⊥ (fun j => (t j : EReal)) Finset.univ)) := by
  rw [max_eq_right bot_le]
  have h : ∀ s : Finset (Fin 128), Finset.fold max ⊥ (fun j => (t j : EReal)) s ≠ ⊤ := fun s => by
    induction s using Finset.induction_on with
    | empty => simp
    | insert a s ha ih =>
      rw [Finset.fold_insert ha]
      rcases max_choice ((t a : ℝ) : EReal) (Finset.fold max ⊥ (fun j => (t j : EReal)) s) with h | h <;> rw [h]
      · exact EReal.coe_ne_top _
      · exact ih
  refine ⟨(Finset.fold max ⊥ (fun j => (t j : EReal)) Finset.univ).toReal, (EReal.coe_toReal (h _) ?_).symm⟩
  intro hb
  have : ((t 0 : ℝ) : EReal) ≤ ⊥ := by
    rw [← hb, Finset.le_fold_max]
    exact Or.inr ⟨0, Finset.mem_univ _, le_rfl⟩
  exact EReal.coe_ne_bot _ (le_bot_iff.mp this)

/-- The mean with exponentials of real scores less their largest, carried sums of nothing added, is `attn`. -/
theorem attn_eq (X : Fin 512 → EReal) (W : Fin 512 → Fin 64 → EReal) (K : Fin 128 → Fin 64 → EReal) (v : Fin 128 → EReal)
    (hX : ∀ k, Finite (X k)) (hW : ∀ k d, Finite (W k d)) (hK : ∀ j d, Finite (K j d)) (a b : EReal) (M : EReal)
    (hM : M = max ⊥ (Finset.fold max ⊥ (fun j => score X W (K j)) Finset.univ)) :
    Ideal.div (0 * a + ∑ j, v j * Ideal.exp (score X W (K j) - M)) (0 * b + ∑ j, Ideal.exp (score X W (K j) - M)) = attn X W K v := by
  choose t ht he using fun j => score_real X W (K j) hX hW (hK j)
  simp only [ht] at hM
  obtain ⟨r, hr⟩ := fold_max_real t
  rw [hr] at hM
  subst hM
  unfold attn
  simp only [ht, he, zero_mul, zero_add]
  exact mean_eq t v r

end Cert.Attn

end
-- ==== Proof.Head.lean ====
module

public import proofs.«01_k».proof.Proof.Stages
public import proofs.«01_k».proof.Proof.Body
public import proofs.«01_k».proof.Proof.Soft

@[expose] public section

/-! What a tile holds: the attention of one head for one batch row, element by element. -/

noncomputable section

namespace Cert.KernelIdeal.Ring

open Idealize.ShloMosaic Gen Cert.Attn

section

variable {F : FTy → Type} [FloatOps F] [Named F]

/-- One head's attention, of the scaled queries of all eight heads and the head's keys and values. -/
def head (q : FVec F S128x512 .f32) (off : Fin 2 → ℕ) (hs : S128x512.Slices off S128x64) (k v : Vec F S1x128x64 .f32) : FVec F S128x64 .f32 :=
  have w : FVec F S128x128 .f32 := exp2 (matmul dot_S128x64_S128x64_S128x128_1_1_0_0_n_n none (extractStridedSlice S128x64 off q hs)
    (shapeCast S128x64 k shapeCasts_S1x128x64_S128x64) (constant S128x128 .f32 0x00000000#32))
  shapeCast S128x64 (divf (matmul dot_S128x128_S128x64_S128x64_1_0_0_1_n_n none w (shapeCast S128x64 v shapeCasts_S1x128x64_S128x64) (constant S128x64 .f32 0x00000000#32))
    (broadcastTo S128x64 (shapeCast S128x1 (multiReduction .add [1] S128 w 0x00000000#32 reduces_S128x128_S128 (.inl rfl) rfl) shapeCasts_S128_S128x1)
      broadcasts_S128x1_S128x64)) shapeCasts_S128x64_S128x64

theorem head_slices (h : ℕ) (hh : h < 8) : S128x512.Slices ![0, 64 * h] S128x64 := by
  interval_cases h <;> decide

end

/-- The scaled queries. -/
theorem queries_apply (x : Vec Ideal S1x1x128x512 .bf16) (w : Vec Ideal S512x512 .f32) (r : Fin 128) (j : Fin 512) :
    k0_pay1 x w (ix2 r j) = (∑ k : Fin 512, x (ix4 0 0 r k) * w (ix2 k j)) * factor := by
  pointwise [k0_pay1]
  exact congrArg _ (IdealRules.named_const.ideal_named_scalar _ _ _ _ rfl)

theorem head_apply (q : FVec Ideal S128x512 .f32) (h : ℕ) (hh : h < 8) (k v : Vec Ideal S1x128x64 .f32) (r : Fin 128) (d : Fin 64) :
    head q ![0, 64 * h] (head_slices h hh) k v (ix2 r d)
      = Ideal.div (∑ j : Fin 128, Ideal.exp2 (∑ e : Fin 64, q (ix2 r ⟨64 * h + e.val, by omega⟩) * k (ix3 0 j e)) * v (ix3 0 j d))
          (∑ j : Fin 128, Ideal.exp2 (∑ e : Fin 64, q (ix2 r ⟨64 * h + e.val, by omega⟩) * k (ix3 0 j e))) := by
  pointwise [head]
  rfl

/-- The first eight tiles are the heads of the first row, -/
theorem tile_first (W : Work Ideal) (n : ℕ) (hn : n < 8) :
    tile W n = head (k0_pay1 W.xr W.wq) ![0, 64 * n] (head_slices n hn) (kt W.K W.a n) (kt W.V W.a n) := by
  interval_cases n <;> rfl

/-- and the last eight those of the second. -/
theorem tile_second (W : Work Ideal) (n : ℕ) (hn : n < 8) :
    tile W (8 + n) = head (k0_pay1 W.xl W.wq) ![0, 64 * n] (head_slices n hn) (kt W.K W.b n) (kt W.V W.b n) := by
  interval_cases n <;> rfl

/-- Column `e` of the head that column `j` lies in. -/
def mate (j : Fin 512) (e : Fin 64) : Fin 512 := ⟨64 * (j.val / 64) + e.val, by omega⟩

/-- One head at an element, over the rows and columns of the arrays. -/
theorem head_attn (x : Vec Ideal S1x1x128x512 .bf16) (w : Vec Ideal S512x512 .f32) (K V : Vec Ideal S16x128x512 .f32) (a : ℕ) (ha : a < 16)
    (r : Fin 128) (j : Fin 512) :
    head (k0_pay1 x w) ![0, 64 * (j.val / 64)] (head_slices (j.val / 64) (by omega)) (kt K a (j.val / 64)) (kt V a (j.val / 64))
        (ix2 r ⟨j.val % 64, Nat.mod_lt _ (by decide)⟩)
      = attn (fun k => x (ix4 0 0 r k)) (fun k e => w (ix2 k (mate j e))) (fun i e => K (ix3 ⟨a, ha⟩ i (mate j e)))
          (fun i => V (ix3 ⟨a, ha⟩ i j)) := by
  have hk : ∀ i e, kt K a (j.val / 64) (ix3 0 i e) = K (ix3 ⟨a, ha⟩ i (mate j e)) := fun i e => by
    have e₁ : (⟨a % 16, Nat.mod_lt _ (by decide)⟩ : Fin 16) = ⟨a, ha⟩ := Fin.ext (Nat.mod_eq_of_lt ha)
    have e₂ : (⟨(64 * (j.val / 64) + e.val) % 512, Nat.mod_lt _ (by decide)⟩ : Fin 512) = mate j e :=
      Fin.ext (Nat.mod_eq_of_lt (mate j e).isLt)
    rw [← e₁, ← e₂]
    rfl
  have hv : ∀ i, kt V a (j.val / 64) (ix3 0 i ⟨j.val % 64, Nat.mod_lt _ (by decide)⟩) = V (ix3 ⟨a, ha⟩ i j) := fun i => by
    have e₁ : (⟨a % 16, Nat.mod_lt _ (by decide)⟩ : Fin 16) = ⟨a, ha⟩ := Fin.ext (Nat.mod_eq_of_lt ha)
    have e₂ : (⟨(64 * (j.val / 64) + j.val % 64) % 512, Nat.mod_lt _ (by decide)⟩ : Fin 512) = j := Fin.ext (by show _ % _ = _; omega)
    refine Eq.trans ?_ (congrArg V (congrArg₂ (fun p q => ix3 p i q) e₁ e₂))
    rfl
  rw [head_apply _ _ (by omega)]
  simp only [hk, hv, queries_apply]
  rfl

/-- The scratch buffer with all tiles in it, in the first row's half -/
theorem tiles_first (W : Work Ideal) (ha : W.a < 16) (r : Fin 128) (j : Fin 512) :
    tiles W (ix2 ⟨r.val, by omega⟩ j)
      = attn (fun k => W.xr (ix4 0 0 r k)) (fun k e => W.wq (ix2 k (mate j e))) (fun i e => W.K (ix3 ⟨W.a, ha⟩ i (mate j e)))
          (fun i => W.V (ix3 ⟨W.a, ha⟩ i j)) := by
  rw [← head_attn, ← tile_first W (j.val / 64) (by omega)]
  unfold tiles
  have e : tix (ix2 (⟨r.val, by omega⟩ : Fin 256) j) = j.val / 64 := by show 8 * (r.val / 128) + j.val / 64 = _; omega
  rw [e]
  congr 1
  show ix2 _ _ = _
  congr 1
  exact Fin.ext (by show r.val % 128 = _; omega)

/-- and in the second's. -/
theorem tiles_second (W : Work Ideal) (hb : W.b < 16) (r : Fin 128) (j : Fin 512) :
    tiles W (ix2 ⟨128 + r.val, by omega⟩ j)
      = attn (fun k => W.xl (ix4 0 0 r k)) (fun k e => W.wq (ix2 k (mate j e))) (fun i e => W.K (ix3 ⟨W.b, hb⟩ i (mate j e)))
          (fun i => W.V (ix3 ⟨W.b, hb⟩ i j)) := by
  rw [← head_attn, ← tile_second W (j.val / 64) (by omega)]
  unfold tiles
  have e : tix (ix2 (⟨128 + r.val, by omega⟩ : Fin 256) j) = 8 + j.val / 64 := by show 8 * ((128 + r.val) / 128) + j.val / 64 = _; omega
  rw [e]
  congr 1
  show ix2 _ _ = _
  congr 1
  exact Fin.ext (by show (128 + r.val) % 128 = _; omega)

namespace Env

variable (E : Env Ideal)

/-- The batch row that is row `a` of device `o`. -/
def bat (o : Dev nD) (a : Fin 2) : Fin 16 := ⟨2 * o.val + a.val, by have := lt8 o; omega⟩

/-- What device `d` adds to row `a` of device `o`: its eight heads' attention, multiplied with its rows of the output weights. -/
def part (d o : Dev nD) (a : Fin 2) (r : Fin 128) (n : Fin 512) : EReal :=
  ∑ j : Fin 512, attn (fun k => E.x o (ix3 a r k)) (fun k e => E.wq d (ix2 k (mate j e))) (fun i e => E.K d (ix3 (bat o a) i (mate j e)))
    (fun i => E.V d (ix3 (bat o a) i j)) * E.wo d (ix2 j n)

theorem xR_apply (o : Dev nD) (r : Fin 128) (k : Fin 512) : E.xR o (ix4 0 0 r k) = E.x o (ix3 0 r k) := by
  unfold xR
  pointwise [k0_pay35, rowOf]
  rfl

theorem xL_apply (o : Dev nD) (r : Fin 128) (k : Fin 512) : E.xL o (ix4 0 0 r k) = E.x o (ix3 1 r k) := by
  unfold xL
  pointwise [k0_pay37, k0_pay36, rowOf]
  rfl

theorem stR_apply (d : Dev nD) (t : ℕ) (v : Vec Ideal S1x1x128x512 .bf16) (r : Fin 128) (n : Fin 512) :
    E.data.stR d t v (in4 r n) = E.part d (back d t) 0 r n + v (in4 r n) := by
  show k0_pay34 (tiles (E.work d t)) (E.wo d) v (ix4 0 0 r n) = _ + v (ix4 0 0 r n)
  pointwise [k0_pay34, k0_pay32]
  congr 1
  refine Finset.sum_congr rfl fun j _ => ?_
  congr 1
  rw [tiles_first (E.work d t) (by show 2 * ((d.val + 8 - t) % 8) < 16; omega)]
  show attn (fun k => E.xR (back d t) (ix4 0 0 r k)) _ _ _ = _
  simp only [xR_apply]
  rfl

theorem stL_apply (d : Dev nD) (t : ℕ) (v : Vec Ideal S1x1x128x512 .bf16) (r : Fin 128) (n : Fin 512) :
    E.data.stL d t v (in4 r n) = E.part d (fwd d t) 1 r n + v (in4 r n) := by
  show k0_pay40 (k0_pay33 (tiles (E.work d t)) (E.wo d)) v (ix4 0 0 r n) = _ + v (ix4 0 0 r n)
  pointwise [k0_pay40, k0_pay33, k0_pay32]
  congr 1
  refine Finset.sum_congr rfl fun j _ => ?_
  congr 1
  rw [tiles_second (E.work d t) (by show 2 * ((d.val + t) % 8) + 1 < 16; omega)]
  show attn (fun k => E.xL (fwd d t) (ix4 0 0 r k)) _ _ _ = _
  simp only [xL_apply]
  rfl

theorem left_fwd (o : Dev nD) (j : ℕ) : left (fwd o (j + 1)) = fwd o j := Fin.ext (by have := lt8 o; simp only [left, fwd]; omega)
theorem right_back (o : Dev nD) (j : ℕ) (hj : j < 8) : right (back o (j + 1)) = back o j :=
  Fin.ext (by have := lt8 o; simp only [right, back]; omega)
theorem back_fwd (o : Dev nD) (j : ℕ) (hj : j < 8) : back (fwd o j) j = o := Fin.ext (by have := lt8 o; simp only [back, fwd]; omega)
theorem fwd_back (o : Dev nD) (j : ℕ) (hj : j < 8) : fwd (back o j) j = o := Fin.ext (by have := lt8 o; simp only [back, fwd]; omega)

/-- The sum for the first row of device `o` as it leaves the device `j` places after `o`. -/
theorem outR_apply (o : Dev nD) (r : Fin 128) (n : Fin 512) (j : ℕ) (hj : j < 8) :
    E.data.outR j (fwd o j) (in4 r n) = ∑ t ∈ Finset.range (j + 1), E.part (fwd o t) o 0 r n := by
  induction j with
  | zero =>
    show E.data.stR (fwd o 0) 0 E.data.zR (in4 r n) = _
    rw [stR_apply, back_fwd o 0 hj, Finset.sum_range_one]
    show _ + k0_pay38 (F := Ideal) (ix4 0 0 r n) = _
    have e : k0_pay38 (F := Ideal) (ix4 0 0 r n) = 0 := by pointwise [k0_pay38]
    rw [e, add_zero]
  | succ j ih =>
    show E.data.stR (fwd o (j + 1)) (j + 1) (E.data.outR j (left (fwd o (j + 1)))) (in4 r n) = _
    rw [stR_apply, left_fwd, ih (by omega), back_fwd o (j + 1) hj, Finset.sum_range_succ _ (j + 1), add_comm]

/-- The sum for the second row of device `o` as it leaves the device `j` places before `o`. -/
theorem outL_apply (o : Dev nD) (r : Fin 128) (n : Fin 512) (j : ℕ) (hj : j < 8) :
    E.data.outL j (back o j) (in4 r n) = ∑ t ∈ Finset.range (j + 1), E.part (back o t) o 1 r n := by
  induction j with
  | zero =>
    show E.data.stL (back o 0) 0 E.data.zL (in4 r n) = _
    rw [stL_apply, fwd_back o 0 hj, Finset.sum_range_one]
    show _ + k0_pay39 (F := Ideal) (ix4 0 0 r n) = _
    have e : k0_pay39 (F := Ideal) (ix4 0 0 r n) = 0 := by pointwise [k0_pay39]
    rw [e, add_zero]
  | succ j ih =>
    show E.data.stL (back o (j + 1)) (j + 1) (E.data.outL j (right (back o (j + 1)))) (in4 r n) = _
    rw [stL_apply, right_back o j (by omega), ih (by omega), fwd_back o (j + 1) hj, Finset.sum_range_succ _ (j + 1), add_comm]

/-- Once round the ring is every device. -/
theorem sum_round (p : ℕ → Dev nD) (hp : ∀ s t, s < 8 → t < 8 → p s = p t → s = t) (f : Dev nD → EReal) :
    ∑ t ∈ Finset.range 8, f (p t) = ∑ d, f d := by
  rw [Finset.sum_range]
  have hi : Function.Injective (fun t : Fin 8 => p t.val) := fun s t h => Fin.ext (hp _ _ s.isLt t.isLt h)
  exact Fintype.sum_bijective _ (Finite.injective_iff_bijective.mp hi) _ _ fun _ => rfl

/-- A device's result is the sum of what every device adds to its two rows. -/
theorem out_apply (o : Dev nD) (a : Fin 2) (r : Fin 128) (n : Fin 512) : E.out o (ix3 a r n) = ∑ d, E.part d o a r n := by
  have ho := lt8 o
  fin_cases a
  · show k0_pay41 (E.data.FR o) (ix3 0 r n) = _
    pointwise [k0_pay41]
    show E.data.outR 7 (left o) (in4 r n) = _
    rw [show left o = fwd o 7 from rfl, outR_apply E o r n 7 (by omega)]
    exact sum_round (fwd o) (fun s t _ _ h => by have := congrArg Fin.val h; simp only [fwd] at this; omega) (fun d => E.part d o 0 r n)
  · show k0_pay42 (E.data.FL o) (ix3 0 r n) = _
    pointwise [k0_pay42]
    show E.data.outL 7 (right o) (in4 r n) = _
    rw [show right o = back o 7 from Fin.ext (by simp only [right, back]; omega), outL_apply E o r n 7 (by omega)]
    exact sum_round (back o) (fun s t _ _ h => by have := congrArg Fin.val h; simp only [back] at this; omega) (fun d => E.part d o 1 r n)

end Env

end Cert.KernelIdeal.Ring

end
-- ==== Proof.Cache.lean ====
module

public import proofs.«01_k».proof.Proof.Region
public import Idealize.ShloMosaic.Lib.StableHlo.ReadAt
public import Idealize.ShloMosaic.Lib.Pointwise

@[expose] public section

/-! What the kernel reads, element by element of the arguments: a device's keys and values are its eight heads'. -/

noncomputable section

namespace Cert.KernelIdeal.Ring

open Idealize.ShloMosaic Idealize.ShloMosaic.TcCoe Gen

/-- The eight heads of device `c`, cut out of all heads. -/
theorem heads_cut (x : Vec Ideal S16x128x64x64 .f32) (start : Fin 4 → ℤ) (c : Dev nD) (h0 : start 0 = 0) (h1 : start 1 = 0)
    (h2 : start 2 = ((8 * c.val : ℕ) : ℤ)) (h3 : start 3 = 0) (b : Fin 16) (i : Fin 128) (j : Fin 512) :
    shapeCast S16x128x512 (Host.dynamicSlice S16x128x8x64 x start sliceFits_S16x128x64x64_S16x128x8x64) shapeCasts_S16x128x8x64_S16x128x512 (ix3 b i j)
      = x (ix4 b i ⟨8 * c.val + j.val / 64, by have := lt8 c; omega⟩ ⟨j.val % 64, by omega⟩) := by
  have hc := lt8 c
  have hr : S16x128x8x64.rank = S16x128x64x64.rank := rfl
  have e0 : Host.clampedStart S16x128x64x64 S16x128x8x64 hr start 0 = 0 := Host.clampedStart_of_le hr start 0 0 h0 (by show 0 + 16 ≤ 16; omega)
  have e1 : Host.clampedStart S16x128x64x64 S16x128x8x64 hr start 1 = 0 := Host.clampedStart_of_le hr start 1 0 h1 (by show 0 + 128 ≤ 128; omega)
  have e2 : Host.clampedStart S16x128x64x64 S16x128x8x64 hr start 2 = 8 * c.val :=
    Host.clampedStart_of_le hr start 2 (8 * c.val) h2 (by show 8 * c.val + 8 ≤ 64; omega)
  have e3 : Host.clampedStart S16x128x64x64 S16x128x8x64 hr start 3 = 0 := Host.clampedStart_of_le hr start 3 0 h3 (by show 0 + 64 ≤ 64; omega)
  pointwise
  simp only [e0, e1, e2, e3, zero_add]

variable (m : (ℓ : Loc nD τ sig) → Buf (Elt Ideal) ℓ)

/-- The word a device starts its cut at. -/
theorem first_head (c : Dev nD) : (BitVec.ofNat 32 (8 * c.val)).toInt = ((8 * c.val : ℕ) : ℤ) := by
  fin_cases c <;> decide

theorem keys_apply (c : Dev nD) (b : Fin 16) (i : Fin 128) (j : Fin 512) :
    (env m).K c (ix3 b i j)
      = (m (c, main_arg2) : Vec Ideal S16x128x64x64 .f32) (ix4 b i ⟨8 * c.val + j.val / 64, by have := lt8 c; omega⟩ ⟨j.val % 64, by omega⟩) := by
  show (StableHlo.after (hostOps0 c) (V0 m c) main_v15 : Vec Ideal S16x128x512 .f32) (ix3 b i j) = _
  after_reads_simp
  refine heads_cut (m (c, main_arg2)) _ c ?_ ?_ ?_ ?_ b i j
  · show BitVec.toInt ((StableHlo.upto (hostOps0 c) (V0 m c) 16 main_c_4 : IVec S_ 32) (Shape.Idx.first h_S_)) = 0
    after_reads_at
    rfl
  · show BitVec.toInt ((StableHlo.upto (hostOps0 c) (V0 m c) 16 main_c_5 : IVec S_ 32) (Shape.Idx.first h_S_)) = 0
    after_reads_at
    rfl
  · show BitVec.toInt ((StableHlo.upto (hostOps0 c) (V0 m c) 16 main_v8 : IVec S_ 32) (Shape.Idx.first h_S_)) = _
    rw [← first_head]
    congr 1
    after_reads_at
    fin_cases c <;> decide
  · show BitVec.toInt ((StableHlo.upto (hostOps0 c) (V0 m c) 16 main_c_6 : IVec S_ 32) (Shape.Idx.first h_S_)) = 0
    after_reads_at
    rfl

theorem values_apply (c : Dev nD) (b : Fin 16) (i : Fin 128) (j : Fin 512) :
    (env m).V c (ix3 b i j)
      = (m (c, main_arg3) : Vec Ideal S16x128x64x64 .f32) (ix4 b i ⟨8 * c.val + j.val / 64, by have := lt8 c; omega⟩ ⟨j.val % 64, by omega⟩) := by
  show (StableHlo.after (hostOps0 c) (V0 m c) main_v16 : Vec Ideal S16x128x512 .f32) (ix3 b i j) = _
  after_reads_simp
  refine heads_cut (m (c, main_arg3)) _ c ?_ ?_ ?_ ?_ b i j
  · show BitVec.toInt ((StableHlo.upto (hostOps0 c) (V0 m c) 27 main_c_10 : IVec S_ 32) (Shape.Idx.first h_S_)) = 0
    after_reads_at
    rfl
  · show BitVec.toInt ((StableHlo.upto (hostOps0 c) (V0 m c) 27 main_c_11 : IVec S_ 32) (Shape.Idx.first h_S_)) = 0
    after_reads_at
    rfl
  · show BitVec.toInt ((StableHlo.upto (hostOps0 c) (V0 m c) 27 main_v13 : IVec S_ 32) (Shape.Idx.first h_S_)) = _
    rw [← first_head]
    congr 1
    after_reads_at
    fin_cases c <;> decide
  · show BitVec.toInt ((StableHlo.upto (hostOps0 c) (V0 m c) 27 main_c_12 : IVec S_ 32) (Shape.Idx.first h_S_)) = 0
    after_reads_at
    rfl

theorem env_x (c : Dev nD) : (env m).x c = m (c, main_arg0) := V1_of m c main_arg0 (by decide)
theorem env_wq (c : Dev nD) : (env m).wq c = m (c, main_arg1) := V1_of m c main_arg1 (by decide)
theorem env_wo (c : Dev nD) : (env m).wo c = m (c, main_arg4) := V1_of m c main_arg4 (by decide)

end Cert.KernelIdeal.Ring

end
-- ==== Proof.RefVal.lean ====
module

public import proofs.«01_k».proof.Proof.Reference
public import proofs.«01_k».proof.Proof.Soft

@[expose] public section

/-! The reference's result, element by element. -/

noncomputable section

namespace Cert.ReferenceIdeal.Plain

open Idealize.ShloMosaic Cert.Attn
open Cert.ReferenceIdeal Cert.ReferenceIdeal.Facts₀

theorem query_apply (x : FVec Ideal S16x128x512 .f32) (wq : FVec Ideal S512x4096 .f32) (b : Fin 16) (i : Fin 128) (h d : Fin 64) :
    query x wq (ix4 b i h d) = ∑ k : Fin 512, x (ix3 b i k) * wq (ix2 k ⟨h.val * 64 + d.val, by omega⟩) := by
  pointwise [query]

theorem scores_apply (q k : FVec Ideal S16x128x64x64 .f32) (b : Fin 16) (i j : Fin 128) (h : Fin 64) :
    scores q k (ix4 b h i j) = (∑ d : Fin 64, q (ix4 b i h d) * k (ix4 b j h d)) * ((1 / 8 : ℝ) : EReal) := by
  pointwise [scores]
  congr 1
  simp [Ideal.ofBits, Ideal.ieee, -EReal.coe_mul]
  norm_num

/-- The largest of a row, from a first value. -/
theorem largest_apply (s : FVec Ideal S16x64x128x128 .f32) (z : FVec Ideal S_ .f32) (b : Fin 16) (i : Fin 128) (h : Fin 64) :
    Host.reduce FloatOps.maximumf s z reducesTo_S16x64x128x128_S16x64x128_d3 h_S_ (ix3 b h i)
      = Finset.fold FloatOps.maximumf (z (Shape.Idx.first h_S_)) (fun j => s (ix4 b h i j)) Finset.univ :=
  (Host.reduce_eq_fold (FloatOps.maximumf (F := Ideal) (φ := .f32)) s z reducesTo_S16x64x128x128_S16x64x128_d3 h_S_ (ix3 b h i)).trans
    (Shape.ReducesTo.fold_fiber_r4_a3 (n0 := 16) (n1 := 64) (n2 := 128) (n3 := 128) reducesTo_S16x64x128x128_S16x64x128_d3 (ix3 b h i)
      (FloatOps.maximumf (F := Ideal) (φ := .f32)) (z (Shape.Idx.first h_S_)) s)

theorem low_eq : Ideal.ofBits .f32 0xFF800000#32 = ⊥ := by
  simp [Ideal.ofBits, Ideal.ieee]

theorem above_low (r : FVec Ideal S16x64x128 .f32) (b : Fin 16) (i : Fin 128) (h : Fin 64) :
    maximumf low (broadcastInDim S16x64x128x1 ![0, 1, 2] bcast_S16x64x128_S16x64x128x1_0_1_2 r) (ix4 b h i 0) = max ⊥ (r (ix3 b h i)) := by
  pointwise [low]
  rw [low_eq]

theorem top_apply (s : FVec Ideal S16x64x128x128 .f32) (b : Fin 16) (i : Fin 128) (h : Fin 64) :
    top s (ix4 b h i 0) = max ⊥ (Finset.fold max ⊥ (fun j => s (ix4 b h i j)) Finset.univ) := by
  unfold top
  rw [above_low, largest_apply]
  show max ⊥ (Finset.fold max (Ideal.ofBits .f32 0xFF800000#32) _ _) = _
  rw [low_eq]

theorem heads_apply (s : FVec Ideal S16x64x128x128 .f32) (v : FVec Ideal S16x128x64x64 .f32) (b : Fin 16) (i : Fin 128) (h d : Fin 64) :
    heads s v (ix4 b i h d)
      = Ideal.div (0 * scale (top s) (ix4 b h i 0) + ∑ j : Fin 128, v (ix4 b j h d) * Ideal.exp (s (ix4 b h i j) - top s (ix4 b h i 0)))
          (0 * scale (top s) (ix4 b h i 0) + ∑ j : Fin 128, Ideal.exp (s (ix4 b h i j) - top s (ix4 b h i 0))) := by
  pointwise [heads, weighted, total, weights]

/-- The reference's result at an element, when the scores are made of reals. -/
theorem result_apply (x : FVec Ideal S16x128x512 .f32) (wq : FVec Ideal S512x4096 .f32) (k v : FVec Ideal S16x128x64x64 .f32)
    (wo : FVec Ideal S4096x512 .f32) (hx : ∀ i, Finite (x i)) (hwq : ∀ i, Finite (wq i)) (hk : ∀ i, Finite (k i))
    (b : Fin 16) (i : Fin 128) (n : Fin 512) :
    result x wq k v wo (ix3 b i n)
      = ∑ J : Fin 4096, attn (fun c => x (ix3 b i c)) (fun c e => wq (ix2 c ⟨J.val / 64 * 64 + e.val, by omega⟩))
          (fun j e => k (ix4 b j ⟨J.val / 64, by omega⟩ e)) (fun j => v (ix4 b j ⟨J.val / 64, by omega⟩ ⟨J.val % 64, by omega⟩))
          * wo (ix2 J n) := by
  pointwise [result]
  refine Finset.sum_congr rfl fun J _ => ?_
  congr 1
  rw [heads_apply]
  have hs : ∀ j, scores (query x wq) k (ix4 b ⟨J.val / 64, by omega⟩ i j)
      = score (fun c => x (ix3 b i c)) (fun c e => wq (ix2 c ⟨J.val / 64 * 64 + e.val, by omega⟩)) (fun e => k (ix4 b j ⟨J.val / 64, by omega⟩ e)) :=
    fun j => by rw [scores_apply]; simp only [query_apply]; rfl
  simp only [top_apply, hs]
  exact attn_eq _ _ _ _ (fun _ => hx _) (fun _ _ => hwq _) (fun _ _ => hk _) _ _ _ rfl

end Cert.ReferenceIdeal.Plain

end
-- ==== Proof.Agree.lean ====
module

public import proofs.«01_k».proof.Proof.Head
public import proofs.«01_k».proof.Proof.Cache
public import proofs.«01_k».proof.Proof.RefVal
public import proofs.«01_k».proof.Proof.Launch
public import proofs.«01_k».proof.Defs
public import Idealize.ShloMosaic.Lib.ReduceAll
public import Idealize.ShloMosaic.Lib.Layout

@[expose] public section

/-! The kernel's result is the reference's: both are one sum, over the eight devices' heads, of the attention of each. -/

noncomputable section

namespace Cert.Agree

open Idealize.ShloMosaic Idealize.ShloMosaic.TcCoe Cert.Attn Cert.KernelIdeal
open Cert.KernelIdeal.Ring (lt8)

/-! ## The precondition -/

instance preFacts : Cert.Pre_finite_scores_KernelIdeal.Facts := by constructor <;> decide
instance preFacts' : Cert.Pre_finite_scores_ReferenceIdeal.Facts := by constructor <;> decide

/-- An element whose absolute value lies below infinity is a real. -/
theorem finite_of_lt (s : Shape) (x : FVec Ideal s .f32) (h : (⟨0, ![]⟩ : Shape).BroadcastsInDim s (![] : Fin 0 → Fin s.rank)) (i : s.Idx)
    (hi : cmpf .olt (Host.absf x) (broadcastInDim s ![] h (constant ⟨0, ![]⟩ .f32 0x7F800000#32)) i = 1#1) : Finite (x i) := by
  have ht : Ideal.ofBits .f32 0x7F800000#32 = ⊤ := by simp [Ideal.ofBits, Ideal.ieee]
  pointwise at hi
  rw [ht] at hi
  have hl : max (x i) (-(x i)) < ⊤ := by
    by_contra hn
    have e : decide (FloatOps.absf (x i) < (⊤ : EReal)) = false := decide_eq_false hn
    rw [e] at hi
    exact absurd hi (by decide)
  refine ⟨(x i).toReal, (EReal.coe_toReal (ne_of_lt (lt_of_le_of_lt (le_max_left _ _) hl)) fun hb => ?_).symm⟩
  rw [hb] at hl
  simp at hl

theorem finite_of_pre {x : FVec Ideal S2x128x512 .f32} {wq : FVec Ideal S512x512 .f32} {k v : FVec Ideal S16x128x64x64 .f32}
    {wo : FVec Ideal S512x512 .f32} (h : Cert.Pre_finite_scores_KernelIdeal.fn (F := Ideal) x wq k v wo = fun _ => 1#1) :
    (∀ i, Finite (x i)) ∧ (∀ i, Finite (wq i)) ∧ ∀ i, Finite (k i) := by
  haveI : Subsingleton (⟨0, ![]⟩ : Shape).Idx := ⟨fun a b => funext fun d => d.elim0⟩
  have h0 := congrFun h (Shape.Idx.first (by decide))
  obtain ⟨h1, h2⟩ := IntOp.andi_eq_one.1 h0
  obtain ⟨h3, h4⟩ := IntOp.andi_eq_one.1 h1
  exact ⟨fun i => finite_of_lt _ _ _ _ (Host.reduce_andi_all _ _ _ _ _ h3 i), fun i => finite_of_lt _ _ _ _ (Host.reduce_andi_all _ _ _ _ _ h4 i),
    fun i => finite_of_lt _ _ _ _ (Host.reduce_andi_all _ _ _ _ _ h2 i)⟩

/-! ## The blocks -/

/-- Where an element of a device's block lies in the whole array: three axes, the first cut, -/
theorem rows3 {α : Type} (X : (⟨3, ![16, 128, 512]⟩ : Shape).Idx → α) (c : Fin 8) (a : Fin 2) (r : Fin 128) (n : Fin 512) :
    Layout.block ⟨3, ![2, 128, 512]⟩ ⟨3, ![16, 128, 512]⟩ 0 8 c X (by decide) (ix3 a r n) = X (ix3 ⟨2 * c.val + a.val, by omega⟩ r n) := by
  rw [Layout.block_apply]
  congr 1
  funext d
  apply Fin.ext
  rw [Layout.Tiles.idx_val]
  fin_cases d
  · show c.val * 2 + a.val = 2 * c.val + a.val; omega
  · rfl
  · rfl

/-- two axes, the columns cut, -/
theorem cols2 {α : Type} (X : (⟨2, ![512, 4096]⟩ : Shape).Idx → α) (c : Fin 8) (k j : Fin 512) :
    Layout.block ⟨2, ![512, 512]⟩ ⟨2, ![512, 4096]⟩ 1 8 c X (by decide) (ix2 k j) = X (ix2 k ⟨512 * c.val + j.val, by omega⟩) := by
  rw [Layout.block_apply]
  congr 1
  funext d
  apply Fin.ext
  rw [Layout.Tiles.idx_val]
  fin_cases d
  · rfl
  · show c.val * 512 + j.val = 512 * c.val + j.val; omega

/-- two axes, the rows cut. -/
theorem rows2 {α : Type} (X : (⟨2, ![4096, 512]⟩ : Shape).Idx → α) (c : Fin 8) (j n : Fin 512) :
    Layout.block ⟨2, ![512, 512]⟩ ⟨2, ![4096, 512]⟩ 0 8 c X (by decide) (ix2 j n) = X (ix2 ⟨512 * c.val + j.val, by omega⟩ n) := by
  rw [Layout.block_apply]
  congr 1
  funext d
  apply Fin.ext
  rw [Layout.Tiles.idx_val]
  fin_cases d
  · show c.val * 512 + j.val = 512 * c.val + j.val; omega
  · rfl

/-! ## The results -/

/-- A sum over all columns, device by device. -/
theorem sum_devices (f : Fin 4096 → EReal) : ∑ J, f J = ∑ d : Fin 8, ∑ j : Fin 512, f ⟨512 * d.val + j.val, by omega⟩ := by
  rw [← Fintype.sum_prod_type' (f := fun (d : Fin 8) (j : Fin 512) => f ⟨512 * d.val + j.val, by omega⟩)]
  refine (Fintype.sum_equiv (finProdFinEquiv (m := 8) (n := 512)) _ _ fun p => ?_).symm
  congr 1
  exact Fin.ext (by show 512 * p.1.val + p.2.val = p.2.val + 512 * p.1.val; omega)

variable (m : (ℓ : Loc nD τ sig) → Buf (Elt Ideal) ℓ)

/-- The kernel's result on a device is its block of the reference's. -/
theorem out_eq (X : FVec Ideal ⟨3, ![16, 128, 512]⟩ .f32) (WQ : FVec Ideal ⟨2, ![512, 4096]⟩ .f32) (K V : FVec Ideal ⟨4, ![16, 128, 64, 64]⟩ .f32)
    (WO : FVec Ideal ⟨2, ![4096, 512]⟩ .f32)
    (hX : ∀ c : Dev nD, m (c, main_arg0) = Layout.block ⟨3, ![2, 128, 512]⟩ ⟨3, ![16, 128, 512]⟩ 0 8 c X)
    (hWQ : ∀ c : Dev nD, m (c, main_arg1) = Layout.block ⟨2, ![512, 512]⟩ ⟨2, ![512, 4096]⟩ 1 8 c WQ)
    (hK : ∀ c : Dev nD, m (c, main_arg2) = K) (hV : ∀ c : Dev nD, m (c, main_arg3) = V)
    (hWO : ∀ c : Dev nD, m (c, main_arg4) = Layout.block ⟨2, ![512, 512]⟩ ⟨2, ![4096, 512]⟩ 0 8 c WO)
    (hpre : Cert.Pre_KernelIdeal_finite_scores_KernelIdeal m) (c : Dev nD) :
    (Ring.env m).out c = Layout.block ⟨3, ![2, 128, 512]⟩ ⟨3, ![16, 128, 512]⟩ 0 8 c (Cert.ReferenceIdeal.Plain.result X WQ K V WO) := by
  have fX : ∀ i, Finite (X i) := fun i => by
    obtain ⟨b, r, k, rfl⟩ : ∃ b r k, i = ix3 b r k := ⟨_, _, _, eq_ix3 i⟩
    have hb : b.val / 2 < 8 := by omega
    have h := (finite_of_pre (hpre (⟨b.val / 2, hb⟩ : Fin 8))).1 (ix3 ⟨b.val % 2, by omega⟩ r k)
    have e : m (((⟨b.val / 2, hb⟩ : Fin 8) : Dev nD), main_arg0) (ix3 ⟨b.val % 2, by omega⟩ r k) = _ :=
      (congrFun (hX (⟨b.val / 2, hb⟩ : Fin 8)) (ix3 ⟨b.val % 2, by omega⟩ r k)).trans (rows3 X (⟨b.val / 2, hb⟩ : Fin 8) _ r k)
    replace h := e ▸ h
    have eb : (⟨2 * (b.val / 2) + b.val % 2, by omega⟩ : Fin 16) = b := Fin.ext (by show 2 * (b.val / 2) + b.val % 2 = b.val; omega)
    rw [← eb]; exact h
  have fWQ : ∀ i, Finite (WQ i) := fun i => by
    obtain ⟨k, j, rfl⟩ : ∃ k j, i = ix2 k j := ⟨_, _, eq_ix2 i⟩
    have hj : j.val / 512 < 8 := by omega
    have h := (finite_of_pre (hpre (⟨j.val / 512, hj⟩ : Fin 8))).2.1 (ix2 k ⟨j.val % 512, by omega⟩)
    have e : m (((⟨j.val / 512, hj⟩ : Fin 8) : Dev nD), main_arg1) (ix2 k ⟨j.val % 512, by omega⟩) = _ :=
      (congrFun (hWQ (⟨j.val / 512, hj⟩ : Fin 8)) (ix2 k ⟨j.val % 512, by omega⟩)).trans (cols2 WQ (⟨j.val / 512, hj⟩ : Fin 8) k _)
    replace h := e ▸ h
    have ej : (⟨512 * (j.val / 512) + j.val % 512, by omega⟩ : Fin 4096) = j := Fin.ext (by show 512 * (j.val / 512) + j.val % 512 = j.val; omega)
    rw [← ej]; exact h
  have fK : ∀ i, Finite (K i) := fun i => by
    have h := (finite_of_pre (hpre 0)).2.2 i
    rwa [show m (((0 : Dev nD).tc : Thread nD τ).loc main_arg2) = K from hK 0] at h
  funext i
  obtain ⟨a, r, n, rfl⟩ : ∃ a r n, i = ix3 a r n := ⟨_, _, _, eq_ix3 i⟩
  rw [Ring.Env.out_apply, rows3, Cert.ReferenceIdeal.Plain.result_apply _ _ _ _ _ fX fWQ fK, sum_devices]
  refine Finset.sum_congr rfl fun d _ => ?_
  unfold Ring.Env.part
  refine Finset.sum_congr rfl fun j _ => ?_
  have hd := lt8 d
  have ex : ∀ k, (Ring.env m).x c (ix3 a r k) = X (ix3 (Ring.Env.bat c a) r k) := fun k => by
    rw [Ring.env_x, hX]; exact rows3 X c a r k
  have ewq : ∀ k e, (Ring.env m).wq d (ix2 k (Ring.mate j e)) = WQ (ix2 k ⟨(512 * d.val + j.val) / 64 * 64 + e.val, by omega⟩) := fun k e => by
    rw [Ring.env_wq, hWQ]
    refine (cols2 WQ d k _).trans (congrArg (fun q => WQ (ix2 k q)) (Fin.ext ?_))
    show 512 * d.val + (64 * (j.val / 64) + e.val) = (512 * d.val + j.val) / 64 * 64 + e.val
    omega
  have ek : ∀ i e, (Ring.env m).K d (ix3 (Ring.Env.bat c a) i (Ring.mate j e)) = K (ix4 (Ring.Env.bat c a) i ⟨(512 * d.val + j.val) / 64, by omega⟩ e) :=
    fun i e => by
      rw [Ring.keys_apply, hK]
      refine congrArg₂ (fun p q => K (ix4 (Ring.Env.bat c a) i p q)) (Fin.ext ?_) (Fin.ext ?_)
      · show 8 * d.val + (64 * (j.val / 64) + e.val) / 64 = (512 * d.val + j.val) / 64; omega
      · show (64 * (j.val / 64) + e.val) % 64 = e.val; omega
  have ev : ∀ i, (Ring.env m).V d (ix3 (Ring.Env.bat c a) i j)
      = V (ix4 (Ring.Env.bat c a) i ⟨(512 * d.val + j.val) / 64, by omega⟩ ⟨(512 * d.val + j.val) % 64, by omega⟩) := fun i => by
    rw [Ring.values_apply, hV]
    refine congrArg₂ (fun p q => V (ix4 (Ring.Env.bat c a) i p q)) (Fin.ext ?_) (Fin.ext ?_)
    · show 8 * d.val + j.val / 64 = (512 * d.val + j.val) / 64; omega
    · show j.val % 64 = (512 * d.val + j.val) % 64; omega
  have ewo : (Ring.env m).wo d (ix2 j n) = WO (ix2 ⟨512 * d.val + j.val, by omega⟩ n) := by
    rw [Ring.env_wo, hWO]; exact rows2 WO d j n
  simp only [ex, ewq, ek, ev, ewo]
  rfl

/-- The kernel's result is the reference's. -/
theorem algebraic : Cert.algebraic_KernelIdeal_ReferenceIdeal_pre_finite_scores_KernelIdeal := by
  intro m g m' g' hpre h
  refine ⟨_, Idealize.ShloMosaic.θ_run_mono (Ring.run_main (F := Ideal) m g) fun _ hr c => ⟨(hr.1 c).1.trans
      (out_eq m _ _ _ _ _ (fun c => (h c).1) (fun c => (h c).2.1) (fun c => (h c).2.2.1) (fun c => (h c).2.2.2.1) (fun c => (h c).2.2.2.2) hpre c),
      (hr.1 c).2⟩, Idealize.ShloMosaic.θ_run_mono (Cert.ReferenceIdeal.Plain.run m' g') fun _ hr => hr 0⟩

end Cert.Agree

end
-- ==== Proof.lean ====
/- The certificate's claims, put together. -/
module

public import proofs.«01_k».proof.Defs
public import proofs.«01_k».proof.Proof.Printed
public import proofs.«01_k».proof.Proof.Reference
public import proofs.«01_k».proof.Proof.Agree

@[expose] public section

namespace Cert.Proof

open Idealize.ShloMosaic Idealize.SL.Sem

/-- The idealized kernel runs, keeps its arguments and ends quiescent. -/
theorem frame : Cert.quiescent_KernelIdeal := fun m g _ =>
  Idealize.ShloMosaic.θ_run_mono (Cert.KernelIdeal.Ring.run_main (F := Ideal) m g) fun _ h => ⟨fun c => (h.1 c).2, h.2⟩

/-- The one constant the idealization names. -/
theorem preserves : Cert.preserves_Kernel_KernelIdeal :=
  IdealRules.named_const.statement Cert.KernelIdeal.κ "scale_log2e" .f32 0x3E38AA3B#32 (((1 / 8) * (Real.log 2)⁻¹ : ℝ) : EReal) rfl

theorem claim : Cert.Claim :=
  ⟨Cert.Kernel.Gen.facts, Cert.KernelIdeal.Gen.facts, Cert.ReferenceIdeal.Gen.facts, Cert.Agree.preFacts, Cert.Agree.preFacts',
    Cert.Printed.frame, frame, fun m g _ => frame m g trivial, Cert.ReferenceIdeal.Plain.frame,
    fun m g _ => Cert.ReferenceIdeal.Plain.frame m g trivial, preserves, Cert.Agree.algebraic⟩

end Cert.Proof
